-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_rows : Cert.Pre_idx_in_rows.Facts] (m : (ℓ : Loc Cert.Reference.nD Cert.Reference.τ Cert.Reference.sig) → Buf (Elt Bits) ℓ) : Prop :=
  ∀ c : Dev Cert.Reference.nD,
    (Cert.Pre_idx_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsIdeal_counts_fit [hPre_counts_fit : Cert.Pre_counts_fit.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_counts_fit.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_counts_fit [hPre_counts_fit : Cert.Pre_counts_fit.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_counts_fit.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3))) = (fun _ => 1#1)

def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainReferenceIdeal (m : (ℓ : Loc Cert.MainReferenceIdeal.nD Cert.MainReferenceIdeal.τ Cert.MainReferenceIdeal.sig) → Buf (Elt Ideal) ℓ) : Prop :=
  True

def Pre_Side (m : (ℓ : Loc Cert.Side.nD Cert.Side.τ Cert.Side.sig) → Buf (Elt Bits) ℓ) : Prop :=
  True

def Pre_SideIdeal (m : (ℓ : Loc Cert.SideIdeal.nD Cert.SideIdeal.τ Cert.SideIdeal.sig) → Buf (Elt Ideal) ℓ) : Prop :=
  True

def Pre_SideReferenceIdeal (m : (ℓ : Loc Cert.SideReferenceIdeal.nD Cert.SideReferenceIdeal.τ Cert.SideReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_ones_beside_values [hPre_ones_beside_values : Cert.Pre_ones_beside_values.Facts] (m : (ℓ : Loc Cert.AttendIdeal.nD Cert.AttendIdeal.τ Cert.AttendIdeal.sig) → Buf (Elt Ideal) ℓ) : Prop :=
  ∀ c : Dev Cert.AttendIdeal.nD,
    (Cert.Pre_ones_beside_values.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2))) = (fun _ => 1#1)

def Pre_AttendReferenceIdeal (m : (ℓ : Loc Cert.AttendReferenceIdeal.nD Cert.AttendReferenceIdeal.τ Cert.AttendReferenceIdeal.sig) → Buf (Elt Ideal) ℓ) : Prop :=
  True

def Pre_AttendReferenceIdeal_ones_beside_values [hPre_ones_beside_values : Cert.Pre_ones_beside_values.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_ones_beside_values.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_rows : Cert.Pre_idx_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsIdeal_pre_counts_fit [hExpertsIdeal : Cert.ExpertsIdeal.Facts] [hPre_counts_fit : Cert.Pre_counts_fit.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_counts_fit m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def quiescent_ExpertsReferenceIdeal_pre_counts_fit [hExpertsReferenceIdeal : Cert.ExpertsReferenceIdeal.Facts] [hPre_counts_fit : Cert.Pre_counts_fit.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_counts_fit m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1))
      ∧ r.2.sem = fun _ => 0)

def quiescent_MainReferenceIdeal [hMainReferenceIdeal : Cert.MainReferenceIdeal.Facts] : Prop :=
  ∀ (m : (ℓ : Loc Cert.MainReferenceIdeal.nD Cert.MainReferenceIdeal.τ Cert.MainReferenceIdeal.sig) → Buf (Elt Ideal) ℓ) (g : Dev Cert.MainReferenceIdeal.nD → PrngReg), Pre_MainReferenceIdeal m →
    θ_run (Cert.MainReferenceIdeal.defs (F := Ideal)) (onTc (τ := Cert.MainReferenceIdeal.τ) (Cert.MainReferenceIdeal.main (F := Ideal))) ⟨m, fun _ => 0, g⟩ (fun r => (∀ c : Dev Cert.MainReferenceIdeal.nD,
      r.2.mem ((c.tc : Thread Cert.MainReferenceIdeal.nD Cert.MainReferenceIdeal.τ).loc Cert.MainReferenceIdeal.main_arg0) = m ((c.tc : Thread Cert.MainReferenceIdeal.nD Cert.MainReferenceIdeal.τ).loc Cert.MainReferenceIdeal.main_arg0)
      ∧ r.2.mem ((c.tc : Thread Cert.MainReferenceIdeal.nD Cert.MainReferenceIdeal.τ).loc Cert.MainReferenceIdeal.main_arg1) = m ((c.tc : Thread Cert.MainReferenceIdeal.nD Cert.MainReferenceIdeal.τ).loc Cert.MainReferenceIdeal.main_arg1))
      ∧ r.2.sem = fun _ => 0)

def quiescent_Side [hSide : Cert.Side.Facts] : Prop :=
  ∀ (m : (ℓ : Loc Cert.Side.nD Cert.Side.τ Cert.Side.sig) → Buf (Elt Bits) ℓ) (g : Dev Cert.Side.nD → PrngReg), Pre_Side m →
    θ_run (Cert.Side.defs (F := Bits)) (onTc (τ := Cert.Side.τ) (Cert.Side.main (F := Bits))) ⟨m, fun _ => 0, g⟩ (fun r => (∀ c : Dev Cert.Side.nD,
      r.2.mem ((c.tc : Thread Cert.Side.nD Cert.Side.τ).loc Cert.Side.main_arg0) = m ((c.tc : Thread Cert.Side.nD Cert.Side.τ).loc Cert.Side.main_arg0)
      ∧ r.2.mem ((c.tc : Thread Cert.Side.nD Cert.Side.τ).loc Cert.Side.main_arg1) = m ((c.tc : Thread Cert.Side.nD Cert.Side.τ).loc Cert.Side.main_arg1))
      ∧ r.2.sem = fun _ => 0)

def quiescent_SideIdeal [hSideIdeal : Cert.SideIdeal.Facts] : Prop :=
  ∀ (m : (ℓ : Loc Cert.SideIdeal.nD Cert.SideIdeal.τ Cert.SideIdeal.sig) → Buf (Elt Ideal) ℓ) (g : Dev Cert.SideIdeal.nD → PrngReg), Pre_SideIdeal m →
    θ_run (Cert.SideIdeal.defs (F := Ideal)) (onTc (τ := Cert.SideIdeal.τ) (Cert.SideIdeal.main (F := Ideal))) ⟨m, fun _ => 0, g⟩ (fun r => (∀ c : Dev Cert.SideIdeal.nD,
      r.2.mem ((c.tc : Thread Cert.SideIdeal.nD Cert.SideIdeal.τ).loc Cert.SideIdeal.main_arg0) = m ((c.tc : Thread Cert.SideIdeal.nD Cert.SideIdeal.τ).loc Cert.SideIdeal.main_arg0)
      ∧ r.2.mem ((c.tc : Thread Cert.SideIdeal.nD Cert.SideIdeal.τ).loc Cert.SideIdeal.main_arg1) = m ((c.tc : Thread Cert.SideIdeal.nD Cert.SideIdeal.τ).loc Cert.SideIdeal.main_arg1))
      ∧ r.2.sem = fun _ => 0)

def quiescent_SideReferenceIdeal [hSideReferenceIdeal : Cert.SideReferenceIdeal.Facts] : Prop :=
  ∀ (m : (ℓ : Loc Cert.SideReferenceIdeal.nD Cert.SideReferenceIdeal.τ Cert.SideReferenceIdeal.sig) → Buf (Elt Ideal) ℓ) (g : Dev Cert.SideReferenceIdeal.nD → PrngReg), Pre_SideReferenceIdeal m →
    θ_run (Cert.SideReferenceIdeal.defs (F := Ideal)) (onTc (τ := Cert.SideReferenceIdeal.τ) (Cert.SideReferenceIdeal.main (F := Ideal))) ⟨m, fun _ => 0, g⟩ (fun r => (∀ c : Dev Cert.SideReferenceIdeal.nD,
      r.2.mem ((c.tc : Thread Cert.SideReferenceIdeal.nD Cert.SideReferenceIdeal.τ).loc Cert.SideReferenceIdeal.main_arg0) = m ((c.tc : Thread Cert.SideReferenceIdeal.nD Cert.SideReferenceIdeal.τ).loc Cert.SideReferenceIdeal.main_arg0)
      ∧ r.2.mem ((c.tc : Thread Cert.SideReferenceIdeal.nD Cert.SideReferenceIdeal.τ).loc Cert.SideReferenceIdeal.main_arg1) = m ((c.tc : Thread Cert.SideReferenceIdeal.nD Cert.SideReferenceIdeal.τ).loc Cert.SideReferenceIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6)
      ∧ r.2.mem ((c.tc : Thread Cert.CombineReferenceIdeal.nD Cert.CombineReferenceIdeal.τ).loc Cert.CombineReferenceIdeal.main_arg7) = m ((c.tc : Thread Cert.CombineReferenceIdeal.nD Cert.CombineReferenceIdeal.τ).loc Cert.CombineReferenceIdeal.main_arg7)
      ∧ r.2.mem ((c.tc : Thread Cert.CombineReferenceIdeal.nD Cert.CombineReferenceIdeal.τ).loc Cert.CombineReferenceIdeal.main_arg8) = m ((c.tc : Thread Cert.CombineReferenceIdeal.nD Cert.CombineReferenceIdeal.τ).loc Cert.CombineReferenceIdeal.main_arg8))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_AttendIdeal_pre_ones_beside_values [hAttendIdeal : Cert.AttendIdeal.Facts] [hPre_ones_beside_values : Cert.Pre_ones_beside_values.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_ones_beside_values m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2))
      ∧ r.2.sem = fun _ => 0)

def quiescent_AttendReferenceIdeal_pre_ones_beside_values [hAttendReferenceIdeal : Cert.AttendReferenceIdeal.Facts] [hPre_ones_beside_values : Cert.Pre_ones_beside_values.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal_ones_beside_values m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Experts_ExpertsIdeal : Prop :=
  True

def algebraic_ExpertsIdeal_ExpertsReferenceIdeal_pre_counts_fit [hExpertsIdeal : Cert.ExpertsIdeal.Facts] [hExpertsReferenceIdeal : Cert.ExpertsReferenceIdeal.Facts] [hPre_counts_fit : Cert.Pre_counts_fit.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal_counts_fit m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v46)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v46) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v49) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3))

def preserves_Main_MainIdeal : Prop :=
  True

def algebraic_MainIdeal_MainReferenceIdeal [hMainIdeal : Cert.MainIdeal.Facts] [hMainReferenceIdeal : Cert.MainReferenceIdeal.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainReferenceIdeal.nD Cert.MainReferenceIdeal.τ Cert.MainReferenceIdeal.sig) → Buf (Elt Ideal) ℓ) (g' : Dev Cert.MainReferenceIdeal.nD → PrngReg), Pre_MainIdeal m →
    (∀ c : Dev Cert.MainIdeal.nD,
      m' ((c.tc : Thread Cert.MainReferenceIdeal.nD Cert.MainReferenceIdeal.τ).loc Cert.MainReferenceIdeal.main_arg0) = m ((c.tc : Thread Cert.MainIdeal.nD Cert.MainIdeal.τ).loc Cert.MainIdeal.main_arg0)
      ∧ m' ((c.tc : Thread Cert.MainReferenceIdeal.nD Cert.MainReferenceIdeal.τ).loc Cert.MainReferenceIdeal.main_arg1) = m ((c.tc : Thread Cert.MainIdeal.nD Cert.MainIdeal.τ).loc Cert.MainIdeal.main_arg1)) →
    ∃ (v0 : (c : Dev Cert.MainIdeal.nD) → Buf (Elt Ideal) ((c.tc : Thread Cert.MainIdeal.nD Cert.MainIdeal.τ).loc Cert.MainIdeal.main_v0)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v0) = v0 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1))
      ∧ θ_run (Cert.MainReferenceIdeal.defs (F := Ideal)) (onTc (τ := Cert.MainReferenceIdeal.τ) (Cert.MainReferenceIdeal.main (F := Ideal))) ⟨m', fun _ => 0, g'⟩ (fun r => ∀ c : Dev Cert.MainReferenceIdeal.nD,
          r.2.mem ((c.tc : Thread Cert.MainReferenceIdeal.nD Cert.MainReferenceIdeal.τ).loc Cert.MainReferenceIdeal.main_v5) = v0 c
          ∧ r.2.mem ((c.tc : Thread Cert.MainReferenceIdeal.nD Cert.MainReferenceIdeal.τ).loc Cert.MainReferenceIdeal.main_arg0) = m' ((c.tc : Thread Cert.MainReferenceIdeal.nD Cert.MainReferenceIdeal.τ).loc Cert.MainReferenceIdeal.main_arg0)
          ∧ r.2.mem ((c.tc : Thread Cert.MainReferenceIdeal.nD Cert.MainReferenceIdeal.τ).loc Cert.MainReferenceIdeal.main_arg1) = m' ((c.tc : Thread Cert.MainReferenceIdeal.nD Cert.MainReferenceIdeal.τ).loc Cert.MainReferenceIdeal.main_arg1))

def preserves_Side_SideIdeal : Prop :=
  True

def algebraic_SideIdeal_SideReferenceIdeal [hSideIdeal : Cert.SideIdeal.Facts] [hSideReferenceIdeal : Cert.SideReferenceIdeal.Facts] : Prop :=
  ∀ (m : (ℓ : Loc Cert.SideIdeal.nD Cert.SideIdeal.τ Cert.SideIdeal.sig) → Buf (Elt Ideal) ℓ) (g : Dev Cert.SideIdeal.nD → PrngReg)
    (m' : (ℓ : Loc Cert.SideReferenceIdeal.nD Cert.SideReferenceIdeal.τ Cert.SideReferenceIdeal.sig) → Buf (Elt Ideal) ℓ) (g' : Dev Cert.SideReferenceIdeal.nD → PrngReg), Pre_SideIdeal m →
    (∀ c : Dev Cert.SideIdeal.nD,
      m' ((c.tc : Thread Cert.SideReferenceIdeal.nD Cert.SideReferenceIdeal.τ).loc Cert.SideReferenceIdeal.main_arg0) = m ((c.tc : Thread Cert.SideIdeal.nD Cert.SideIdeal.τ).loc Cert.SideIdeal.main_arg0)
      ∧ m' ((c.tc : Thread Cert.SideReferenceIdeal.nD Cert.SideReferenceIdeal.τ).loc Cert.SideReferenceIdeal.main_arg1) = m ((c.tc : Thread Cert.SideIdeal.nD Cert.SideIdeal.τ).loc Cert.SideIdeal.main_arg1)) →
    ∃ (v0 : (c : Dev Cert.SideIdeal.nD) → Buf (Elt Ideal) ((c.tc : Thread Cert.SideIdeal.nD Cert.SideIdeal.τ).loc Cert.SideIdeal.main_v0)),
      θ_run (Cert.SideIdeal.defs (F := Ideal)) (onTc (τ := Cert.SideIdeal.τ) (Cert.SideIdeal.main (F := Ideal))) ⟨m, fun _ => 0, g⟩ (fun r => ∀ c : Dev Cert.SideIdeal.nD,
          r.2.mem ((c.tc : Thread Cert.SideIdeal.nD Cert.SideIdeal.τ).loc Cert.SideIdeal.main_v0) = v0 c
          ∧ r.2.mem ((c.tc : Thread Cert.SideIdeal.nD Cert.SideIdeal.τ).loc Cert.SideIdeal.main_arg0) = m ((c.tc : Thread Cert.SideIdeal.nD Cert.SideIdeal.τ).loc Cert.SideIdeal.main_arg0)
          ∧ r.2.mem ((c.tc : Thread Cert.SideIdeal.nD Cert.SideIdeal.τ).loc Cert.SideIdeal.main_arg1) = m ((c.tc : Thread Cert.SideIdeal.nD Cert.SideIdeal.τ).loc Cert.SideIdeal.main_arg1))
      ∧ θ_run (Cert.SideReferenceIdeal.defs (F := Ideal)) (onTc (τ := Cert.SideReferenceIdeal.τ) (Cert.SideReferenceIdeal.main (F := Ideal))) ⟨m', fun _ => 0, g'⟩ (fun r => ∀ c : Dev Cert.SideReferenceIdeal.nD,
          r.2.mem ((c.tc : Thread Cert.SideReferenceIdeal.nD Cert.SideReferenceIdeal.τ).loc Cert.SideReferenceIdeal.main_v4) = v0 c
          ∧ r.2.mem ((c.tc : Thread Cert.SideReferenceIdeal.nD Cert.SideReferenceIdeal.τ).loc Cert.SideReferenceIdeal.main_arg0) = m' ((c.tc : Thread Cert.SideReferenceIdeal.nD Cert.SideReferenceIdeal.τ).loc Cert.SideReferenceIdeal.main_arg0)
          ∧ r.2.mem ((c.tc : Thread Cert.SideReferenceIdeal.nD Cert.SideReferenceIdeal.τ).loc Cert.SideReferenceIdeal.main_arg1) = m' ((c.tc : Thread Cert.SideReferenceIdeal.nD Cert.SideReferenceIdeal.τ).loc Cert.SideReferenceIdeal.main_arg1))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)
      ∧ m' ((c.tc : Thread Cert.CombineReferenceIdeal.nD Cert.CombineReferenceIdeal.τ).loc Cert.CombineReferenceIdeal.main_arg6) = m ((c.tc : Thread Cert.CombineIdeal.nD Cert.CombineIdeal.τ).loc Cert.CombineIdeal.main_arg6)
      ∧ m' ((c.tc : Thread Cert.CombineReferenceIdeal.nD Cert.CombineReferenceIdeal.τ).loc Cert.CombineReferenceIdeal.main_arg7) = m ((c.tc : Thread Cert.CombineIdeal.nD Cert.CombineIdeal.τ).loc Cert.CombineIdeal.main_arg7)
      ∧ m' ((c.tc : Thread Cert.CombineReferenceIdeal.nD Cert.CombineReferenceIdeal.τ).loc Cert.CombineReferenceIdeal.main_arg8) = m ((c.tc : Thread Cert.CombineIdeal.nD Cert.CombineIdeal.τ).loc Cert.CombineIdeal.main_arg8)) →
    ∃ (v0 : (c : Dev Cert.CombineIdeal.nD) → Buf (Elt Ideal) ((c.tc : Thread Cert.CombineIdeal.nD Cert.CombineIdeal.τ).loc Cert.CombineIdeal.main_v13)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v13) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v82) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5)
          ∧ r.2.mem ((c.tc : Thread Cert.CombineReferenceIdeal.nD Cert.CombineReferenceIdeal.τ).loc Cert.CombineReferenceIdeal.main_arg6) = m' ((c.tc : Thread Cert.CombineReferenceIdeal.nD Cert.CombineReferenceIdeal.τ).loc Cert.CombineReferenceIdeal.main_arg6)
          ∧ r.2.mem ((c.tc : Thread Cert.CombineReferenceIdeal.nD Cert.CombineReferenceIdeal.τ).loc Cert.CombineReferenceIdeal.main_arg7) = m' ((c.tc : Thread Cert.CombineReferenceIdeal.nD Cert.CombineReferenceIdeal.τ).loc Cert.CombineReferenceIdeal.main_arg7)
          ∧ r.2.mem ((c.tc : Thread Cert.CombineReferenceIdeal.nD Cert.CombineReferenceIdeal.τ).loc Cert.CombineReferenceIdeal.main_arg8) = m' ((c.tc : Thread Cert.CombineReferenceIdeal.nD Cert.CombineReferenceIdeal.τ).loc Cert.CombineReferenceIdeal.main_arg8))

def preserves_Attend_AttendIdeal : Prop :=
  True

def algebraic_AttendIdeal_AttendReferenceIdeal_pre_ones_beside_values [hAttendIdeal : Cert.AttendIdeal.Facts] [hAttendReferenceIdeal : Cert.AttendReferenceIdeal.Facts] [hPre_ones_beside_values : Cert.Pre_ones_beside_values.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal_ones_beside_values m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)) →
    ∃ (v0 : (c : Dev Cert.AttendIdeal.nD) → Buf (Elt Ideal) ((c.tc : Thread Cert.AttendIdeal.nD Cert.AttendIdeal.τ).loc Cert.AttendIdeal.main_v0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v38) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hExperts : Cert.Experts.Facts) (hExpertsIdeal : Cert.ExpertsIdeal.Facts) (hExpertsReferenceIdeal : Cert.ExpertsReferenceIdeal.Facts) (hMain : Cert.Main.Facts) (hMainIdeal : Cert.MainIdeal.Facts) (hMainReferenceIdeal : Cert.MainReferenceIdeal.Facts) (hSide : Cert.Side.Facts) (hSideIdeal : Cert.SideIdeal.Facts) (hSideReferenceIdeal : Cert.SideReferenceIdeal.Facts) (hCombine : Cert.Combine.Facts) (hCombineIdeal : Cert.CombineIdeal.Facts) (hCombineReferenceIdeal : Cert.CombineReferenceIdeal.Facts) (hAttend : Cert.Attend.Facts) (hAttendIdeal : Cert.AttendIdeal.Facts) (hAttendReferenceIdeal : Cert.AttendReferenceIdeal.Facts) (hPre_idx_in_rows : Cert.Pre_idx_in_rows.Facts) (hPre_counts_fit : Cert.Pre_counts_fit.Facts) (hPre_ones_beside_values : Cert.Pre_ones_beside_values.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal) (hPre_idx_in_rows := hPre_idx_in_rows)
    ∧ quiescent_Reference (hReference := hReference) (hPre_idx_in_rows := hPre_idx_in_rows)
    ∧ quiescent_Experts (hExperts := hExperts)
    ∧ quiescent_ExpertsIdeal (hExpertsIdeal := hExpertsIdeal)
    ∧ quiescent_ExpertsIdeal_pre_counts_fit (hExpertsIdeal := hExpertsIdeal) (hPre_counts_fit := hPre_counts_fit)
    ∧ quiescent_ExpertsReferenceIdeal (hExpertsReferenceIdeal := hExpertsReferenceIdeal)
    ∧ quiescent_ExpertsReferenceIdeal_pre_counts_fit (hExpertsReferenceIdeal := hExpertsReferenceIdeal) (hPre_counts_fit := hPre_counts_fit)
    ∧ quiescent_Main (hMain := hMain)
    ∧ quiescent_MainIdeal (hMainIdeal := hMainIdeal)
    ∧ quiescent_MainReferenceIdeal (hMainReferenceIdeal := hMainReferenceIdeal)
    ∧ quiescent_Side (hSide := hSide)
    ∧ quiescent_SideIdeal (hSideIdeal := hSideIdeal)
    ∧ quiescent_SideReferenceIdeal (hSideReferenceIdeal := hSideReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_Attend (hAttend := hAttend)
    ∧ quiescent_AttendIdeal (hAttendIdeal := hAttendIdeal)
    ∧ quiescent_AttendIdeal_pre_ones_beside_values (hAttendIdeal := hAttendIdeal) (hPre_ones_beside_values := hPre_ones_beside_values)
    ∧ quiescent_AttendReferenceIdeal (hAttendReferenceIdeal := hAttendReferenceIdeal)
    ∧ quiescent_AttendReferenceIdeal_pre_ones_beside_values (hAttendReferenceIdeal := hAttendReferenceIdeal) (hPre_ones_beside_values := hPre_ones_beside_values)
    ∧ preserves_Kernel_KernelIdeal
    ∧ algebraic_KernelIdeal_ReferenceIdeal (hKernelIdeal := hKernelIdeal) (hReferenceIdeal := hReferenceIdeal) (hPre_idx_in_rows := hPre_idx_in_rows)
    ∧ bitexact_Kernel_Reference (hKernel := hKernel) (hReference := hReference) (hPre_idx_in_rows := hPre_idx_in_rows)
    ∧ preserves_Experts_ExpertsIdeal
    ∧ algebraic_ExpertsIdeal_ExpertsReferenceIdeal_pre_counts_fit (hExpertsIdeal := hExpertsIdeal) (hExpertsReferenceIdeal := hExpertsReferenceIdeal) (hPre_counts_fit := hPre_counts_fit)
    ∧ preserves_Main_MainIdeal
    ∧ algebraic_MainIdeal_MainReferenceIdeal (hMainIdeal := hMainIdeal) (hMainReferenceIdeal := hMainReferenceIdeal)
    ∧ preserves_Side_SideIdeal
    ∧ algebraic_SideIdeal_SideReferenceIdeal (hSideIdeal := hSideIdeal) (hSideReferenceIdeal := hSideReferenceIdeal)
    ∧ preserves_Combine_CombineIdeal
    ∧ algebraic_CombineIdeal_CombineReferenceIdeal (hCombineIdeal := hCombineIdeal) (hCombineReferenceIdeal := hCombineReferenceIdeal)
    ∧ preserves_Attend_AttendIdeal
    ∧ algebraic_AttendIdeal_AttendReferenceIdeal_pre_ones_beside_values (hAttendIdeal := hAttendIdeal) (hAttendReferenceIdeal := hAttendReferenceIdeal) (hPre_ones_beside_values := hPre_ones_beside_values)
-- ==== Pre_counts_fit.lean ====
abbrev S64x128 : Shape := ⟨2, ![64, 128]⟩
abbrev S2x179712x256 : Shape := ⟨3, ![2, 179712, 256]⟩
abbrev S4x64x1024x512 : Shape := ⟨4, ![4, 64, 1024, 512]⟩
abbrev S4x64x256x1024 : Shape := ⟨4, ![4, 64, 256, 1024]⟩
abbrev S64x1 : Shape := ⟨2, ![64, 1]⟩
abbrev S64 : Shape := ⟨1, ![64]⟩
abbrev S_ : Shape := ⟨0, ![]⟩

class Facts : Prop where
  slices_S64x128_S64x1_0_0 : S64x128.Slices ![0, 0] S64x1
  shapeCasts_S64x1_S64 : S64x1.ShapeCasts S64
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S64x128 .f32) (main_arg1 : IVec S2x179712x256 32) (main_arg2 : FVec F S4x64x1024x512 .f32) (main_arg3 : FVec F S4x64x256x1024 .f32) : IVec S_ 1 :=
  let main_v0 : FVec F S64x1 .f32 := (extractStridedSlice S64x1 ![0, 0] · slices_S64x128_S64x1_0_0) main_arg0
  let main_v1 : FVec F S64 .f32 := shapeCast S64 main_v0 shapeCasts_S64x1_S64
  let main_v2 : IVec S64 32 := fptosi 32 main_v1
  let main_c : IVec S_ 32 := constantI S_ 32 0#32
  let main_v3 : IVec S64 32 := broadcastInDim S64 ![] bcast_S_S64 main_c
  let main_v4 : IVec S64 1 := cmpi .sge main_v2 main_v3
  let main_c_0 : IVec S_ 32 := constantI S_ 32 18432#32
  let main_v5 : IVec S64 32 := broadcastInDim S64 ![] bcast_S_S64 main_c_0
  let main_v6 : IVec S64 1 := cmpi .sle main_v2 main_v5
  let main_v7 : IVec S64 1 := andi main_v4 main_v6
  let main_c_1 : IVec S_ 1 := constantI S_ 1 1#1
  let main_v8 : IVec S_ 1 := (fun x v => Host.reduce IntOp.andi x v reducesTo_S64_S_d0 h_S_) main_v7 main_c_1
  main_v8
-- ==== Pre_idx_in_rows.lean ====
abbrev S359424x256 : Shape := ⟨2, ![359424, 256]⟩
abbrev S294912 : Shape := ⟨1, ![294912]⟩
abbrev S_ : Shape := ⟨0, ![]⟩

class Facts : Prop where
  bcast_S_S294912 : S_.BroadcastsInDim S294912 (![] : Fin 0 → Fin S294912.rank)

variable [Facts]

def fn {F : FTy → Type} [FloatOps F] (main_arg0 : IVec S359424x256 32) (main_arg1 : IVec S294912 32) : IVec S294912 1 :=
  let main_c : IVec S_ 32 := constantI S_ 32 0#32
  let main_v0 : IVec S294912 32 := broadcastInDim S294912 ![] bcast_S_S294912 main_c
  let main_v1 : IVec S294912 1 := cmpi .sge main_arg1 main_v0
  let main_c_0 : IVec S_ 32 := constantI S_ 32 359424#32
  let main_v2 : IVec S294912 32 := broadcastInDim S294912 ![] bcast_S_S294912 main_c_0
  let main_v3 : IVec S294912 1 := cmpi .slt main_arg1 main_v2
  let main_v4 : IVec S294912 1 := andi main_v1 main_v3
  main_v4
-- ==== Pre_ones_beside_values.lean ====
abbrev S8x2304x1024 : Shape := ⟨3, ![8, 2304, 1024]⟩
abbrev S8x2304x8x128 : Shape := ⟨4, ![8, 2304, 8, 128]⟩
abbrev S8x2304x8x1 : Shape := ⟨4, ![8, 2304, 8, 1]⟩
abbrev S8x2304x8 : Shape := ⟨3, ![8, 2304, 8]⟩
abbrev S_ : Shape := ⟨0, ![]⟩

class Facts : Prop where
  shapeCasts_S8x2304x1024_S8x2304x8x128 : S8x2304x1024.ShapeCasts S8x2304x8x128
  slices_S8x2304x8x128_S8x2304x8x1_0_0_0_64 : S8x2304x8x128.Slices ![0, 0, 0, 64] S8x2304x8x1
  shapeCasts_S8x2304x8x1_S8x2304x8 : S8x2304x8x1.ShapeCasts S8x2304x8
  bitsLt_bf16_f32 : FTy.bits .bf16 < FTy.bits .f32
  bcast_S_S8x2304x8 : S_.BroadcastsInDim S8x2304x8 (![] : Fin 0 → Fin S8x2304x8.rank)
  reducesTo_S8x2304x8_S_d0_1_2 : S8x2304x8.ReducesTo [0, 1, 2] S_
  h_S_ : 0 < S_.numel

variable [Facts]

def fn {F : FTy → Type} [FloatOps F] (main_arg0 : FVec F S8x2304x1024 .bf16) (main_arg1 : FVec F S8x2304x1024 .bf16) (main_arg2 : FVec F S8x2304x1024 .bf16) : IVec S_ 1 :=
  let main_v0 : FVec F S8x2304x8x128 .bf16 := shapeCast S8x2304x8x128 main_arg2 shapeCasts_S8x2304x1024_S8x2304x8x128
  let main_v1 : FVec F S8x2304x8x1 .bf16 := (extractStridedSlice S8x2304x8x1 ![0, 0, 0, 64] · slices_S8x2304x8x128_S8x2304x8x1_0_0_0_64) main_v0
  let main_v2 : FVec F S8x2304x8 .bf16 := shapeCast S8x2304x8 main_v1 shapeCasts_S8x2304x8x1_S8x2304x8
  let main_v3 : FVec F S8x2304x8 .f32 := (extf .f32 · bitsLt_bf16_f32) main_v2
  let main_cst : FVec F S_ .f32 := constant S_ .f32 0x3F800000#32
  let main_v4 : FVec F S8x2304x8 .f32 := broadcastInDim S8x2304x8 ![] bcast_S_S8x2304x8 main_cst
  let main_v5 : IVec S8x2304x8 1 := cmpf .oeq main_v3 main_v4
  let main_c : IVec S_ 1 := constantI S_ 1 1#1
  let main_v6 : IVec S_ 1 := (fun x v => Host.reduce IntOp.andi x v reducesTo_S8x2304x8_S_d0_1_2 h_S_) main_v5 main_c
  main_v6
-- ==== Kernel.lean ====
abbrev S359424x256 : Shape := ⟨2, ![359424, 256]⟩
abbrev S294912 : Shape := ⟨1, ![294912]⟩
abbrev S359424x2x128 : Shape := ⟨3, ![359424, 2, 128]⟩
abbrev S1x294912 : Shape := ⟨2, ![1, 294912]⟩
abbrev S294912x2x128 : Shape := ⟨3, ![294912, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x2x128 : Shape := ⟨4, ![1, 128, 2, 128]⟩
abbrev S128x2x128 : Shape := ⟨3, ![128, 2, 128]⟩
abbrev S128 : Shape := ⟨1, ![128]⟩
abbrev S294912x256 : Shape := ⟨2, ![294912, 256]⟩

abbrev nBuf : Table → Nat
  | .hbm => 6
  | .local .scVector .vmem => 2
  | _ => 0

abbrev bufTy : (tb : Table) → Fin (nBuf tb) → BufTy
  | .hbm, ⟨0, _⟩ => ⟨S359424x256, .i32⟩
  | .hbm, ⟨1, _⟩ => ⟨S294912, .i32⟩
  | .hbm, ⟨2, _⟩ => ⟨S359424x2x128, .i32⟩
  | .hbm, ⟨3, _⟩ => ⟨S1x294912, .i32⟩
  | .hbm, ⟨4, _⟩ => ⟨S294912x2x128, .i32⟩
  | .hbm, ⟨5, _⟩ => ⟨S294912x256, .i32⟩
  | .local .scVector .vmem, ⟨0, _⟩ => ⟨S2x1x128, .i32⟩
  | .local .scVector .vmem, ⟨1, _⟩ => ⟨S2x128x2x128, .i32⟩
  | _, _ => ⟨S359424x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c72_i32_27_r0 : BitVec 32 := 72#32
  let v32_r0 : BitVec 32 := Scalar.addi c0_i32_26_r0 c72_i32_27_r0
  let c1_i32_28_r0 : BitVec 32 := 1#32
  ⟨c0_i32_26_r0, v32_r0, c1_i32_28_r0⟩
def k0_off4 (arg6_r0 : BitVec 32) : Fin 3 → Nat :=
  let c2_i32_103_r0 : BitVec 32 := 2#32
  let v144_r0 : BitVec 32 := Scalar.remui arg6_r0 c2_i32_103_r0
  let c0_i32_105_r0 : BitVec 32 := 0#32
  let c0_i32_106_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c72_i32_66_r0 : BitVec 32 := 72#32
  let v74_r0 : BitVec 1 := Scalar.cmpi .eq v73_r0 c72_i32_66_r0
  let c0_i32_67_r0 : BitVec 32 := 0#32
  let v75_r0 : BitVec 32 := Scalar.select v74_r0 c0_i32_67_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c71_i32_72_r0 : BitVec 32 := 71#32
  let v83_r0 : BitVec 1 := Scalar.cmpi .sge arg5_r0 c71_i32_72_r0
  let true_73_r0 : BitVec 1 := 1#1
  let v84_r0 : BitVec 1 := Scalar.xori v83_r0 true_73_r0
  let v85_r0 : BitVec 1 := Scalar.andi v82_r0 v84_r0
  let true_74_r0 : BitVec 1 := 1#1
  let v86_r0 : BitVec 1 := Scalar.andi v85_r0 true_74_r0
  let v87_r0 : BitVec 32 := Scalar.extui v86_r0
  let c0_i32_75_r0 : BitVec 32 := 0#32
  let v88_r0 : BitVec 1 := Scalar.cmpi .ne v87_r0 c0_i32_75_r0
  v88_r0

def k0_off5 (i : grid0.Coords) (arg10_r0 : BitVec 32) : Fin 2 → Nat :=
  let c0_i32_107_r0 : BitVec 32 := 0#32
  let c128_i32_104_r0 : BitVec 32 := 128#32
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c72_i32_66_r0 : BitVec 32 := 72#32
  let v74_r0 : BitVec 1 := Scalar.cmpi .eq v73_r0 c72_i32_66_r0
  let c0_i32_67_r0 : BitVec 32 := 0#32
  let v75_r0 : BitVec 32 := Scalar.select v74_r0 c0_i32_67_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v76_r0 : BitVec 32 := Scalar.addi v75_r0 v4
  let v145_r0 : BitVec 32 := Scalar.muli c128_i32_104_r0 v76_r0
  ![0, v145_r0.toNat]
def k0_off6 (arg6_r0 : BitVec 32) : Fin 1 → Nat :=
  let c2_i32_103_r0 : BitVec 32 := 2#32
  let v144_r0 : BitVec 32 := Scalar.remui arg6_r0 c2_i32_103_r0
  ![v144_r0.toNat]
def k0_off7 (arg7_r0 : BitVec 32) : Fin 3 → Nat :=
  let c2_i32_104_r0 : BitVec 32 := 2#32
  let v145_r0 : BitVec 32 := Scalar.remui arg7_r0 c2_i32_104_r0
  let c0_i32_105_r0 : BitVec 32 := 0#32
  let c0_i32_106_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c71_i32_63_r0 : BitVec 32 := 71#32
  let v70_r0 : BitVec 32 := Scalar.select v69_r0 c71_i32_63_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let v97_r0 : BitVec 1 := Scalar.ori v96_r0 v64_r0
  let c0_i32_80_r0 : BitVec 32 := 0#32
  let v98_r0 : BitVec 1 := Scalar.cmpi .sge arg5_r0 c0_i32_80_r0
  let v99_r0 : BitVec 1 := Scalar.andi v97_r0 v98_r0
  let v100_r0 : BitVec 32 := Scalar.extui v99_r0
  let c0_i32_81_r0 : BitVec 32 := 0#32
  let v101_r0 : BitVec 1 := Scalar.cmpi .ne v100_r0 c0_i32_81_r0
  v101_r0

def k0_off8 (i : grid0.Coords) (arg10_r0 : BitVec 32) : Fin 2 → Nat :=
  let c0_i32_107_r0 : BitVec 32 := 0#32
  let c128_i32_103_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v66_r0 : BitVec 32 := Scalar.addi arg10_r0 v4
  let v144_r0 : BitVec 32 := Scalar.muli c128_i32_103_r0 v66_r0
  ![0, v144_r0.toNat]
def k0_off9 (arg7_r0 : BitVec 32) : Fin 1 → Nat :=
  let c2_i32_104_r0 : BitVec 32 := 2#32
  let v145_r0 : BitVec 32 := Scalar.remui arg7_r0 c2_i32_104_r0
  ![v145_r0.toNat]
def k0_off10 (arg8_r0 : BitVec 32) : Fin 4 → Nat :=
  let c2_i32_85_r0 : BitVec 32 := 2#32
  let v109_r0 : BitVec 32 := Scalar.remui arg8_r0 c2_i32_85_r0
  let c0_i32_103_r1 : BitVec 32 := 0#32
  let c0_i32_104_r1 : BitVec 32 := 0#32
  let c0_i32_105_r1 : BitVec 32 := 0#32
  ![v109_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_84_r0 : BitVec 32 := 2#32
  let v108_r0 : BitVec 32 := Scalar.remui arg7_r0 c2_i32_84_r0
  let c0_i32_106_r1 : BitVec 32 := 0#32
  let c0_i32_107_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_103_r0 : BitVec 32 := 2#32
  let v144_r0 : BitVec 32 := Scalar.remui arg8_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c72_i32_66_r0 : BitVec 32 := 72#32
  let v74_r0 : BitVec 1 := Scalar.cmpi .eq v73_r0 c72_i32_66_r0
  let c0_i32_67_r0 : BitVec 32 := 0#32
  let v75_r0 : BitVec 32 := Scalar.select v74_r0 c0_i32_67_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c71_i32_59_r0 : BitVec 32 := 71#32
  let v65_r0 : BitVec 1 := Scalar.cmpi .eq arg5_r0 c71_i32_59_r0
  let v116_r0 : BitVec 1 := Scalar.ori v115_r0 v65_r0
  let v117_r0 : BitVec 32 := Scalar.extui v116_r0
  let c0_i32_88_r0 : BitVec 32 := 0#32
  let v118_r0 : BitVec 1 := Scalar.cmpi .ne v117_r0 c0_i32_88_r0
  v118_r0

def k0_off13 (i : grid0.Coords) (arg10_r0 : BitVec 32) : Fin 3 → Nat :=
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v66_r0 : BitVec 32 := Scalar.addi arg10_r0 v4
  let v145_r0 : BitVec 32 := Scalar.muli c128_i32_104_r0 v66_r0
  let c0_i32_108_r0 : BitVec 32 := 0#32
  let c0_i32_109_r0 : BitVec 32 := 0#32
  ![v145_r0.toNat, 0, 0]
def k0_off14 (arg8_r0 : BitVec 32) : Fin 1 → Nat :=
  let c2_i32_103_r0 : BitVec 32 := 2#32
  let v144_r0 : BitVec 32 := Scalar.remui arg8_r0 c2_i32_103_r0
  ![v144_r0.toNat]
def k0_off15 (arg9_r0 : BitVec 32) : Fin 4 → Nat :=
  let c2_i32_103_r0 : BitVec 32 := 2#32
  let v144_r0 : BitVec 32 := Scalar.remui arg9_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c71_i32_63_r0 : BitVec 32 := 71#32
  let v70_r0 : BitVec 32 := Scalar.select v69_r0 c71_i32_63_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let true_94_r0 : BitVec 1 := 1#1
  let v129_r0 : BitVec 1 := Scalar.xori v64_r0 true_94_r0
  let v130_r0 : BitVec 1 := Scalar.andi v128_r0 v129_r0
  let v131_r0 : BitVec 32 := Scalar.extui v130_r0
  let c0_i32_95_r0 : BitVec 32 := 0#32
  let v132_r0 : BitVec 1 := Scalar.cmpi .ne v131_r0 c0_i32_95_r0
  v132_r0

def k0_off16 (i : grid0.Coords) (arg10_r0 : BitVec 32) : Fin 3 → Nat :=
  let c128_i32_104_r0 : BitVec 32 := 128#32
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c71_i32_63_r0 : BitVec 32 := 71#32
  let v70_r0 : BitVec 32 := Scalar.select v69_r0 c71_i32_63_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v71_r0 : BitVec 32 := Scalar.addi v70_r0 v4
  let v145_r0 : BitVec 32 := Scalar.muli c128_i32_104_r0 v71_r0
  let c0_i32_108_r0 : BitVec 32 := 0#32
  let c0_i32_109_r0 : BitVec 32 := 0#32
  ![v145_r0.toNat, 0, 0]
def k0_off17 (arg9_r0 : BitVec 32) : Fin 1 → Nat :=
  let c2_i32_103_r0 : BitVec 32 := 2#32
  let v144_r0 : BitVec 32 := Scalar.remui arg9_r0 c2_i32_103_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x294912.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x294912.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S294912x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S294912x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x294912.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x294912.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S294912x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S294912x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 4 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  let c0_i32_50_r0 : BitVec 32 := 0#32
  ![v54_r0.toNat, 0, 0, 0]

def k0_off19 (i : grid0.Coords) (v33_4_r0 : BitVec 32) : Fin 3 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c71_i32_33_r0 : BitVec 32 := 71#32
  let v37_r0 : BitVec 32 := Scalar.select v36_r0 c71_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c72_i32 : BitVec 32 := 72#32
  let v4 : BitVec 32 := Scalar.muli v3 c72_i32
  let v38_r0 : BitVec 32 := Scalar.addi v37_r0 v4
  let v55_r0 : BitVec 32 := Scalar.muli c128_i32_47_r0 v38_r0
  let c0_i32_51_r0 : BitVec 32 := 0#32
  let c0_i32_52_r0 : BitVec 32 := 0#32
  ![v55_r0.toNat, 0, 0]

def k0_chk5 (i : grid0.Coords) (v33_4_r0 : BitVec 32) : Prop :=
  (∀ a, (k0_off19 i v33_4_r0) a + S128x2x128.size a ≤ S294912x2x128.size a)
theorem k0_off19_inb : ∀ (i : grid0.Coords) (v33_4_r0 : BitVec 32) (k0_hw5 : k0_chk5 i v33_4_r0), ∀ a, (k0_off19 i v33_4_r0) a + S128x2x128.size a ≤ S294912x2x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 4 → Nat :=
  let c2_i32_46_r0 : BitVec 32 := 2#32
  let v54_r0 : BitVec 32 := Scalar.remui v33_3_r0 c2_i32_46_r0
  let c0_i32_55_r0 : BitVec 32 := 0#32
  let c0_i32_56_r0 : BitVec 32 := 0#32
  let c0_i32_57_r0 : BitVec 32 := 0#32
  ![v54_r0.toNat, 0, 0, 0]

def k0_chk4 (v33_3_r0 : BitVec 32) : Prop :=
  (∀ a, (k0_off18 v33_3_r0) a + S1x128x2x128.size a ≤ S2x128x2x128.size a) ∧
  (∀ a, (k0_off20 v33_3_r0) a + S1.size a ≤ S2.size a) ∧
  (∀ a, (k0_off21 v33_3_r0) a + S1x128x2x128.size a ≤ S2x128x2x128.size a)
theorem k0_off18_inb : ∀ (v33_3_r0 : BitVec 32) (k0_hw4 : k0_chk4 v33_3_r0), ∀ a, (k0_off18 v33_3_r0) a + S1x128x2x128.size a ≤ S2x128x2x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x2x128.size a ≤ S2x128x2x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S359424x256 : Shape := ⟨2, ![359424, 256]⟩
abbrev S294912 : Shape := ⟨1, ![294912]⟩
abbrev S294912x1 : Shape := ⟨2, ![294912, 1]⟩
abbrev S294912x256 : Shape := ⟨2, ![294912, 256]⟩

abbrev nBuf : Space → Nat
  | .hbm => 4
  | .vmem => 0
  | .smem => 0
  | _ => 0

abbrev bufTy : (tb : Table) → Fin (tcTables nBuf tb) → BufTy
  | .hbm, ⟨0, _⟩ => ⟨S359424x256, .i32⟩
  | .hbm, ⟨1, _⟩ => ⟨S294912, .i32⟩
  | .hbm, ⟨2, _⟩ => ⟨S294912x1, .i32⟩
  | .hbm, ⟨3, _⟩ => ⟨S294912x256, .i32⟩
  | _, _ => ⟨S359424x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Experts.lean ====
abbrev S64x128 : Shape := ⟨2, ![64, 128]⟩
abbrev S2x179712x256 : Shape := ⟨3, ![2, 179712, 256]⟩
abbrev S4x64x1024x512 : Shape := ⟨4, ![4, 64, 1024, 512]⟩
abbrev S4x64x256x1024 : Shape := ⟨4, ![4, 64, 256, 1024]⟩
abbrev S64x1 : Shape := ⟨2, ![64, 1]⟩
abbrev S64 : Shape := ⟨1, ![64]⟩
abbrev S_ : Shape := ⟨0, ![]⟩
abbrev S351 : Shape := ⟨1, ![351]⟩
abbrev S351x1 : Shape := ⟨2, ![351, 1]⟩
abbrev S1x64 : Shape := ⟨2, ![1, 64]⟩
abbrev S351x64 : Shape := ⟨2, ![351, 64]⟩
abbrev S4x179712x256 : Shape := ⟨3, ![4, 179712, 256]⟩
abbrev S2x512x256 : Shape := ⟨3, ![2, 512, 256]⟩
abbrev S1x1x1024x512 : Shape := ⟨4, ![1, 1, 1024, 512]⟩
abbrev S1 : Shape := ⟨1, ![1]⟩
abbrev S1x1x256x1024 : Shape := ⟨4, ![1, 1, 256, 1024]⟩
abbrev S4x512x256 : Shape := ⟨3, ![4, 512, 256]⟩
abbrev S1024x512 : Shape := ⟨2, ![1024, 512]⟩
abbrev S256x1024 : Shape := ⟨2, ![256, 1024]⟩
abbrev S512x256 : Shape := ⟨2, ![512, 256]⟩
abbrev S1x512x256 : Shape := ⟨3, ![1, 512, 256]⟩
abbrev S512x1024 : Shape := ⟨2, ![512, 1024]⟩
abbrev S512x512 : Shape := ⟨2, ![512, 512]⟩

abbrev nBuf : Space → Nat
  | .hbm => 85
  | .vmem => 10
  | .smem => 2
  | _ => 0

abbrev bufTy : (tb : Table) → Fin (tcTables nBuf tb) → BufTy
  | .hbm, ⟨0, _⟩ => ⟨S64x128, .f32⟩
  | .hbm, ⟨1, _⟩ => ⟨S2x179712x256, .i32⟩
  | .hbm, ⟨2, _⟩ => ⟨S4x64x1024x512, .f32⟩
  | .hbm, ⟨3, _⟩ => ⟨S4x64x256x1024, .f32⟩
  | .hbm, ⟨4, _⟩ => ⟨S64x1, .f32⟩
  | .hbm, ⟨5, _⟩ => ⟨S64, .f32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S64, .i32⟩
  | .hbm, ⟨22, _⟩ => ⟨S64, .i32⟩
  | .hbm, ⟨23, _⟩ => ⟨S_, .i32⟩
  | .hbm, ⟨24, _⟩ => ⟨S64, .i32⟩
  | .hbm, ⟨25, _⟩ => ⟨S64, .i1⟩
  | .hbm, ⟨26, _⟩ => ⟨S64, .i1⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S64, .i32⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S_, .i32⟩
  | .hbm, ⟨35, _⟩ => ⟨S_, .i32⟩
  | .hbm, ⟨36, _⟩ => ⟨S64, .i32⟩
  | .hbm, ⟨37, _⟩ => ⟨S64, .i32⟩
  | .hbm, ⟨38, _⟩ => ⟨S351, .i32⟩
  | .hbm, ⟨39, _⟩ => ⟨S_, .i32⟩
  | .hbm, ⟨40, _⟩ => ⟨S351, .i32⟩
  | .hbm, ⟨41, _⟩ => ⟨S351, .i32⟩
  | .hbm, ⟨42, _⟩ => ⟨S351x1, .i32⟩
  | .hbm, ⟨43, _⟩ => ⟨S1x64, .i32⟩
  | .hbm, ⟨44, _⟩ => ⟨S351x64, .i32⟩
  | .hbm, ⟨45, _⟩ => ⟨S351x64, .i32⟩
  | .hbm, ⟨46, _⟩ => ⟨S351x64, .i1⟩
  | .hbm, ⟨47, _⟩ => ⟨S351x64, .i32⟩
  | .hbm, ⟨48, _⟩ => ⟨S_, .i32⟩
  | .hbm, ⟨49, _⟩ => ⟨S351, .i32⟩
  | .hbm, ⟨50, _⟩ => ⟨S_, .i32⟩
  | .hbm, ⟨51, _⟩ => ⟨S351, .i32⟩
  | .hbm, ⟨52, _⟩ => ⟨S351x1, .i32⟩
  | .hbm, ⟨53, _⟩ => ⟨S1x64, .i32⟩
  | .hbm, ⟨54, _⟩ => ⟨S351x64, .i32⟩
  | .hbm, ⟨55, _⟩ => ⟨S351x64, .i32⟩
  | .hbm, ⟨56, _⟩ => ⟨S351x64, .i1⟩
  | .hbm, ⟨57, _⟩ => ⟨S351x1, .i32⟩
  | .hbm, ⟨58, _⟩ => ⟨S1x64, .i32⟩
  | .hbm, ⟨59, _⟩ => ⟨S351x64, .i32⟩
  | .hbm, ⟨60, _⟩ => ⟨S351x64, .i32⟩
  | .hbm, ⟨61, _⟩ => ⟨S351x64, .i1⟩
  | .hbm, ⟨62, _⟩ => ⟨S351x64, .i1⟩
  | .hbm, ⟨63, _⟩ => ⟨S1x64, .i32⟩
  | .hbm, ⟨64, _⟩ => ⟨S351x1, .i32⟩
  | .hbm, ⟨65, _⟩ => ⟨S1x64, .i32⟩
  | .hbm, ⟨66, _⟩ => ⟨S351x64, .i32⟩
  | .hbm, ⟨67, _⟩ => ⟨S351x64, .i32⟩
  | .hbm, ⟨68, _⟩ => ⟨S351x64, .i32⟩
  | .hbm, ⟨69, _⟩ => ⟨S351x64, .i32⟩
  | .hbm, ⟨70, _⟩ => ⟨S351x64, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S351x64, .i32⟩
  | .hbm, ⟨75, _⟩ => ⟨S351x64, .i32⟩
  | .hbm, ⟨76, _⟩ => ⟨S_, .i32⟩
  | .hbm, ⟨77, _⟩ => ⟨S351x64, .i32⟩
  | .hbm, ⟨78, _⟩ => ⟨S351x64, .i32⟩
  | .hbm, ⟨79, _⟩ => ⟨S_, .i32⟩
  | .hbm, ⟨80, _⟩ => ⟨S_, .i32⟩
  | .hbm, ⟨81, _⟩ => ⟨S351x64, .i32⟩
  | .hbm, ⟨82, _⟩ => ⟨S351x64, .i32⟩
  | .hbm, ⟨83, _⟩ => ⟨S_, .i32⟩
  | .hbm, ⟨84, _⟩ => ⟨S4x179712x256, .bf16⟩
  | .local _ .vmem, ⟨0, _⟩ => ⟨S2x512x256, .i32⟩
  | .local _ .vmem, ⟨1, _⟩ => ⟨S2x512x256, .i32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x256x1024, .f32⟩
  | .local _ .vmem, ⟨5, _⟩ => ⟨S1x1x256x1024, .f32⟩
  | .local _ .vmem, ⟨6, _⟩ => ⟨S4x512x256, .bf16⟩
  | .local _ .vmem, ⟨7, _⟩ => ⟨S4x512x256, .bf16⟩
  | .local _ .vmem, ⟨8, _⟩ => ⟨S1024x512, .bf16⟩
  | .local _ .vmem, ⟨9, _⟩ => ⟨S256x1024, .bf16⟩
  | .local _ .smem, ⟨0, _⟩ => ⟨S351, .i32⟩
  | .local _ .smem, ⟨1, _⟩ => ⟨S351, .i32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_c_2 : Ref sig .tc := ⟨.hbm, 31, rfl⟩
abbrev main_v8 : Ref sig .tc := ⟨.hbm, 32, rfl⟩
abbrev main_v9 : Ref sig .tc := ⟨.hbm, 33, rfl⟩
abbrev main_call1_call0_c : Ref sig .tc := ⟨.hbm, 34, rfl⟩
abbrev main_call1_call0_v0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_4 : Ref sig .tc := ⟨.hbm, 48, rfl⟩
abbrev main_v21 : Ref sig .tc := ⟨.hbm, 49, rfl⟩
abbrev main_c_5 : Ref sig .tc := ⟨.hbm, 50, rfl⟩
abbrev main_v22 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_6 : Ref sig .tc := ⟨.hbm, 71, rfl⟩
abbrev main_c_7 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v43 : Ref sig .tc := ⟨.hbm, 78, rfl⟩
abbrev main_c_8 : Ref sig .tc := ⟨.hbm, 79, rfl⟩
abbrev main_call3_v0 : Ref sig .tc := ⟨.hbm, 80, rfl⟩
abbrev main_call3_v1 : Ref sig .tc := ⟨.hbm, 81, rfl⟩
abbrev main_v44 : Ref sig .tc := ⟨.hbm, 82, rfl⟩
abbrev main_c_9 : Ref sig .tc := ⟨.hbm, 83, rfl⟩
abbrev main_v46 : Ref sig .tc := ⟨.hbm, 84, rfl⟩
abbrev main_v23 : Ref sig .tc := ⟨.smem, 0, rfl⟩
abbrev main_v45 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![351], ![false]⟩

abbrev pre0 : Pipeline.Prefetch sig := ⟨2, ![main_v23.idx, main_v45.idx], fun | 0 => main_v23.names | 1 => main_v45.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (v1 : BitVec 32) : BitVec 1 :=
  let c0_i32_2 : BitVec 32 := 0#32
  let v13 : BitVec 1 := Scalar.cmpi .sgt v1 c0_i32_2
  let v14 : BitVec 32 := Scalar.extui v13
  let c0_i32_3 : BitVec 32 := 0#32
  let v15 : BitVec 1 := Scalar.cmpi .ne v14 c0_i32_3
  v15

def k0_cond3 (v1 : BitVec 32) : BitVec 1 :=
  let c0_i32_4 : BitVec 32 := 0#32
  let v16 : BitVec 1 := Scalar.cmpi .eq v1 c0_i32_4
  let v17 : BitVec 32 := Scalar.extui v16
  let c0_i32_5 : BitVec 32 := 0#32
  let v18 : BitVec 1 := Scalar.cmpi .ne v17 c0_i32_5
  v18

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S351.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S351) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S351.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S351) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsReferenceIdeal.lean ====
abbrev S64x128 : Shape := ⟨2, ![64, 128]⟩
abbrev S2x179712x256 : Shape := ⟨3, ![2, 179712, 256]⟩
abbrev S4x64x1024x512 : Shape := ⟨4, ![4, 64, 1024, 512]⟩
abbrev S4x64x256x1024 : Shape := ⟨4, ![4, 64, 256, 1024]⟩
abbrev S64x1 : Shape := ⟨2, ![64, 1]⟩
abbrev S64 : Shape := ⟨1, ![64]⟩
abbrev S_ : Shape := ⟨0, ![]⟩
abbrev S179712 : Shape := ⟨1, ![179712]⟩
abbrev S1x179712 : Shape := ⟨2, ![1, 179712]⟩
abbrev S64x179712 : Shape := ⟨2, ![64, 179712]⟩
abbrev S1x2x179712x256 : Shape := ⟨4, ![1, 2, 179712, 256]⟩
abbrev S2x2x179712x256 : Shape := ⟨4, ![2, 2, 179712, 256]⟩
abbrev S179712x2x2x256 : Shape := ⟨4, ![179712, 2, 2, 256]⟩
abbrev S179712x1024 : Shape := ⟨2, ![179712, 1024]⟩
abbrev S64x179712x1024 : Shape := ⟨3, ![64, 179712, 1024]⟩
abbrev S1x64x1024x512 : Shape := ⟨4, ![1, 64, 1024, 512]⟩
abbrev S64x1024x512 : Shape := ⟨3, ![64, 1024, 512]⟩
abbrev S64x179712x512 : Shape := ⟨3, ![64, 179712, 512]⟩
abbrev S64x179712x256 : Shape := ⟨3, ![64, 179712, 256]⟩
abbrev S1x64x256x1024 : Shape := ⟨4, ![1, 64, 256, 1024]⟩
abbrev S64x256x1024 : Shape := ⟨3, ![64, 256, 1024]⟩
abbrev S64x179712x1 : Shape := ⟨3, ![64, 179712, 1]⟩
abbrev S179712x4x256 : Shape := ⟨3, ![179712, 4, 256]⟩
abbrev S4x179712x256 : Shape := ⟨3, ![4, 179712, 256]⟩

abbrev nBuf : Space → Nat
  | .hbm => 89
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S2x179712x256, .i32⟩
  | .hbm, ⟨2, _⟩ => ⟨S4x64x1024x512, .f32⟩
  | .hbm, ⟨3, _⟩ => ⟨S4x64x256x1024, .f32⟩
  | .hbm, ⟨4, _⟩ => ⟨S64x1, .f32⟩
  | .hbm, ⟨5, _⟩ => ⟨S64, .f32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i1⟩
  | .hbm, ⟨15, _⟩ => ⟨S64, .i32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S64, .i1⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S_, .i32⟩
  | .hbm, ⟨31, _⟩ => ⟨S64, .i32⟩
  | .hbm, ⟨32, _⟩ => ⟨S64, .i32⟩
  | .hbm, ⟨33, _⟩ => ⟨S179712, .i32⟩
  | .hbm, ⟨34, _⟩ => ⟨S1x179712, .i32⟩
  | .hbm, ⟨35, _⟩ => ⟨S64x1, .i32⟩
  | .hbm, ⟨36, _⟩ => ⟨S64x179712, .i32⟩
  | .hbm, ⟨37, _⟩ => ⟨S64x179712, .i32⟩
  | .hbm, ⟨38, _⟩ => ⟨S64x179712, .i1⟩
  | .hbm, ⟨39, _⟩ => ⟨S1x179712, .i32⟩
  | .hbm, ⟨40, _⟩ => ⟨S64, .i32⟩
  | .hbm, ⟨41, _⟩ => ⟨S64x1, .i32⟩
  | .hbm, ⟨42, _⟩ => ⟨S64x179712, .i32⟩
  | .hbm, ⟨43, _⟩ => ⟨S64x179712, .i32⟩
  | .hbm, ⟨44, _⟩ => ⟨S64x179712, .i1⟩
  | .hbm, ⟨45, _⟩ => ⟨S64x179712, .i1⟩
  | .hbm, ⟨46, _⟩ => ⟨S2x179712x256, .i32⟩
  | .hbm, ⟨47, _⟩ => ⟨S_, .i32⟩
  | .hbm, ⟨48, _⟩ => ⟨S2x179712x256, .i32⟩
  | .hbm, ⟨49, _⟩ => ⟨S2x179712x256, .i32⟩
  | .hbm, ⟨50, _⟩ => ⟨S_, .i32⟩
  | .hbm, ⟨51, _⟩ => ⟨S2x179712x256, .i32⟩
  | .hbm, ⟨52, _⟩ => ⟨S2x179712x256, .i32⟩
  | .hbm, ⟨53, _⟩ => ⟨S1x2x179712x256, .i32⟩
  | .hbm, ⟨54, _⟩ => ⟨S1x2x179712x256, .i32⟩
  | .hbm, ⟨55, _⟩ => ⟨S2x2x179712x256, .i32⟩
  | .hbm, ⟨56, _⟩ => ⟨S2x2x179712x256, .f32⟩
  | .hbm, ⟨57, _⟩ => ⟨S179712x2x2x256, .f32⟩
  | .hbm, ⟨58, _⟩ => ⟨S179712x1024, .f32⟩
  | .hbm, ⟨59, _⟩ => ⟨S64x179712x1024, .f32⟩
  | .hbm, ⟨60, _⟩ => ⟨S1x64x1024x512, .f32⟩
  | .hbm, ⟨61, _⟩ => ⟨S64x1024x512, .f32⟩
  | .hbm, ⟨62, _⟩ => ⟨S64x179712x512, .f32⟩
  | .hbm, ⟨63, _⟩ => ⟨S64x179712x256, .f32⟩
  | .hbm, ⟨64, _⟩ => ⟨S64x179712x256, .f32⟩
  | .hbm, ⟨65, _⟩ => ⟨S64x179712x256, .f32⟩
  | .hbm, ⟨66, _⟩ => ⟨S64x179712x256, .f32⟩
  | .hbm, ⟨67, _⟩ => ⟨S_, .f32⟩
  | .hbm, ⟨68, _⟩ => ⟨S64x179712x256, .f32⟩
  | .hbm, ⟨69, _⟩ => ⟨S64x179712x256, .f32⟩
  | .hbm, ⟨70, _⟩ => ⟨S_, .f32⟩
  | .hbm, ⟨71, _⟩ => ⟨S64x179712x256, .f32⟩
  | .hbm, ⟨72, _⟩ => ⟨S64x179712x256, .f32⟩
  | .hbm, ⟨73, _⟩ => ⟨S64x179712x256, .f32⟩
  | .hbm, ⟨74, _⟩ => ⟨S64x179712x256, .f32⟩
  | .hbm, ⟨75, _⟩ => ⟨S1x64x256x1024, .f32⟩
  | .hbm, ⟨76, _⟩ => ⟨S64x256x1024, .f32⟩
  | .hbm, ⟨77, _⟩ => ⟨S64x179712x1024, .f32⟩
  | .hbm, ⟨78, _⟩ => ⟨S64x179712x1, .i1⟩
  | .hbm, ⟨79, _⟩ => ⟨S_, .f32⟩
  | .hbm, ⟨80, _⟩ => ⟨S_, .f32⟩
  | .hbm, ⟨81, _⟩ => ⟨S64x179712x1024, .i1⟩
  | .hbm, ⟨82, _⟩ => ⟨S64x179712x1024, .f32⟩
  | .hbm, ⟨83, _⟩ => ⟨S64x179712x1024, .f32⟩
  | .hbm, ⟨84, _⟩ => ⟨S_, .f32⟩
  | .hbm, ⟨85, _⟩ => ⟨S179712x1024, .f32⟩
  | .hbm, ⟨86, _⟩ => ⟨S179712x1024, .bf16⟩
  | .hbm, ⟨87, _⟩ => ⟨S179712x4x256, .bf16⟩
  | .hbm, ⟨88, _⟩ => ⟨S4x179712x256, .bf16⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_v5 : Ref sig .tc := ⟨.hbm, 27, rfl⟩
abbrev main_v6 : Ref sig .tc := ⟨.hbm, 28, rfl⟩
abbrev main_call1_call0_c : Ref sig .tc := ⟨.hbm, 29, rfl⟩
abbrev main_call1_call0_v0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_1 : Ref sig .tc := ⟨.hbm, 47, rfl⟩
abbrev main_v23 : Ref sig .tc := ⟨.hbm, 48, rfl⟩
abbrev main_v24 : Ref sig .tc := ⟨.hbm, 49, rfl⟩
abbrev main_c_2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v45 : Ref sig .tc := ⟨.hbm, 83, rfl⟩
abbrev main_cst_3 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩

abbrev nD : Nat := 1
abbrev τ : Topo := Topo.v7x

variable {F : FTy → Type} [FloatOps F]
-- ==== Main.lean ====
abbrev S8x2304x1024 : Shape := ⟨3, ![8, 2304, 1024]⟩
abbrev S4x1024x5120 : Shape := ⟨3, ![4, 1024, 5120]⟩
abbrev S8x2304x5120 : Shape := ⟨3, ![8, 2304, 5120]⟩
abbrev S1x2304x1024 : Shape := ⟨3, ![1, 2304, 1024]⟩
abbrev S1x1024x1024 : Shape := ⟨3, ![1, 1024, 1024]⟩
abbrev S1x256x1024 : Shape := ⟨3, ![1, 256, 1024]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x2304x1024, .bf16⟩
  | .hbm, ⟨1, _⟩ => ⟨S4x1024x5120, .bf16⟩
  | .hbm, ⟨2, _⟩ => ⟨S8x2304x5120, .bf16⟩
  | .local _ .vmem, ⟨0, _⟩ => ⟨S1x2304x1024, .bf16⟩
  | .local _ .vmem, ⟨1, _⟩ => ⟨S1x2304x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2304x1024, .bf16⟩
  | .local _ .vmem, ⟨5, _⟩ => ⟨S1x2304x1024, .bf16⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

@[reducible] def k0_t1_loop : Scf.Loop 32 :=
  let c0_i32 : BitVec 32 := 0#32
  let c9_i32 : BitVec 32 := 9#32
  let v0 : BitVec 32 := Scalar.addi c0_i32 c9_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  v1
def k0_off1 (k0_t1 : Fin k0_t1_loop.trips) : Fin 3 → Nat :=
  let c0 : Index := 0#32
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  let v2 : BitVec 32 := v1
  let v3 : Index := Scalar.indexCast v2
  let c0_1 : Index := 0#32
  ![0, v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MainReferenceIdeal.lean ====
abbrev S8x2304x1024 : Shape := ⟨3, ![8, 2304, 1024]⟩
abbrev S4x1024x5120 : Shape := ⟨3, ![4, 1024, 5120]⟩
abbrev S1x1024x5120 : Shape := ⟨3, ![1, 1024, 5120]⟩
abbrev S1024x5120 : Shape := ⟨2, ![1024, 5120]⟩
abbrev S8x2304x5120 : Shape := ⟨3, ![8, 2304, 5120]⟩

abbrev nBuf : Space → Nat
  | .hbm => 8
  | .vmem => 0
  | .smem => 0
  | _ => 0

abbrev bufTy : (tb : Table) → Fin (tcTables nBuf tb) → BufTy
  | .hbm, ⟨0, _⟩ => ⟨S8x2304x1024, .bf16⟩
  | .hbm, ⟨1, _⟩ => ⟨S4x1024x5120, .bf16⟩
  | .hbm, ⟨2, _⟩ => ⟨S8x2304x1024, .f32⟩
  | .hbm, ⟨3, _⟩ => ⟨S1x1024x5120, .bf16⟩
  | .hbm, ⟨4, _⟩ => ⟨S1024x5120, .bf16⟩
  | .hbm, ⟨5, _⟩ => ⟨S1024x5120, .f32⟩
  | .hbm, ⟨6, _⟩ => ⟨S8x2304x5120, .f32⟩
  | .hbm, ⟨7, _⟩ => ⟨S8x2304x5120, .bf16⟩
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Side.lean ====
abbrev S8x2304x1024 : Shape := ⟨3, ![8, 2304, 1024]⟩
abbrev S4x1024x3840 : Shape := ⟨3, ![4, 1024, 3840]⟩
abbrev S8x2304x3840 : Shape := ⟨3, ![8, 2304, 3840]⟩
abbrev S1x2304x1024 : Shape := ⟨3, ![1, 2304, 1024]⟩
abbrev S1x1024x1280 : Shape := ⟨3, ![1, 1024, 1280]⟩
abbrev S1x2304x1280 : Shape := ⟨3, ![1, 2304, 1280]⟩
abbrev S1x256x1024 : Shape := ⟨3, ![1, 256, 1024]⟩
abbrev S256x1024 : Shape := ⟨2, ![256, 1024]⟩
abbrev S1024x1280 : Shape := ⟨2, ![1024, 1280]⟩
abbrev S256x1280 : Shape := ⟨2, ![256, 1280]⟩
abbrev S1x256x1280 : Shape := ⟨3, ![1, 256, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8x2304x1024, .bf16⟩
  | .hbm, ⟨1, _⟩ => ⟨S4x1024x3840, .bf16⟩
  | .hbm, ⟨2, _⟩ => ⟨S8x2304x3840, .f32⟩
  | .local _ .vmem, ⟨0, _⟩ => ⟨S1x2304x1024, .bf16⟩
  | .local _ .vmem, ⟨1, _⟩ => ⟨S1x2304x1024, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1x2304x1280, .f32⟩
  | .local _ .vmem, ⟨5, _⟩ => ⟨S1x2304x1280, .f32⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

@[reducible] def k0_t1_loop : Scf.Loop 32 :=
  let c0_i32 : BitVec 32 := 0#32
  let c9_i32 : BitVec 32 := 9#32
  let v0 : BitVec 32 := Scalar.addi c0_i32 c9_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  v1
def k0_off1 (k0_t1 : Fin k0_t1_loop.trips) : Fin 3 → Nat :=
  let c0 : Index := 0#32
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  let v2 : BitVec 32 := v1
  let v3 : Index := Scalar.indexCast v2
  let c0_1 : Index := 0#32
  ![0, v3.toNat, 0]
def k0_off2 (k0_t1 : Fin k0_t1_loop.trips) : Fin 3 → Nat :=
  let c0_5 : Index := 0#32
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  let v2 : BitVec 32 := v1
  let v9 : Index := Scalar.indexCast v2
  let c0_6 : Index := 0#32
  ![0, v9.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2304x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SideReferenceIdeal.lean ====
abbrev S8x2304x1024 : Shape := ⟨3, ![8, 2304, 1024]⟩
abbrev S4x1024x3840 : Shape := ⟨3, ![4, 1024, 3840]⟩
abbrev S1x1024x3840 : Shape := ⟨3, ![1, 1024, 3840]⟩
abbrev S1024x3840 : Shape := ⟨2, ![1024, 3840]⟩
abbrev S8x2304x3840 : Shape := ⟨3, ![8, 2304, 3840]⟩

abbrev nBuf : Space → Nat
  | .hbm => 7
  | .vmem => 0
  | .smem => 0
  | _ => 0

abbrev bufTy : (tb : Table) → Fin (tcTables nBuf tb) → BufTy
  | .hbm, ⟨0, _⟩ => ⟨S8x2304x1024, .bf16⟩
  | .hbm, ⟨1, _⟩ => ⟨S4x1024x3840, .bf16⟩
  | .hbm, ⟨2, _⟩ => ⟨S8x2304x1024, .f32⟩
  | .hbm, ⟨3, _⟩ => ⟨S1x1024x3840, .bf16⟩
  | .hbm, ⟨4, _⟩ => ⟨S1024x3840, .bf16⟩
  | .hbm, ⟨5, _⟩ => ⟨S1024x3840, .f32⟩
  | .hbm, ⟨6, _⟩ => ⟨S8x2304x3840, .f32⟩
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Combine.lean ====
abbrev S294912x256 : Shape := ⟨2, ![294912, 256]⟩
abbrev S18432x8 : Shape := ⟨2, ![18432, 8]⟩
abbrev S2x8x2304x256 : Shape := ⟨4, ![2, 8, 2304, 256]⟩
abbrev S8x2304x1024 : Shape := ⟨3, ![8, 2304, 1024]⟩
abbrev S16x1x6144 : Shape := ⟨3, ![16, 1, 6144]⟩
abbrev S4x1024x512 : Shape := ⟨3, ![4, 1024, 512]⟩
abbrev S4x256x1024 : Shape := ⟨3, ![4, 256, 1024]⟩
abbrev S4x1024 : Shape := ⟨2, ![4, 1024]⟩
abbrev S2x8x18432x256 : Shape := ⟨4, ![2, 8, 18432, 256]⟩
abbrev S1x1024x512 : Shape := ⟨3, ![1, 1024, 512]⟩
abbrev S1024x512 : Shape := ⟨2, ![1024, 512]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S2x8x256x256 : Shape := ⟨4, ![2, 8, 256, 256]⟩
abbrev S256x8 : Shape := ⟨2, ![256, 8]⟩
abbrev S2x1x256x256 : Shape := ⟨4, ![2, 1, 256, 256]⟩
abbrev S1x1x1024 : Shape := ⟨3, ![1, 1, 1024]⟩
abbrev S1x1x256x256 : Shape := ⟨4, ![1, 1, 256, 256]⟩
abbrev S256x256 : Shape := ⟨2, ![256, 256]⟩
abbrev S256x512 : Shape := ⟨2, ![256, 512]⟩
abbrev S256x1 : Shape := ⟨2, ![256, 1]⟩
abbrev S256 : Shape := ⟨1, ![256]⟩

abbrev nBuf : Space → Nat
  | .hbm => 23
  | .vmem => 16
  | .smem => 0
  | _ => 0

abbrev bufTy : (tb : Table) → Fin (tcTables nBuf tb) → BufTy
  | .hbm, ⟨0, _⟩ => ⟨S294912x256, .i32⟩
  | .hbm, ⟨1, _⟩ => ⟨S18432x8, .f32⟩
  | .hbm, ⟨2, _⟩ => ⟨S2x8x2304x256, .i32⟩
  | .hbm, ⟨3, _⟩ => ⟨S8x2304x1024, .f32⟩
  | .hbm, ⟨4, _⟩ => ⟨S16x1x6144, .f32⟩
  | .hbm, ⟨5, _⟩ => ⟨S4x1024x512, .f32⟩
  | .hbm, ⟨6, _⟩ => ⟨S4x256x1024, .f32⟩
  | .hbm, ⟨7, _⟩ => ⟨S4x1024, .f32⟩
  | .hbm, ⟨8, _⟩ => ⟨S4x1024, .f32⟩
  | .hbm, ⟨9, _⟩ => ⟨S2x8x18432x256, .i32⟩
  | .hbm, ⟨10, _⟩ => ⟨S1x1024x512, .f32⟩
  | .hbm, ⟨11, _⟩ => ⟨S1024x512, .f32⟩
  | .hbm, ⟨12, _⟩ => ⟨S1024x512, .bf16⟩
  | .hbm, ⟨13, _⟩ => ⟨S1x256x1024, .f32⟩
  | .hbm, ⟨14, _⟩ => ⟨S256x1024, .f32⟩
  | .hbm, ⟨15, _⟩ => ⟨S256x1024, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S8x2304x1024, .f32⟩
  | .local _ .vmem, ⟨0, _⟩ => ⟨S2x8x256x256, .i32⟩
  | .local _ .vmem, ⟨1, _⟩ => ⟨S2x8x256x256, .i32⟩
  | .local _ .vmem, ⟨2, _⟩ => ⟨S256x8, .f32⟩
  | .local _ .vmem, ⟨3, _⟩ => ⟨S256x8, .f32⟩
  | .local _ .vmem, ⟨4, _⟩ => ⟨S2x1x256x256, .i32⟩
  | .local _ .vmem, ⟨5, _⟩ => ⟨S2x1x256x256, .i32⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x512, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S1x256x1024, .f32⟩
  | .local _ .vmem, ⟨15, _⟩ => ⟨S1x256x1024, .f32⟩
  | _, _ => ⟨S294912x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 9], ![false, false]⟩

def cc0_transform_0 (i : grid0.Coords) : Fin 4 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c5_i32 : BitVec 32 := 5#32
  let c0_i32_1 : BitVec 32 := 0#32
  ![v1.toNat, c0_i32_0.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x8x256x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x256x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== CombineReferenceIdeal.lean ====
abbrev S294912x256 : Shape := ⟨2, ![294912, 256]⟩
abbrev S18432x8 : Shape := ⟨2, ![18432, 8]⟩
abbrev S2x8x2304x256 : Shape := ⟨4, ![2, 8, 2304, 256]⟩
abbrev S8x2304x1024 : Shape := ⟨3, ![8, 2304, 1024]⟩
abbrev S16x1x6144 : Shape := ⟨3, ![16, 1, 6144]⟩
abbrev S4x1024x512 : Shape := ⟨3, ![4, 1024, 512]⟩
abbrev S4x256x1024 : Shape := ⟨3, ![4, 256, 1024]⟩
abbrev S4x1024 : Shape := ⟨2, ![4, 1024]⟩
abbrev S2x8x18432x256 : Shape := ⟨4, ![2, 8, 18432, 256]⟩
abbrev S8x18432x2x256 : Shape := ⟨4, ![8, 18432, 2, 256]⟩
abbrev S8x18432x512 : Shape := ⟨3, ![8, 18432, 512]⟩
abbrev S_ : Shape := ⟨0, ![]⟩
abbrev S8x18432x1024 : Shape := ⟨3, ![8, 18432, 1024]⟩
abbrev S2x18432x256 : Shape := ⟨3, ![2, 18432, 256]⟩
abbrev S18432x2x256 : Shape := ⟨3, ![18432, 2, 256]⟩
abbrev S18432x512 : Shape := ⟨2, ![18432, 512]⟩
abbrev S18432x1024 : Shape := ⟨2, ![18432, 1024]⟩
abbrev S8x18432 : Shape := ⟨2, ![8, 18432]⟩
abbrev S8x18432x1 : Shape := ⟨3, ![8, 18432, 1]⟩
abbrev S1x1024x512 : Shape := ⟨3, ![1, 1024, 512]⟩
abbrev S1024x512 : Shape := ⟨2, ![1024, 512]⟩
abbrev S18432x256 : Shape := ⟨2, ![18432, 256]⟩
abbrev S1x256x1024 : Shape := ⟨3, ![1, 256, 1024]⟩
abbrev S256x1024 : Shape := ⟨2, ![256, 1024]⟩
abbrev S16x1x1024 : Shape := ⟨3, ![16, 1, 1024]⟩
abbrev S2304 : Shape := ⟨1, ![2304]⟩
abbrev S1x2304x1 : Shape := ⟨3, ![1, 2304, 1]⟩
abbrev S1x1x1024 : Shape := ⟨3, ![1, 1, 1024]⟩
abbrev S1x1024 : Shape := ⟨2, ![1, 1024]⟩
abbrev S8x1x1024 : Shape := ⟨3, ![8, 1, 1024]⟩
abbrev S8x2304 : Shape := ⟨2, ![8, 2304]⟩
abbrev S8x2304x1 : Shape := ⟨3, ![8, 2304, 1]⟩
abbrev S1024 : Shape := ⟨1, ![1024]⟩

abbrev nBuf : Space → Nat
  | .hbm => 115
  | .vmem => 0
  | .smem => 0
  | _ => 0

abbrev bufTy : (tb : Table) → Fin (tcTables nBuf tb) → BufTy
  | .hbm, ⟨0, _⟩ => ⟨S294912x256, .i32⟩
  | .hbm, ⟨1, _⟩ => ⟨S18432x8, .f32⟩
  | .hbm, ⟨2, _⟩ => ⟨S2x8x2304x256, .i32⟩
  | .hbm, ⟨3, _⟩ => ⟨S8x2304x1024, .f32⟩
  | .hbm, ⟨4, _⟩ => ⟨S16x1x6144, .f32⟩
  | .hbm, ⟨5, _⟩ => ⟨S4x1024x512, .f32⟩
  | .hbm, ⟨6, _⟩ => ⟨S4x256x1024, .f32⟩
  | .hbm, ⟨7, _⟩ => ⟨S4x1024, .f32⟩
  | .hbm, ⟨8, _⟩ => ⟨S4x1024, .f32⟩
  | .hbm, ⟨9, _⟩ => ⟨S2x8x18432x256, .i32⟩
  | .hbm, ⟨10, _⟩ => ⟨S8x18432x2x256, .i32⟩
  | .hbm, ⟨11, _⟩ => ⟨S8x18432x512, .i32⟩
  | .hbm, ⟨12, _⟩ => ⟨S8x18432x512, .i32⟩
  | .hbm, ⟨13, _⟩ => ⟨S_, .i32⟩
  | .hbm, ⟨14, _⟩ => ⟨S8x18432x512, .i32⟩
  | .hbm, ⟨15, _⟩ => ⟨S8x18432x512, .i32⟩
  | .hbm, ⟨16, _⟩ => ⟨S_, .i32⟩
  | .hbm, ⟨17, _⟩ => ⟨S8x18432x512, .i32⟩
  | .hbm, ⟨18, _⟩ => ⟨S8x18432x512, .i32⟩
  | .hbm, ⟨19, _⟩ => ⟨S8x18432x1024, .i32⟩
  | .hbm, ⟨20, _⟩ => ⟨S8x18432x1024, .f32⟩
  | .hbm, ⟨21, _⟩ => ⟨S2x18432x256, .i32⟩
  | .hbm, ⟨22, _⟩ => ⟨S18432x2x256, .i32⟩
  | .hbm, ⟨23, _⟩ => ⟨S18432x512, .i32⟩
  | .hbm, ⟨24, _⟩ => ⟨S18432x512, .i32⟩
  | .hbm, ⟨25, _⟩ => ⟨S_, .i32⟩
  | .hbm, ⟨26, _⟩ => ⟨S18432x512, .i32⟩
  | .hbm, ⟨27, _⟩ => ⟨S18432x512, .i32⟩
  | .hbm, ⟨28, _⟩ => ⟨S_, .i32⟩
  | .hbm, ⟨29, _⟩ => ⟨S18432x512, .i32⟩
  | .hbm, ⟨30, _⟩ => ⟨S18432x512, .i32⟩
  | .hbm, ⟨31, _⟩ => ⟨S18432x1024, .i32⟩
  | .hbm, ⟨32, _⟩ => ⟨S18432x1024, .f32⟩
  | .hbm, ⟨33, _⟩ => ⟨S8x18432, .f32⟩
  | .hbm, ⟨34, _⟩ => ⟨S8x18432x1, .f32⟩
  | .hbm, ⟨35, _⟩ => ⟨S8x18432x1024, .f32⟩
  | .hbm, ⟨36, _⟩ => ⟨S8x18432x1024, .f32⟩
  | .hbm, ⟨37, _⟩ => ⟨S_, .f32⟩
  | .hbm, ⟨38, _⟩ => ⟨S18432x1024, .f32⟩
  | .hbm, ⟨39, _⟩ => ⟨S1x1024x512, .f32⟩
  | .hbm, ⟨40, _⟩ => ⟨S1024x512, .f32⟩
  | .hbm, ⟨41, _⟩ => ⟨S18432x512, .f32⟩
  | .hbm, ⟨42, _⟩ => ⟨S18432x256, .f32⟩
  | .hbm, ⟨43, _⟩ => ⟨S18432x256, .f32⟩
  | .hbm, ⟨44, _⟩ => ⟨S18432x256, .f32⟩
  | .hbm, ⟨45, _⟩ => ⟨S18432x256, .f32⟩
  | .hbm, ⟨46, _⟩ => ⟨S_, .f32⟩
  | .hbm, ⟨47, _⟩ => ⟨S18432x256, .f32⟩
  | .hbm, ⟨48, _⟩ => ⟨S18432x256, .f32⟩
  | .hbm, ⟨49, _⟩ => ⟨S_, .f32⟩
  | .hbm, ⟨50, _⟩ => ⟨S18432x256, .f32⟩
  | .hbm, ⟨51, _⟩ => ⟨S18432x256, .f32⟩
  | .hbm, ⟨52, _⟩ => ⟨S18432x256, .f32⟩
  | .hbm, ⟨53, _⟩ => ⟨S18432x256, .f32⟩
  | .hbm, ⟨54, _⟩ => ⟨S1x256x1024, .f32⟩
  | .hbm, ⟨55, _⟩ => ⟨S256x1024, .f32⟩
  | .hbm, ⟨56, _⟩ => ⟨S18432x1024, .f32⟩
  | .hbm, ⟨57, _⟩ => ⟨S18432x1024, .f32⟩
  | .hbm, ⟨58, _⟩ => ⟨S8x2304x1024, .f32⟩
  | .hbm, ⟨59, _⟩ => ⟨S16x1x1024, .f32⟩
  | .hbm, ⟨60, _⟩ => ⟨S16x1x1024, .f32⟩
  | .hbm, ⟨61, _⟩ => ⟨S16x1x1024, .f32⟩
  | .hbm, ⟨62, _⟩ => ⟨S16x1x1024, .f32⟩
  | .hbm, ⟨63, _⟩ => ⟨S16x1x1024, .f32⟩
  | .hbm, ⟨64, _⟩ => ⟨S16x1x1024, .f32⟩
  | .hbm, ⟨65, _⟩ => ⟨S2304, .i32⟩
  | .hbm, ⟨66, _⟩ => ⟨S1x2304x1, .i32⟩
  | .hbm, ⟨67, _⟩ => ⟨S_, .i32⟩
  | .hbm, ⟨68, _⟩ => ⟨S1x2304x1, .i32⟩
  | .hbm, ⟨69, _⟩ => ⟨S1x2304x1, .i1⟩
  | .hbm, ⟨70, _⟩ => ⟨S_, .f32⟩
  | .hbm, ⟨71, _⟩ => ⟨S8x2304x1024, .f32⟩
  | .hbm, ⟨72, _⟩ => ⟨S8x2304x1024, .f32⟩
  | .hbm, ⟨73, _⟩ => ⟨S1x1x1024, .f32⟩
  | .hbm, ⟨74, _⟩ => ⟨S1x1024, .f32⟩
  | .hbm, ⟨75, _⟩ => ⟨S8x1x1024, .f32⟩
  | .hbm, ⟨76, _⟩ => ⟨S8x2304x1024, .i1⟩
  | .hbm, ⟨77, _⟩ => ⟨S8x2304x1024, .f32⟩
  | .hbm, ⟨78, _⟩ => ⟨S8x2304x1024, .f32⟩
  | .hbm, ⟨79, _⟩ => ⟨S8x2304x1024, .f32⟩
  | .hbm, ⟨80, _⟩ => ⟨S8x2304x1024, .f32⟩
  | .hbm, ⟨81, _⟩ => ⟨S8x2304x1024, .f32⟩
  | .hbm, ⟨82, _⟩ => ⟨S_, .f32⟩
  | .hbm, ⟨83, _⟩ => ⟨S8x2304, .f32⟩
  | .hbm, ⟨84, _⟩ => ⟨S8x2304x1, .f32⟩
  | .hbm, ⟨85, _⟩ => ⟨S_, .f32⟩
  | .hbm, ⟨86, _⟩ => ⟨S8x2304x1, .f32⟩
  | .hbm, ⟨87, _⟩ => ⟨S8x2304x1, .f32⟩
  | .hbm, ⟨88, _⟩ => ⟨S8x2304x1024, .f32⟩
  | .hbm, ⟨89, _⟩ => ⟨S8x2304x1024, .f32⟩
  | .hbm, ⟨90, _⟩ => ⟨S8x2304x1024, .f32⟩
  | .hbm, ⟨91, _⟩ => ⟨S_, .f32⟩
  | .hbm, ⟨92, _⟩ => ⟨S8x2304, .f32⟩
  | .hbm, ⟨93, _⟩ => ⟨S8x2304x1, .f32⟩
  | .hbm, ⟨94, _⟩ => ⟨S_, .f32⟩
  | .hbm, ⟨95, _⟩ => ⟨S8x2304x1, .f32⟩
  | .hbm, ⟨96, _⟩ => ⟨S8x2304x1, .f32⟩
  | .hbm, ⟨97, _⟩ => ⟨S8x2304x1024, .f32⟩
  | .hbm, ⟨98, _⟩ => ⟨S8x2304x1024, .f32⟩
  | .hbm, ⟨99, _⟩ => ⟨S_, .f32⟩
  | .hbm, ⟨100, _⟩ => ⟨S8x2304x1, .f32⟩
  | .hbm, ⟨101, _⟩ => ⟨S8x2304x1, .f32⟩
  | .hbm, ⟨102, _⟩ => ⟨S8x2304x1, .f32⟩
  | .hbm, ⟨103, _⟩ => ⟨S8x2304x1024, .f32⟩
  | .hbm, ⟨104, _⟩ => ⟨S8x2304x1024, .f32⟩
  | .hbm, ⟨105, _⟩ => ⟨S1x1024, .f32⟩
  | .hbm, ⟨106, _⟩ => ⟨S1024, .f32⟩
  | .hbm, ⟨107, _⟩ => ⟨S1x1x1024, .f32⟩
  | .hbm, ⟨108, _⟩ => ⟨S8x2304x1024, .f32⟩
  | .hbm, ⟨109, _⟩ => ⟨S8x2304x1024, .f32⟩
  | .hbm, ⟨110, _⟩ => ⟨S1x1024, .f32⟩
  | .hbm, ⟨111, _⟩ => ⟨S1024, .f32⟩
  | .hbm, ⟨112, _⟩ => ⟨S1x1x1024, .f32⟩
  | .hbm, ⟨113, _⟩ => ⟨S8x2304x1024, .f32⟩
  | .hbm, ⟨114, _⟩ => ⟨S8x2304x1024, .f32⟩
  | _, _ => ⟨S294912x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_3 : Ref sig .tc := ⟨.hbm, 67, rfl⟩
abbrev main_v45 : Ref sig .tc := ⟨.hbm, 68, rfl⟩
abbrev main_v46 : Ref sig .tc := ⟨.hbm, 69, rfl⟩
abbrev main_cst_4 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_5 : Ref sig .tc := ⟨.hbm, 82, rfl⟩
abbrev main_v55 : Ref sig .tc := ⟨.hbm, 83, rfl⟩
abbrev main_v56 : Ref sig .tc := ⟨.hbm, 84, rfl⟩
abbrev main_cst_6 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_7 : Ref sig .tc := ⟨.hbm, 91, rfl⟩
abbrev main_v62 : Ref sig .tc := ⟨.hbm, 92, rfl⟩
abbrev main_v63 : Ref sig .tc := ⟨.hbm, 93, rfl⟩
abbrev main_cst_8 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_9 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]
-- ==== Attend.lean ====
abbrev S8x2304x1024 : Shape := ⟨3, ![8, 2304, 1024]⟩
abbrev S8x2304x512 : Shape := ⟨3, ![8, 2304, 512]⟩
abbrev S1x256x256 : Shape := ⟨3, ![1, 256, 256]⟩
abbrev S1x2304x256 : Shape := ⟨3, ![1, 2304, 256]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x64 : Shape := ⟨2, ![256, 64]⟩
abbrev S1x768x128 : Shape := ⟨3, ![1, 768, 128]⟩
abbrev S768x128 : Shape := ⟨2, ![768, 128]⟩
abbrev S256x768 : Shape := ⟨2, ![256, 768]⟩

abbrev nBuf : Space → Nat
  | .hbm => 4
  | .vmem => 8
  | .smem => 0
  | _ => 0

abbrev bufTy : (tb : Table) → Fin (tcTables nBuf tb) → BufTy
  | .hbm, ⟨0, _⟩ => ⟨S8x2304x1024, .bf16⟩
  | .hbm, ⟨1, _⟩ => ⟨S8x2304x1024, .bf16⟩
  | .hbm, ⟨2, _⟩ => ⟨S8x2304x1024, .bf16⟩
  | .hbm, ⟨3, _⟩ => ⟨S8x2304x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x256, .bf16⟩
  | .local _ .vmem, ⟨5, _⟩ => ⟨S1x2304x256, .bf16⟩
  | .local _ .vmem, ⟨6, _⟩ => ⟨S1x256x128, .bf16⟩
  | .local _ .vmem, ⟨7, _⟩ => ⟨S1x256x128, .bf16⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttendReferenceIdeal.lean ====
abbrev S8x2304x1024 : Shape := ⟨3, ![8, 2304, 1024]⟩
abbrev S8x2304x8x128 : Shape := ⟨4, ![8, 2304, 8, 128]⟩
abbrev S8x2304x8x64 : Shape := ⟨4, ![8, 2304, 8, 64]⟩
abbrev S8x256x8x128 : Shape := ⟨4, ![8, 256, 8, 128]⟩
abbrev S8x256x8x64 : Shape := ⟨4, ![8, 256, 8, 64]⟩
abbrev S8x8x256x256 : Shape := ⟨4, ![8, 8, 256, 256]⟩
abbrev S_ : Shape := ⟨0, ![]⟩
abbrev S8x8x256 : Shape := ⟨3, ![8, 8, 256]⟩
abbrev S8x8x256x1 : Shape := ⟨4, ![8, 8, 256, 1]⟩
abbrev S8x8x256x64 : Shape := ⟨4, ![8, 8, 256, 64]⟩
abbrev S8x2048x8x128 : Shape := ⟨4, ![8, 2048, 8, 128]⟩
abbrev S8x8x2048x2304 : Shape := ⟨4, ![8, 8, 2048, 2304]⟩
abbrev S8x8x2048 : Shape := ⟨3, ![8, 8, 2048]⟩
abbrev S8x8x2048x1 : Shape := ⟨4, ![8, 8, 2048, 1]⟩
abbrev S8x8x2048x64 : Shape := ⟨4, ![8, 8, 2048, 64]⟩
abbrev S8x8x2304x64 : Shape := ⟨4, ![8, 8, 2304, 64]⟩
abbrev S8x2304x512 : Shape := ⟨3, ![8, 2304, 512]⟩

abbrev nBuf : Space → Nat
  | .hbm => 48
  | .vmem => 0
  | .smem => 0
  | _ => 0

abbrev bufTy : (tb : Table) → Fin (tcTables nBuf tb) → BufTy
  | .hbm, ⟨0, _⟩ => ⟨S8x2304x1024, .bf16⟩
  | .hbm, ⟨1, _⟩ => ⟨S8x2304x1024, .bf16⟩
  | .hbm, ⟨2, _⟩ => ⟨S8x2304x1024, .bf16⟩
  | .hbm, ⟨3, _⟩ => ⟨S8x2304x1024, .f32⟩
  | .hbm, ⟨4, _⟩ => ⟨S8x2304x8x128, .f32⟩
  | .hbm, ⟨5, _⟩ => ⟨S8x2304x1024, .f32⟩
  | .hbm, ⟨6, _⟩ => ⟨S8x2304x8x128, .f32⟩
  | .hbm, ⟨7, _⟩ => ⟨S8x2304x1024, .f32⟩
  | .hbm, ⟨8, _⟩ => ⟨S8x2304x8x128, .f32⟩
  | .hbm, ⟨9, _⟩ => ⟨S8x2304x8x64, .f32⟩
  | .hbm, ⟨10, _⟩ => ⟨S8x256x8x128, .f32⟩
  | .hbm, ⟨11, _⟩ => ⟨S8x256x8x128, .f32⟩
  | .hbm, ⟨12, _⟩ => ⟨S8x256x8x64, .f32⟩
  | .hbm, ⟨13, _⟩ => ⟨S8x8x256x256, .f32⟩
  | .hbm, ⟨14, _⟩ => ⟨S_, .f32⟩
  | .hbm, ⟨15, _⟩ => ⟨S8x8x256, .f32⟩
  | .hbm, ⟨16, _⟩ => ⟨S8x8x256x1, .f32⟩
  | .hbm, ⟨17, _⟩ => ⟨S8x8x256x256, .f32⟩
  | .hbm, ⟨18, _⟩ => ⟨S8x8x256x256, .f32⟩
  | .hbm, ⟨19, _⟩ => ⟨S_, .f32⟩
  | .hbm, ⟨20, _⟩ => ⟨S8x8x256x256, .f32⟩
  | .hbm, ⟨21, _⟩ => ⟨S8x8x256x256, .f32⟩
  | .hbm, ⟨22, _⟩ => ⟨S8x8x256x64, .f32⟩
  | .hbm, ⟨23, _⟩ => ⟨S_, .f32⟩
  | .hbm, ⟨24, _⟩ => ⟨S8x8x256, .f32⟩
  | .hbm, ⟨25, _⟩ => ⟨S8x8x256x1, .f32⟩
  | .hbm, ⟨26, _⟩ => ⟨S8x8x256x64, .f32⟩
  | .hbm, ⟨27, _⟩ => ⟨S8x8x256x64, .f32⟩
  | .hbm, ⟨28, _⟩ => ⟨S8x2048x8x128, .f32⟩
  | .hbm, ⟨29, _⟩ => ⟨S8x8x2048x2304, .f32⟩
  | .hbm, ⟨30, _⟩ => ⟨S_, .f32⟩
  | .hbm, ⟨31, _⟩ => ⟨S8x8x2048, .f32⟩
  | .hbm, ⟨32, _⟩ => ⟨S8x8x2048x1, .f32⟩
  | .hbm, ⟨33, _⟩ => ⟨S8x8x2048x2304, .f32⟩
  | .hbm, ⟨34, _⟩ => ⟨S8x8x2048x2304, .f32⟩
  | .hbm, ⟨35, _⟩ => ⟨S_, .f32⟩
  | .hbm, ⟨36, _⟩ => ⟨S8x8x2048x2304, .f32⟩
  | .hbm, ⟨37, _⟩ => ⟨S8x8x2048x2304, .f32⟩
  | .hbm, ⟨38, _⟩ => ⟨S8x8x2048x64, .f32⟩
  | .hbm, ⟨39, _⟩ => ⟨S_, .f32⟩
  | .hbm, ⟨40, _⟩ => ⟨S8x8x2048, .f32⟩
  | .hbm, ⟨41, _⟩ => ⟨S8x8x2048x1, .f32⟩
  | .hbm, ⟨42, _⟩ => ⟨S8x8x2048x64, .f32⟩
  | .hbm, ⟨43, _⟩ => ⟨S8x8x2048x64, .f32⟩
  | .hbm, ⟨44, _⟩ => ⟨S8x8x2304x64, .f32⟩
  | .hbm, ⟨45, _⟩ => ⟨S8x2304x8x64, .f32⟩
  | .hbm, ⟨46, _⟩ => ⟨S8x2304x512, .f32⟩
  | .hbm, ⟨47, _⟩ => ⟨S8x2304x512, .bf16⟩
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Proof.Words.lean ====
/-
  The control words of the gather's pipeline. A tile runs seventy-two trips; five words are carried from trip to trip
  (the next index fetch, the index wait, the row fetch, the row write-out, the trip itself). Here: what the five words
  are before trip `t`, which conditions hold there, and where every access of the trip starts. All of it is evaluated
  over the 2 × 16 tiles and the 72 trips.
-/
module

public import proofs.«01_k».proof.Proof.Gen.KernelIdeal
public import proofs.«01_k».proof.Proof.Gen.KernelIdeal.Skeleton

@[expose] public section

set_option maxRecDepth 65536

namespace Cert.Proof.Words

open Cert.KernelIdeal Cert.KernelIdeal.Gen
open Idealize.ShloMosaic Idealize.SL.Sem

/-- The first block of a tile: seventy-two blocks each, tiles counted along the subcores of a core first. -/
def base (i : grid0.Coords) : ℕ := 72 * ((i 1).val + 16 * (i 0).val)

/-- The same as the word the kernel computes. -/
abbrev baseW (i : grid0.Coords) : BitVec 32 :=
  Scalar.muli (Scalar.addi (Scalar.addi 0#32 (Scalar.muli (BitVec.ofNat 32 (i 1).val) 1#32)) (Scalar.muli (BitVec.ofNat 32 (i 0).val) 16#32)) 72#32

/-- Index fetches begun before trip `t` (the last trip begins none). -/
def fetched (t : ℕ) : BitVec 32 := BitVec.ofNat 32 (min (t + 1) 72)
/-- Trips done before trip `t`. -/
def done (t : ℕ) : BitVec 32 := BitVec.ofNat 32 t
/-- Write-outs waited for before trip `t`. -/
def drained (t : ℕ) : BitVec 32 := BitVec.ofNat 32 (t - 1)
/-- The trip's block among the tile's seventy-two, wrapping after the last. -/
def block (t : ℕ) : BitVec 32 := if t = 72 then 0#32 else BitVec.ofNat 32 t

theorem trips_eq : k0_t1_loop.trips = 72 := by decide +kernel

theorem trip_lt (t : Fin k0_t1_loop.trips) : t.val < 72 := trips_eq ▸ t.isLt

theorem base_le (i : grid0.Coords) : base i + 72 ≤ 2304 := by
  have h1 : (i 1).val < 16 := (i 1).isLt
  have h0 : (i 0).val < 2 := (i 0).isLt
  unfold base; omega

/-! ## Conditions -/

theorem cond1_iff : ∀ (i : grid0.Coords) (t : Fin k0_t1_loop.trips), (k0_cond1 i t (block t.val) = 1#1) ↔ t.val < 71 := by decide +kernel
theorem cond2_true : ∀ (i : grid0.Coords) (t : Fin k0_t1_loop.trips), k0_cond2 i t (block t.val) = 1#1 := by decide +kernel
theorem cond5_true : ∀ (i : grid0.Coords) (t : Fin k0_t1_loop.trips), k0_cond5 i t (block t.val) = 1#1 := by decide +kernel
theorem cond7_iff : ∀ (i : grid0.Coords) (t : Fin k0_t1_loop.trips), (k0_cond7 i t (block t.val) = 1#1) ↔ 0 < t.val := by decide +kernel

/-! ## Where the accesses start -/

theorem off1_eq : k0_off1 = ![0, 0, 0] := by decide +kernel
theorem off3_eq : k0_off3 = ![0] := by decide +kernel
theorem off2_eq : ∀ i : grid0.Coords, k0_off2 i = ![0, 128 * base i] := by decide +kernel
theorem off4_eq : ∀ t : Fin 72, t.val < 71 → k0_off4 (fetched t.val) = ![(t.val + 1) % 2, 0, 0] := by decide +kernel
theorem off6_eq : ∀ t : Fin 72, t.val < 71 → k0_off6 (fetched t.val) = ![(t.val + 1) % 2] := by decide +kernel
theorem off5_eq : ∀ (i : grid0.Coords) (t : Fin 72), t.val < 71 → k0_off5 i (block t.val) = ![0, 128 * (base i + t.val + 1)] := by decide +kernel
theorem off7_eq : ∀ t : Fin 72, k0_off7 (done t.val) = ![t.val % 2, 0, 0] := by decide +kernel
theorem off8_eq : ∀ (i : grid0.Coords) (t : Fin 72), k0_off8 i (block t.val) = ![0, 128 * (base i + t.val)] := by decide +kernel
theorem off9_eq : ∀ t : Fin 72, k0_off9 (done t.val) = ![t.val % 2] := by decide +kernel
theorem off10_eq : ∀ t : Fin 72, k0_off10 (done t.val) = ![t.val % 2, 0, 0, 0] := by decide +kernel
theorem off11_eq : ∀ t : Fin 72, k0_off11 (done t.val) = ![t.val % 2, 0, 0] := by decide +kernel
theorem off12_eq : ∀ t : Fin 72, k0_off12 (done t.val) = ![t.val % 2, 0, 0, 0] := by decide +kernel
theorem off13_eq : ∀ (i : grid0.Coords) (t : Fin 72), k0_off13 i (block t.val) = ![128 * (base i + t.val), 0, 0] := by decide +kernel
theorem off14_eq : ∀ t : Fin 72, k0_off14 (done t.val) = ![t.val % 2] := by decide +kernel
theorem off15_eq : ∀ t : Fin 72, 0 < t.val → k0_off15 (drained t.val) = ![(t.val + 1) % 2, 0, 0, 0] := by decide +kernel
theorem off16_eq : ∀ (i : grid0.Coords) (t : Fin 72), 0 < t.val → k0_off16 i (block t.val) = ![128 * (base i + t.val - 1), 0, 0] := by decide +kernel
theorem off17_eq : ∀ t : Fin 72, 0 < t.val → k0_off17 (drained t.val) = ![(t.val + 1) % 2] := by decide +kernel
theorem off18_eq : k0_off18 (drained 72) = ![1, 0, 0, 0] := by decide +kernel
theorem off19_eq : ∀ i : grid0.Coords, k0_off19 i (block 72) = ![128 * (base i + 71), 0, 0] := by decide +kernel
theorem off20_eq : k0_off20 (drained 72) = ![1] := by decide +kernel
theorem off21_eq : k0_off21 (drained 72) = ![1, 0, 0, 0] := by decide +kernel

/-! ## The side conditions -/

theorem chk3_ok : ∀ t : Fin 72, k0_chk3 (done t.val) := by decide +kernel
theorem chk2_ok : ∀ t : Fin 72, k0_chk2 (done t.val) := by decide +kernel
theorem chk1_ok : ∀ (i : grid0.Coords) (t : Fin k0_t1_loop.trips),
    k0_chk1 i t (fetched t.val) (done t.val) (done t.val) (drained t.val) (block t.val) := by decide +kernel
theorem chk5_ok : ∀ i : grid0.Coords, k0_chk5 i (block 72) := by decide +kernel
theorem chk4_ok : k0_chk4 (drained 72) := by decide +kernel

/-! ## The words carried on -/

/-- The four words a trip hands on, each as the kernel computes it. -/
def next (b : BitVec 32) (t : ℕ) : BitVec 32 × BitVec 32 × BitVec 32 × BitVec 32 × BitVec 32 :=
  let arg5 := Scf.iv 0#32 1#32 t
  let v64 := Scalar.cmpi .eq arg5 0#32
  let v65 := Scalar.cmpi .eq arg5 71#32
  let v66 := Scalar.addi (block t) b
  let v68 := Scalar.select 1#1 (Scalar.subi (block t) 1#32) (block t)
  let v71 := Scalar.addi (Scalar.select (Scalar.cmpi .eq v68 4294967295#32) 71#32 v68) b
  let v73 := Scalar.select 1#1 (Scalar.addi (block t) 1#32) (block t)
  let v76 := Scalar.addi (Scalar.select (Scalar.cmpi .eq v73 72#32) 0#32 v73) b
  let v85 := Scalar.andi (Scalar.cmpi .ne v66 v76) (Scalar.xori (Scalar.cmpi .sge arg5 71#32) 1#1)
  let v91 := Scalar.select (Scalar.andi v85 1#1) (Scalar.addi (fetched t) 1#32) (fetched t)
  let v139 := Scalar.select (Scalar.ori (Scalar.cmpi .ne v66 v76) v65) (Scalar.addi (done t) 1#32) (done t)
  let v121 := Scalar.select (Scalar.andi (Scalar.ori (Scalar.cmpi .ne v66 v76) v65) 1#1) (Scalar.addi (done t) 1#32) (done t)
  let v130 := Scalar.andi (Scalar.cmpi .ne v66 v71) (Scalar.xori v64 1#1)
  let v135 := Scalar.select (Scalar.andi v130 1#1) (Scalar.addi (drained t) 1#32) (drained t)
  let v141 := Scalar.select 1#1 (Scalar.addi (block t) 1#32) (block t)
  (v91, v139, v121, v135, Scalar.select (Scalar.cmpi .eq v141 72#32) 0#32 v141)

theorem next_eq : ∀ (i : grid0.Coords) (t : Fin 72),
    next (baseW i) t.val = (fetched (t.val + 1), done (t.val + 1), done (t.val + 1), drained (t.val + 1), block (t.val + 1)) := by decide +kernel

theorem start_eq : (Scalar.addi 0#32 1#32, 0#32, 0#32, 0#32, 0#32) = (fetched 0, done 0, done 0, drained 0, block 0) := by decide +kernel

end Cert.Proof.Words
-- ==== Proof.Setup.lean ====
/-
  The gather as the SparseCore launch theorem sees it, its buffers, and what they hold: the table of rows (each row two
  lines of 128 words), the list of row numbers, the result, and each tile's two-slot scratch buffers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueLayout
public import proofs.«01_k».proof.Proof.Words

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev tabLoc (d : Dev nD) : Loc nD τ sig := (SparseCore.T d).loc main_v0
abbrev idxLoc (d : Dev nD) : Loc nD τ sig := (SparseCore.T d).loc main_v1
abbrev outLoc (d : Dev nD) : Loc nD τ sig := (SparseCore.T d).loc main_v2

abbrev tabM : Memref sig .scVector .hbm S359424x2x128 .i32 := Memref.whole main_v0_scv
abbrev idxM : Memref sig .scVector .hbm S1x294912 .i32 := Memref.whole main_v1_scv
abbrev outM : Memref sig .scVector .hbm S294912x2x128 .i32 := Memref.whole main_v2_scv
abbrev listM : Memref sig .scVector .vmem S2x1x128 .i32 := Memref.whole cc0_scoped0
abbrev rowsM : Memref sig .scVector .vmem S2x128x2x128 .i32 := Memref.whole cc0_scoped2

abbrev cV (i : grid0.Coords) : Fin τ.nSC := (i 0).castLE hcore0
abbrev jV (i : grid0.Coords) : Fin τ.nSub := (i 1).castLE hsub0
/-- The tile at grid coordinates `i`, and its scratch buffers. -/
abbrev tile (d : Dev nD) (i : grid0.Coords) : Thread nD τ := V d (cV i) (jV i)
abbrev listLoc (d : Dev nD) (i : grid0.Coords) : Loc nD τ sig := (tile d i).loc cc0_scoped0
abbrev rowsLoc (d : Dev nD) (i : grid0.Coords) : Loc nD τ sig := (tile d i).loc cc0_scoped2

/-! ## What they hold -/

/-- The table's row a word names (the first row, for a word that names none). -/
def rowOf (v : BitVec 32) : Fin 359424 := if h : v.toNat < 359424 then ⟨v.toNat, h⟩ else 0

/-- Position `n` of the list (wrapping, so that it is one for every number). -/
def pos (n : ℕ) : Fin 294912 := ⟨n % 294912, Nat.mod_lt _ (by decide)⟩

section Contents
variable (d : Dev nD) (i : grid0.Coords) (tab : Buf (Elt F) (tabLoc d)) (idx : Buf (Elt F) (idxLoc d))

/-- The result: row `x 0` is the table's row the list names at `x 0`. -/
def outC : Buf (Elt F) (outLoc d) := fun x : S294912x2x128.Idx =>
  (show Elt F .i32 from tab (ValueIdx.ix3 (rowOf (show BitVec 32 from idx (ValueIdx.ix2 (0 : Fin 1) (x 0)))) (x 1) (x 2)))

/-- The list scratch, in a slot that holds block `B` of the list. -/
def listC (B : ℕ) : Buf (Elt F) (listLoc d i) := fun x : S2x1x128.Idx =>
  (show Elt F .i32 from idx (ValueIdx.ix2 (0 : Fin 1) (pos (128 * B + (x 2).val))))

/-- The rows scratch, in a slot that holds the rows block `B` names. -/
def rowsC (B : ℕ) : Buf (Elt F) (rowsLoc d i) := fun x : S2x128x2x128.Idx =>
  (show Elt F .i32 from tab (ValueIdx.ix3 (rowOf (show BitVec 32 from idx (ValueIdx.ix2 (0 : Fin 1) (pos (128 * B + (x 1).val))))) (x 2) (x 3)))

/-- Every word of the list names a row. -/
def Named : Prop := ∀ x : S1x294912.Idx, (show BitVec 32 from idx x).toNat < 359424

end Contents

/-! ## Element sets -/

def listS (p : ℕ) : Finset S2x1x128.Idx := Finset.univ.filter fun x => (x 0).val = p
def rowsS (p : ℕ) : Finset S2x128x2x128.Idx := Finset.univ.filter fun x => (x 0).val = p
/-- The result's blocks from `a` to `b`. -/
def blocksS (a b : ℕ) : Finset S294912x2x128.Idx := Finset.univ.filter fun x => 128 * a ≤ (x 0).val ∧ (x 0).val < 128 * b

theorem listS_disjoint : Disjoint (listS 0) (listS 1) :=
  Finset.disjoint_filter.mpr fun _ _ h => by omega
theorem rowsS_disjoint : Disjoint (rowsS 0) (rowsS 1) :=
  Finset.disjoint_filter.mpr fun _ _ h => by omega
theorem listS_union : listS 0 ∪ listS 1 = Finset.univ := by
  ext x; have : (x 0).val < 2 := (x 0).isLt
  simp only [listS, Finset.mem_union, Finset.mem_filter, Finset.mem_univ, true_and, iff_true]; omega
theorem rowsS_union : rowsS 0 ∪ rowsS 1 = Finset.univ := by
  ext x; have : (x 0).val < 2 := (x 0).isLt
  simp only [rowsS, Finset.mem_union, Finset.mem_filter, Finset.mem_univ, true_and, iff_true]; omega
theorem blocksS_disjoint {a b a' b' : ℕ} (h : b ≤ a' ∨ b' ≤ a) : Disjoint (blocksS a b) (blocksS a' b') :=
  Finset.disjoint_filter.mpr fun _ _ h => by omega
theorem blocksS_union {a b c : ℕ} (h : a ≤ b) (h' : b ≤ c) : blocksS a b ∪ blocksS b c = blocksS a c := by
  ext x
  simp only [blocksS, Finset.mem_union, Finset.mem_filter, Finset.mem_univ, true_and]; omega
theorem blocksS_empty (a : ℕ) : blocksS a a = ∅ := by
  ext x; simp only [blocksS, Finset.mem_filter, Finset.mem_univ, true_and, Finset.notMem_empty, iff_false]; omega

end Cert.Proof.Gather

end
-- ==== Proof.Views.lean ====
/-
  The parts of the buffers a trip addresses: a slot of the list scratch, a slot of the rows scratch, a block of the list,
  a block of the result, and the list a fetch reads its row numbers from. For each: which elements it is, where its
  elements lie, and which semaphore guards it.
-/
module

public import proofs.«01_k».proof.Proof.Setup

@[expose] public section

noncomputable section

namespace Cert.Proof.Gather

open Cert.KernelIdeal Cert.KernelIdeal.Gen Cert.Proof.Words

open Idealize.ShloMosaic
open Idealize.ShloMosaic.SparseCore (S V T)
open Idealize.SL Idealize.SL.RA Idealize.SL.BI Idealize.SL.Sem

/-! ## As the kernel writes them -/

abbrev listSlot (off : Fin 3 → ℕ) (inb : ∀ a, off a + S1x1x128.size a ≤ S2x1x128.size a) : Memref sig .scVector .vmem S1x128 .i32 :=
  (listM.slice (Rect.unit (s := S2x1x128) off S1x1x128.size inb) (fun _ => rfl)).squeeze S1x128 squeezes_S1x1x128_S1x128
abbrev rowsSlot (off : Fin 4 → ℕ) (inb : ∀ a, off a + S1x128x2x128.size a ≤ S2x128x2x128.size a) : Memref sig .scVector .vmem S128x2x128 .i32 :=
  (rowsM.slice (Rect.unit (s := S2x128x2x128) off S1x128x2x128.size inb) (fun _ => rfl)).squeeze S128x2x128 squeezes_S1x128x2x128_S128x2x128
abbrev idxBlock (off : Fin 2 → ℕ) (inb : ∀ a, off a + S1x128.size a ≤ S1x294912.size a) : Memref sig .scVector .hbm S1x128 .i32 :=
  idxM.slice (Rect.unit (s := S1x294912) off S1x128.size inb) (fun _ => rfl)
abbrev outBlock (off : Fin 3 → ℕ) (inb : ∀ a, off a + S128x2x128.size a ≤ S294912x2x128.size a) : Memref sig .scVector .hbm S128x2x128 .i32 :=
  outM.slice (Rect.unit (s := S294912x2x128) off S128x2x128.size inb) (fun _ => rfl)
abbrev theList (off : Fin 3 → ℕ) (inb : ∀ a, off a + S1x1x128.size a ≤ S2x1x128.size a) : Memref sig .scVector .vmem S128 .i32 :=
  ((listSlot off inb).slice (Rect.unit (s := S1x128) ![0, 0] S1x128.size inb_S1x128_S1x128_0_0) (fun _ => rfl)).squeeze S128 squeezes_S1x128_S128
abbrev tabAll : Memref sig .scVector .hbm S359424x2x128 .i32 :=
  tabM.slice (Rect.unit (s := S359424x2x128) ![0, 0, 0] S359424x2x128.size inb_S359424x2x128_S359424x2x128_0_0_0) (fun _ => rfl)
abbrev semAt (a : DmaSems sig S2) (off : Fin 1 → ℕ) (inb : ∀ k, off k + S1.size k ≤ S2.size k) : DmaSem sig :=
  ((a.slice (Rect.unit (s := S2) off S1.size inb)).squeeze S_ squeezes_S1_S_).sem

/-! ## Where their elements lie -/

variable (p : ℕ)

theorem listSlot_emb (hp : p < 2) (off) (inb) (e : off = ![p, 0, 0]) (x : S1x128.Idx) :
    (listSlot off inb).view.emb x = ValueIdx.ix3 (⟨p, hp⟩ : Fin 2) (0 : Fin 1) (x 1) := by
  subst e
  have h : Shape.reshapeEquiv squeezes_S1x1x128_S1x128.numel_eq x = ValueIdx.ix3 (⟨0, Nat.one_pos⟩ : Fin 1) (x 0) (x 1) := by
    conv_lhs => rw [ValueIdx.eq_ix2 x]
    exact ValueIdx.reshapeEquiv_ix2_1ab _ _ _
  show (Rect.unit (s := S2x1x128) _ _ inb).emb (Shape.reshapeEquiv squeezes_S1x1x128_S1x128.numel_eq x) = _
  rw [h]
  funext a
  apply Fin.ext
  have h0 : (x 0).val < 1 := (x 0).isLt
  match a with
  | ⟨0, _⟩ => show p + 1 * 0 = p; omega
  | ⟨1, _⟩ => show 0 + 1 * (x 0).val = 0; omega
  | ⟨2, _⟩ => show 0 + 1 * (x 1).val = (x 1).val; omega

theorem rowsSlot_emb (hp : p < 2) (off) (inb) (e : off = ![p, 0, 0, 0]) (x : S128x2x128.Idx) :
    (rowsSlot off inb).view.emb x = ValueIdx.ix4 (⟨p, hp⟩ : Fin 2) (x 0) (x 1) (x 2) := by
  subst e
  have h : Shape.reshapeEquiv squeezes_S1x128x2x128_S128x2x128.numel_eq x = ValueIdx.ix4 (⟨0, Nat.one_pos⟩ : Fin 1) (x 0) (x 1) (x 2) := by
    conv_lhs => rw [ValueIdx.eq_ix3 x]
    exact ValueIdx.reshapeEquiv_ix3_1abc _ _ _ _
  show (Rect.unit (s := S2x128x2x128) _ _ inb).emb (Shape.reshapeEquiv squeezes_S1x128x2x128_S128x2x128.numel_eq x) = _
  rw [h]
  funext a
  apply Fin.ext
  match a with
  | ⟨0, _⟩ => show p + 1 * 0 = p; omega
  | ⟨1, _⟩ => show 0 + 1 * (x 0).val = (x 0).val; omega
  | ⟨2, _⟩ => show 0 + 1 * (x 1).val = (x 1).val; omega
  | ⟨3, _⟩ => show 0 + 1 * (x 2).val = (x 2).val; omega

theorem idxBlock_emb {B : ℕ} (hB : B < 2304) (off) (inb) (e : off = ![0, 128 * B]) (x : S1x128.Idx) :
    (idxBlock off inb).view.emb x = ValueIdx.ix2 (0 : Fin 1) (pos (128 * B + (x 1).val)) := by
  subst e
  show (Rect.unit (s := S1x294912) _ _ inb).emb x = _
  funext a
  apply Fin.ext
  have h0 : (x 0).val < 1 := (x 0).isLt
  have h1 : (x 1).val < 128 := (x 1).isLt
  match a with
  | ⟨0, _⟩ => show 0 + 1 * (x 0).val = 0; omega
  | ⟨1, _⟩ => show 128 * B + 1 * (x 1).val = (128 * B + (x 1).val) % 294912; omega

theorem outBlock_emb {B : ℕ} (hB : B < 2304) (off) (inb) (e : off = ![128 * B, 0, 0]) (x : S128x2x128.Idx) :
    (outBlock off inb).view.emb x = ValueIdx.ix3 (pos (128 * B + (x 0).val)) (x 1) (x 2) := by
  subst e
  show (Rect.unit (s := S294912x2x128) _ _ inb).emb x = _
  funext a
  apply Fin.ext
  have h0 : (x 0).val < 128 := (x 0).isLt
  match a with
  | ⟨0, _⟩ => show 128 * B + 1 * (x 0).val = (128 * B + (x 0).val) % 294912; omega
  | ⟨1, _⟩ => show 0 + 1 * (x 1).val = (x 1).val; omega
  | ⟨2, _⟩ => show 0 + 1 * (x 2).val = (x 2).val; omega

theorem theList_emb (hp : p < 2) (off) (inb) (e : off = ![p, 0, 0]) (x : S128.Idx) :
    (theList off inb).view.emb x = ValueIdx.ix3 (⟨p, hp⟩ : Fin 2) (0 : Fin 1) (x 0) := by
  have h : Shape.reshapeEquiv squeezes_S1x128_S128.numel_eq x = ValueIdx.ix2 (n0 := 1) (n1 := 128) 0 (x 0) :=
    Shape.reshapeEquiv_eq_of_rowMajor _ (by
      refine (Shape.rowMajor_val_two (d := ![1, 128]) (ValueIdx.ix2 (n0 := 1) (n1 := 128) 0 (x 0))).trans ?_
      rw [Shape.rowMajor_val_one]
      show 0 * 128 + (x 0).val = (x 0).val
      omega)
  have h' : (Rect.unit (s := S1x128) ![0, 0] S1x128.size inb_S1x128_S1x128_0_0).emb (Shape.reshapeEquiv squeezes_S1x128_S128.numel_eq x)
      = ValueIdx.ix2 (n0 := 1) (n1 := 128) 0 (x 0) := by
    rw [h]; funext a; apply Fin.ext
    match a with
    | ⟨0, _⟩ => rfl
    | ⟨1, _⟩ => show 0 + 1 * (x 0).val = (x 0).val; omega
  show (listSlot off inb).view.emb ((Rect.unit (s := S1x128) ![0, 0] S1x128.size inb_S1x128_S1x128_0_0).emb (Shape.reshapeEquiv squeezes_S1x128_S128.numel_eq x)) = _
  exact (congrArg _ h').trans (listSlot_emb p hp off inb e _)

theorem tabAll_emb (x : S359424x2x128.Idx) : tabAll.view.emb x = x := by
  show (Rect.unit (s := S359424x2x128) _ _ _).emb x = _
  funext a; apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-! ## Which elements they are -/

theorem listSlot_set (hp : p < 2) (off) (inb) (e : off = ![p, 0, 0]) : (listSlot off inb).view.set = listS p := by
  ext y
  simp only [View.set, Finset.mem_map, Finset.mem_univ, true_and, listS, Finset.mem_filter]
  constructor
  · rintro ⟨x, rfl⟩; rw [listSlot_emb p hp off inb e]
  · intro hy
    refine ⟨ValueIdx.ix2 (0 : Fin 1) (y 2), ?_⟩
    rw [listSlot_emb p hp off inb e]
    funext a; apply Fin.ext
    have h1 : (y 1).val < 1 := (y 1).isLt
    match a with
    | ⟨0, _⟩ => exact hy.symm
    | ⟨1, _⟩ => show 0 = (y 1).val; omega
    | ⟨2, _⟩ => rfl

theorem theList_set (hp : p < 2) (off) (inb) (e : off = ![p, 0, 0]) : (theList off inb).view.set = listS p := by
  ext y
  simp only [View.set, Finset.mem_map, Finset.mem_univ, true_and, listS, Finset.mem_filter]
  constructor
  · rintro ⟨x, rfl⟩; rw [theList_emb p hp off inb e]
  · intro hy
    refine ⟨(fun a => match a with | ⟨0, _⟩ => y 2 : S128.Idx), ?_⟩
    rw [theList_emb p hp off inb e]
    funext a; apply Fin.ext
    have h1 : (y 1).val < 1 := (y 1).isLt
    match a with
    | ⟨0, _⟩ => exact hy.symm
    | ⟨1, _⟩ => show 0 = (y 1).val; omega
    | ⟨2, _⟩ => rfl

theorem rowsSlot_set (hp : p < 2) (off) (inb) (e : off = ![p, 0, 0, 0]) : (rowsSlot off inb).view.set = rowsS p := by
  ext y
  simp only [View.set, Finset.mem_map, Finset.mem_univ, true_and, rowsS, Finset.mem_filter]
  constructor
  · rintro ⟨x, rfl⟩; rw [rowsSlot_emb p hp off inb e]
  · intro hy
    refine ⟨ValueIdx.ix3 (y 1) (y 2) (y 3), ?_⟩
    rw [rowsSlot_emb p hp off inb e]
    funext a; apply Fin.ext
    match a with
    | ⟨0, _⟩ => exact hy.symm
    | ⟨1, _⟩ => rfl
    | ⟨2, _⟩ => rfl
    | ⟨3, _⟩ => rfl

theorem outBlock_set {B : ℕ} (hB : B < 2304) (off) (inb) (e : off = ![128 * B, 0, 0]) : (outBlock off inb).view.set = blocksS B (B + 1) := by
  ext y
  simp only [View.set, Finset.mem_map, Finset.mem_univ, true_and, blocksS, Finset.mem_filter]
  constructor
  · rintro ⟨x, rfl⟩; rw [outBlock_emb hB off inb e]
    have h0 : (x 0).val < 128 := (x 0).isLt
    show 128 * B ≤ (128 * B + (x 0).val) % 294912 ∧ (128 * B + (x 0).val) % 294912 < 128 * (B + 1)
    omega
  · intro hy
    refine ⟨ValueIdx.ix3 (⟨(y 0).val - 128 * B, by omega⟩ : Fin 128) (y 1) (y 2), ?_⟩
    rw [outBlock_emb hB off inb e]
    funext a; apply Fin.ext
    match a with
    | ⟨0, _⟩ => show (128 * B + ((y 0).val - 128 * B)) % 294912 = (y 0).val; omega
    | ⟨1, _⟩ => rfl
    | ⟨2, _⟩ => rfl

/-! ## Which semaphore guards a slot -/

/-- The semaphore of slot `p` of the list scratch (`inSem`) and of the rows scratch (`outSem`). -/
abbrev inSem (p : ℕ) : DmaSem sig := if p = 0 then (0 : Fin 5) else (1 : Fin 5)
abbrev outSem (p : ℕ) : DmaSem sig := if p = 0 then (2 : Fin 5) else (3 : Fin 5)

theorem semAt_in (hp : p < 2) (off) (inb) (e : off = ![p]) : semAt cc0_scoped1 off inb = inSem p := by
  subst e
  interval_cases p
  · exact (by decide +kernel : semAt cc0_scoped1 ![0] (by decide) = inSem 0)
  · exact (by decide +kernel : semAt cc0_scoped1 ![1] (by decide) = inSem 1)
theorem semAt_out (hp : p < 2) (off) (inb) (e : off = ![p]) : semAt cc0_scoped3 off inb = outSem p := by
  subst e
  interval_cases p
  · exact (by decide +kernel : semAt cc0_scoped3 ![0] (by decide) = outSem 0)
  · exact (by decide +kernel : semAt cc0_scoped3 ![1] (by decide) = outSem 1)

end Cert.Proof.Gather

end
-- ==== Proof.Moves.lean ====
/-
  The six moves of a trip, each as one rule: begin fetching a block of the list, wait for it, begin fetching the rows it
  names, wait for them, begin writing them out, wait for that. Between a move's start and its wait the parts of the
  buffers it uses are pending on its semaphore; the wait gives them back with what the move put there.
-/
module

public import proofs.«01_k».proof.Proof.Views

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A buffer's part after a transfer landed on it: at each element what arrived there. -/
theorem landed {κ : Kind} {sp : Space} {s : Shape} {e : EltTy} (v : View sig κ sp s e) (ℓ : Loc nD τ sig) (hℓ : ℓ.2.ty = v.ty)
    (fd : v.ty.Contents (Elt F)) (pay : s.Idx → Elt F e) (G : v.ty.Contents (Elt F))
    (hG : ∀ x, G (v.emb x) = _root_.cast (congrArg (Elt F) v.elt_eq.symm) (pay x)) :
    ∀ y ∈ v.set, v.write (Elt F) fd pay Finset.univ y = G y := by
  intro y hy
  obtain ⟨x, -, rfl⟩ := Finset.mem_map.mp hy
  rw [View.write_emb_of_mem fd pay (Finset.mem_univ x), hG]

variable (d : Dev nD) (i : grid0.Coords)

/-- A move under way on a semaphore: its wait will give `D`. -/
def Pend (sm : SemLoc sig) (N : ℕ) (D : sProp 𝕄) : sProp 𝕄 :=
  iprop(∃ D₀ R, Transfers.Flight countersEmb (tile d i) sm (default : HIx 1) N D₀ ∗ R ∗ ⌜iprop(D₀ ∗ R) ⊢ D⌝)

/-- The two halves of a tile's share of the list, one for each slot. -/
def half (q : PosShare TreeShare) (p : ℕ) : PosShare TreeShare := if p = 0 then q.left else q.right

section Moves

variable [FloatOps F] (tab : Buf (Elt F) (tabLoc d)) (idx : Buf (Elt F) (idxLoc d)) (q : PosShare TreeShare)

abbrev creditL : ℕ := (listSlot ![0, 0, 0] (by decide)).view.dmaCredit
abbrev creditR : ℕ := (rowsSlot ![0, 0, 0, 0] (by decide)).view.dmaCredit
abbrev creditO : ℕ := (outBlock ![0, 0, 0] (by decide)).view.dmaCredit

/-! ## What a slot's custody is -/

abbrev listPts (p : ℕ) (f : Buf (Elt F) (listLoc d i)) : sProp 𝕄 := listLoc d i ↦[listS p]{fullShare} f
abbrev rowsPts (p : ℕ) (f : Buf (Elt F) (rowsLoc d i)) : sProp 𝕄 := rowsLoc d i ↦[rowsS p]{fullShare} f
abbrev outPts (a b : ℕ) (f : Buf (Elt F) (outLoc d)) : sProp 𝕄 := outLoc d ↦[blocksS a b]{fullShare} f
abbrev idxPts (p : ℕ) : sProp 𝕄 := idxLoc d ↦{half q p} idx
abbrev tabPts : sProp 𝕄 := tabLoc d ↦{q} tab
abbrev atZero (s : DmaSem sig) : sProp 𝕄 := semVal (tile d i, SemLoc.dma s) 0

/-- A free slot of the list scratch; one being filled with block `B`; one filled. -/
def listFree (p : ℕ) : sProp 𝕄 := iprop((∃ f, listPts d i p f) ∗ idxPts d idx q p ∗ atZero d i (inSem p))
abbrev listBusy (p B : ℕ) : sProp 𝕄 :=
  Pend d i (.dma (inSem p)) creditL iprop(listPts d i p (listC d i idx B) ∗ idxPts d idx q p)

/-- A free slot of the rows scratch; one being written out as block `B`. -/
def rowsFree (p : ℕ) : sProp 𝕄 := iprop((∃ f, rowsPts d i p f) ∗ atZero d i (outSem p))
abbrev rowsBusy (p B : ℕ) : sProp 𝕄 :=
  Pend d i (.dma (outSem p)) creditO iprop(outPts d B (B + 1) (outC d tab idx) ∗ ∃ f, rowsPts d i p f)

/-- The gather's semaphore. -/
abbrev gSem : DmaSem sig := cc0_scoped4.sem
/-- Rows of block `B` on their way into slot `p`. -/
abbrev rowsComing (p B : ℕ) : sProp 𝕄 :=
  Pend d i (.dma gSem) creditR iprop(rowsPts d i p (rowsC d i tab idx B) ∗ tabPts d tab q ∗ listPts d i p (listC d i idx B))

/-- What the tile owes, with whatever waits on its own transfers it has recorded since. -/
def owing (O : CellTallies nD τ sig (HIx 1)) (W : Waits sig (HIx 1)) : sProp 𝕄 :=
  iprop(∃ W', ⌜∀ p ∈ W', p ∈ W ∨ p.2 = none⌝ ∗ owes (tile d i) O W')

/-! ## The moves -/

variable {α : Type} {p B : ℕ}

/-- Begin fetching block `B` of the list into slot `p`. -/
theorem wp_fetch (hp : p < 2) (hB : B < 2304)
    {off₁ : Fin 2 → ℕ} {inb₁ : ∀ a, off₁ a + S1x128.size a ≤ S1x294912.size a} (e₁ : off₁ = ![0, 128 * B])
    {off₂ : Fin 3 → ℕ} {inb₂ : ∀ a, off₂ a + S1x1x128.size a ≤ S2x1x128.size a} (e₂ : off₂ = ![p, 0, 0])
    {sem : DmaSem sig} (e₃ : sem = inSem p)
    {h₁ : (idxBlock off₁ inb₁).view.WordExact} {h₂ : (listSlot off₂ inb₂).view.WordExact} {h₃}
    {k : PUnit → Prog (TpuEff nD τ sig (Elt F) Λ₀ (tile d i).2) α} {Post : α → sProp 𝕄} :
    listFree d i idx q p ⊢ iprop((listBusy d i idx q p B -∗ wp frame (wpE (defs₀ (F := F)) 𝒱₀ (tile d i) none) Set.univ (k ⟨⟩) Post)
      -∗ wp frame (wpE (defs₀ (F := F)) 𝒱₀ (tile d i) none) Set.univ
          (.op (.enqueueDma (idxBlock off₁ inb₁) (.here (listSlot off₂ inb₂)) (.dma sem) h₁ h₂ h₃) k) Post) := by
  subst e₃
  unfold listFree
  iintro ⟨⟨%f, Hl⟩, Hi, Hz⟩ Hk
  have hset := listSlot_set p hp off₂ inb₂ e₂
  ihave Hi := (pointsTo_split_subset (q := half q p) (f := idx) (S := Finset.univ) (Finset.subset_univ (idxBlock off₁ inb₁).view.set)).1 $$ Hi
  icases Hi with ⟨Hi, Hr⟩
  iapply (Transfers.wp_dmaLocal countersEmb 𝒱₀ (tile d i) none (src := idxBlock off₁ inb₁) (dst := listSlot off₂ inb₂)
    (sm := .dma (inSem p)) (q := half q p) (fs := idx) (fd := f) (Sd := listS p) (default : HIx 1) creditL rfl (by decide) hset.le) $$ [Hi Hl Hz]
  · isplitl [Hi]; · iexact Hi
    isplitl [Hl]; · iexact Hl
    iexact Hz
  iintro Hf
  iapply Hk
  unfold listBusy Pend
  iexists _; iexists _
  isplitl [Hf]; · iexact Hf
  isplitl [Hr]; · iexact Hr
  ipureintro
  have hland : ((listSlot off₂ inb₂).view.loc (tile d i) ↦[listS p]{fullShare}
        ((listSlot off₂ inb₂).view.write (Elt F) f ((ReadAs.same).apply ((idxBlock off₁ inb₁).view.read (Elt F) idx)) Finset.univ) : sProp 𝕄)
      = listPts d i p (listC d i idx B) := by
    refine pointsTo_congr fun y hy => landed (F := F) (listSlot off₂ inb₂).view (listLoc d i) rfl f _ (listC d i idx B) (fun x => ?_) y (by rw [hset]; exact hy)
    rw [listSlot_emb p hp off₂ inb₂ e₂]
    show idx _ = idx ((idxBlock off₁ inb₁).view.emb x)
    rw [idxBlock_emb hB off₁ inb₁ e₁]
  refine BIBase.Entails.trans ?_ (sep_mono (Entails.of_eq hland) .rfl)
  iintro ⟨⟨Hl, Hi⟩, Hr⟩
  isplitl [Hl]; · iexact Hl
  iapply (pointsTo_split_subset (q := half q p) (f := idx) (S := Finset.univ) (Finset.subset_univ (idxBlock off₁ inb₁).view.set)).2
  isplitl [Hi]; · iexact Hi
  iexact Hr

/-- A wait on a move gives what it was to give, the semaphore at zero, and records itself. -/
theorem wp_landing {O : CellTallies nD τ sig (HIx 1)} {W : Waits sig (HIx 1)} {N : ℕ} {D : sProp 𝕄}
    {sem sem' : DmaSem sig} (e₃ : sem = sem')
    {sp sp' : Space} {s s' : Shape} {e e' : EltTy} {κ' : Kind} {srcw : Memref sig (tile d i).2.kind sp' s' e'} {dstw : Memref sig κ' sp s e}
    (hN : dstw.view.dmaCredit = N) {h₁ : srcw.view.WordExact} {h₂ : dstw.view.WordExact}
    {k : PUnit → Prog (TpuEff nD τ sig (Elt F) Λ₀ (tile d i).2) α} {Post : α → sProp 𝕄} :
    iprop(Pend d i (.dma sem') N D ∗ owing d i O W ∗ Transfers.MayWaits (tile d i) (default : HIx 1) O)
      ⊢ iprop((iprop(D ∗ atZero d i sem' ∗ owing d i O W) -∗ wp frame (wpE (defs₀ (F := F)) 𝒱₀ (tile d i) none) Set.univ (k ⟨⟩) Post)
      -∗ wp frame (wpE (defs₀ (F := F)) 𝒱₀ (tile d i) none) Set.univ (.op (.waitDma2 sem srcw dstw h₁ h₂) k) Post) := by
  subst e₃
  unfold Pend owing
  iintro ⟨⟨%D₀, %R, Hf, Hr, %hD⟩, ⟨%W', %hW, HO⟩, Hmw⟩ Hk
  iapply (Transfers.wp_waitLocalO countersEmb 𝒱₀ (tile d i) none (default : HIx 1) hN) $$ [Hf HO Hmw]
  · isplitl [Hf]; · iexact Hf
    isplitl [HO]; · iexact HO
    iapply (Transfers.MayWaits.elim (SemLoc.dma sem)) $$ Hmw
  iintro ⟨HD, Hz, HO⟩
  iapply Hk
  isplitl [HD Hr]
  · iapply hD
    isplitl [HD]; · iexact HD
    iexact Hr
  isplitl [Hz]; · iexact Hz
  iexists _; isplitr
  swap; · iexact HO
  ipureintro; intro x hx
  rcases Finset.mem_insert.mp hx with hx | hx; · exact .inr (hx ▸ rfl)
  exact hW x hx

/-- Begin fetching the rows that block `B` of the list, in slot `p`, names. -/
theorem wp_gather (hn : Named d idx) (hp : p < 2)
    {off₁ : Fin 4 → ℕ} {inb₁ : ∀ a, off₁ a + S1x128x2x128.size a ≤ S2x128x2x128.size a} (e₁ : off₁ = ![p, 0, 0, 0])
    {off₂ : Fin 3 → ℕ} {inb₂ : ∀ a, off₂ a + S1x1x128.size a ≤ S2x1x128.size a} (e₂ : off₂ = ![p, 0, 0])
    {hk hb hsrc he hsp hr}
    {k : PUnit → Prog (TpuEff nD τ sig (Elt F) Λ₀ (tile d i).2) α} {Post : α → sProp 𝕄} :
    iprop(listPts d i p (listC d i idx B) ∗ (∃ f, rowsPts d i p f) ∗ tabPts d tab q ∗ atZero d i gSem)
      ⊢ iprop((rowsComing d i tab idx q p B -∗ wp frame (wpE (defs₀ (F := F)) 𝒱₀ (tile d i) none) Set.univ (k ⟨⟩) Post)
      -∗ wp frame (wpE (defs₀ (F := F)) 𝒱₀ (tile d i) none) Set.univ
          (SparseCore.enqueueIndirectGather (p := (tile d i).2) hk tabAll (rowsSlot off₁ inb₁) gathers_S359424x2x128_S128x2x128 (theList off₂ inb₂) hb gSem hsrc he hsp hr >>= k) Post) := by
  have hset := rowsSlot_set p hp off₁ inb₁ e₁
  have hlist := theList_set p hp off₂ inb₂ e₂
  have hword : ∀ x : S128.Idx, (theList off₂ inb₂).view.read (Elt F) (listC d i idx B) x
      = idx (ValueIdx.ix2 (0 : Fin 1) (pos (128 * B + (x 0).val))) := fun x => by
    refine (View.read_apply _ _).trans ((cast_eq _ _).trans ?_)
    rw [theList_emb p hp off₂ inb₂ e₂]; rfl
  have hin : ∀ x : S128.Idx, ((theList off₂ inb₂).view.read (Elt F) (listC d i idx B) x).toNat < S359424x2x128.size gathers_S359424x2x128_S128x2x128.axis :=
    fun x => by rw [hword]; exact hn _
  have hN : ∑ j, ((rowsSlot off₁ inb₁).slice (S128x2x128.rowRect gathers_S359424x2x128_S128x2x128.axis' j) (S128x2x128.stride_rowRect gathers_S359424x2x128_S128x2x128.axis' j)).view.dmaCredit = creditR := by
    subst e₁
    have : ∀ j, ((rowsSlot ![p, 0, 0, 0] inb₁).slice (S128x2x128.rowRect gathers_S359424x2x128_S128x2x128.axis' j) (S128x2x128.stride_rowRect gathers_S359424x2x128_S128x2x128.axis' j)).view.dmaCredit
       = ((rowsSlot ![0, 0, 0, 0] (by decide)).slice (S128x2x128.rowRect gathers_S359424x2x128_S128x2x128.axis' j) (S128x2x128.stride_rowRect gathers_S359424x2x128_S128x2x128.axis' j)).view.dmaCredit := fun j => rfl
    rw [Finset.sum_congr rfl fun j _ => this j]
    decide +kernel
  iintro ⟨Hl, ⟨%f, Hr⟩, Ht, Hz⟩ Hk
  ihave Ht := (pointsTo_split_subset (q := q) (f := tab) (S := Finset.univ) (Finset.subset_univ tabAll.view.set)).1 $$ Ht
  icases Ht with ⟨Ht, Htr⟩
  ihave Hr := (Entails.of_eq (show (rowsPts d i p f : sProp 𝕄) = (rowsSlot off₁ inb₁).view.loc (tile d i) ↦[(rowsSlot off₁ inb₁).view.set]{fullShare} f by rw [hset])) $$ Hr
  ihave Hl := (Entails.of_eq (show (listPts d i p (listC d i idx B) : sProp 𝕄) = (theList off₂ inb₂).view.loc (tile d i) ↦[(theList off₂ inb₂).view.set]{fullShare} (listC d i idx B) by rw [hlist])) $$ Hl
  iapply (SparseCore.wp_indirectGatherLocal countersEmb 𝒱₀ (tile d i) none (hg := gathers_S359424x2x128_S128x2x128) (default : HIx 1)
      creditR hN (by decide) hin) $$ [Ht Hr Hl Hz]
  · isplitl [Ht]; · iexact Ht
    isplitl [Hr]; · iexact Hr
    isplitl [Hl]; · iexact Hl
    iexact Hz
  iintro Hf
  iapply Hk
  unfold rowsComing Pend
  iexists _; iexists _
  isplitl [Hf]; · iexact Hf
  isplitl [Htr]; · iexact Htr
  ipureintro
  have hland : ((rowsSlot off₁ inb₁).view.loc (tile d i) ↦[(rowsSlot off₁ inb₁).view.set]{fullShare}
        ((rowsSlot off₁ inb₁).view.write (Elt F) f (SparseCore.gatherPayload gathers_S359424x2x128_S128x2x128 (tabAll.view.read (Elt F) tab)
          (SparseCore.rows ((theList off₂ inb₂).view.read (Elt F) (listC d i idx B)) hb hin)) Finset.univ) : sProp 𝕄)
      = rowsPts d i p (rowsC d i tab idx B) := by
    refine (pointsTo_congr fun y hy => landed (F := F) (rowsSlot off₁ inb₁).view (rowsLoc d i) rfl f _ (rowsC d i tab idx B) (fun x => ?_) y hy).trans (by rw [hset])
    rw [rowsSlot_emb p hp off₁ inb₁ e₁]
    show tab _ = tab (tabAll.view.emb (gathers_S359424x2x128_S128x2x128.idx (SparseCore.rows ((theList off₂ inb₂).view.read (Elt F) (listC d i idx B)) hb hin) x))
    rw [tabAll_emb]
    have hx : (SparseCore.rows ((theList off₂ inb₂).view.read (Elt F) (listC d i idx B)) hb hin (x 0)).val
        = (rowOf (idx (ValueIdx.ix2 (0 : Fin 1) (pos (128 * B + (x 0).val))))).val := by
      show ((theList off₂ inb₂).view.read (Elt F) (listC d i idx B) _).toNat = _
      rw [hword]
      have hs : ((S128.rowMajor.symm ((x 0).cast hb.symm)) 0).val = (x 0).val := by
        rw [← Shape.rowMajor_val_one, Equiv.apply_symm_apply]; rfl
      rw [hs, rowOf, dif_pos (hn _)]
    refine congrArg tab (funext fun a => Fin.ext ?_)
    match a with
    | ⟨0, _⟩ => exact hx.symm.trans (congrArg Fin.val (Shape.Gathers.idx_axis gathers_S359424x2x128_S128x2x128 _ x)).symm
    | ⟨1, _⟩ => exact (Shape.Gathers.idx_of_ne gathers_S359424x2x128_S128x2x128 _ x ⟨1, by decide⟩ (by decide)).symm
    | ⟨2, _⟩ => exact (Shape.Gathers.idx_of_ne gathers_S359424x2x128_S128x2x128 _ x ⟨2, by decide⟩ (by decide)).symm
  refine BIBase.Entails.trans (sep_mono (sep_mono (Entails.of_eq hland) .rfl) .rfl) ?_
  iintro ⟨⟨Hr, Ht, Hl⟩, Htr⟩
  isplitl [Hr]; · iexact Hr
  isplitl [Ht Htr]
  · iapply (pointsTo_split_subset (q := q) (f := tab) (S := Finset.univ) (Finset.subset_univ tabAll.view.set)).2
    isplitl [Ht]; · iexact Ht
    iexact Htr
  iapply (Entails.of_eq (show (listPts d i p (listC d i idx B) : sProp 𝕄) = (theList off₂ inb₂).view.loc (tile d i) ↦[(theList off₂ inb₂).view.set]{fullShare} (listC d i idx B) by rw [hlist]).symm)
  iexact Hl

/-- Begin writing slot `p`'s rows out as block `B` of the result. -/
theorem wp_put (hp : p < 2) (hB : B < 2304)
    {off₁ : Fin 4 → ℕ} {inb₁ : ∀ a, off₁ a + S1x128x2x128.size a ≤ S2x128x2x128.size a} (e₁ : off₁ = ![p, 0, 0, 0])
    {off₂ : Fin 3 → ℕ} {inb₂ : ∀ a, off₂ a + S128x2x128.size a ≤ S294912x2x128.size a} (e₂ : off₂ = ![128 * B, 0, 0])
    {sem : DmaSem sig} (e₃ : sem = outSem p)
    {h₁ : (rowsSlot off₁ inb₁).view.WordExact} {h₂ : (outBlock off₂ inb₂).view.WordExact} {h₃}
    {k : PUnit → Prog (TpuEff nD τ sig (Elt F) Λ₀ (tile d i).2) α} {Post : α → sProp 𝕄} {f : Buf (Elt F) (outLoc d)} :
    iprop(rowsPts d i p (rowsC d i tab idx B) ∗ outPts d B (B + 1) f ∗ atZero d i (outSem p))
      ⊢ iprop((rowsBusy d i tab idx p B -∗ wp frame (wpE (defs₀ (F := F)) 𝒱₀ (tile d i) none) Set.univ (k ⟨⟩) Post)
      -∗ wp frame (wpE (defs₀ (F := F)) 𝒱₀ (tile d i) none) Set.univ
          (.op (.enqueueDma (rowsSlot off₁ inb₁) (.here (outBlock off₂ inb₂)) (.dma sem) h₁ h₂ h₃) k) Post) := by
  subst e₃
  iintro ⟨Hr, Ho, Hz⟩ Hk
  have hset := outBlock_set hB off₂ inb₂ e₂
  have hrows := rowsSlot_set p hp off₁ inb₁ e₁
  ihave Hr := (Entails.of_eq (show (rowsPts d i p (rowsC d i tab idx B) : sProp 𝕄) = (rowsSlot off₁ inb₁).view.loc (tile d i) ↦[(rowsSlot off₁ inb₁).view.set]{fullShare} (rowsC d i tab idx B) by rw [hrows])) $$ Hr
  iapply (Transfers.wp_dmaLocal countersEmb 𝒱₀ (tile d i) none (src := rowsSlot off₁ inb₁) (dst := outBlock off₂ inb₂)
    (sm := .dma (outSem p)) (q := fullShare) (fs := rowsC d i tab idx B) (fd := f) (Sd := blocksS B (B + 1)) (default : HIx 1) creditO rfl (by decide) hset.le) $$ [Hr Ho Hz]
  · isplitl [Hr]; · iexact Hr
    isplitl [Ho]; · iexact Ho
    iexact Hz
  iintro Hf
  iapply Hk
  unfold rowsBusy Pend
  iexists _; iexists iprop(emp)
  isplitl [Hf]; · iexact Hf
  isplitr; · iempintro
  ipureintro
  have hland : ((outBlock off₂ inb₂).view.loc (tile d i) ↦[blocksS B (B + 1)]{fullShare}
        ((outBlock off₂ inb₂).view.write (Elt F) f ((ReadAs.same).apply ((rowsSlot off₁ inb₁).view.read (Elt F) (rowsC d i tab idx B))) Finset.univ) : sProp 𝕄)
      = outPts d B (B + 1) (outC d tab idx) := by
    refine pointsTo_congr fun y hy => landed (F := F) (outBlock off₂ inb₂).view (outLoc d) rfl f _ (outC d tab idx) (fun x => ?_) y (by rw [hset]; exact hy)
    rw [outBlock_emb hB off₂ inb₂ e₂]
    show _ = rowsC d i tab idx B ((rowsSlot off₁ inb₁).view.emb x)
    rw [rowsSlot_emb p hp off₁ inb₁ e₁]
    rfl
  refine BIBase.Entails.trans (sep_mono (sep_mono (Entails.of_eq hland) .rfl) .rfl) ?_
  iintro ⟨⟨Ho, Hr⟩, -⟩
  isplitl [Ho]; · iexact Ho
  iexists _
  iapply (Entails.of_eq (show (rowsPts d i p (rowsC d i tab idx B) : sProp 𝕄) = (rowsSlot off₁ inb₁).view.loc (tile d i) ↦[(rowsSlot off₁ inb₁).view.set]{fullShare} (rowsC d i tab idx B) by rw [hrows]).symm)
  iexact Hr

end Moves

end Cert.Proof.Gather

end
-- ==== Proof.Trip.lean ====
/-
  One trip of a tile's pipeline. Before trip `t` the slot of trip `t` of the list scratch is being filled with block `t`,
  the other slot of the rows scratch is being written out as block `t - 1`, and the blocks before that are in the result.
  The trip moves this on by one block.
-/
module

public import proofs.«01_k».proof.Proof.Moves

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Trip

variable [FloatOps F] (d : Dev nD) (i : grid0.Coords) (tab : Buf (Elt F) (tabLoc d)) (idx : Buf (Elt F) (idxLoc d)) (out : Buf (Elt F) (outLoc d))
  (q : PosShare TreeShare)

/-- The kernel's loop body at the tile's buffers. -/
abbrev body (b : BitVec 32) := k0_t1_body (F := F) i tabM (Memref.isWhole_whole _) idxM (Memref.isWhole_whole _) outM (Memref.isWhole_whole _)
  listM (Memref.isWhole_whole _) cc0_scoped1 rowsM (Memref.isWhole_whole _) cc0_scoped3 cc0_scoped4 b

/-! ## The states between trips -/

/-- The list slot whose turn it is at trip `t`; the other one is free. -/
def listTurn (t : ℕ) : sProp 𝕄 := if t < 72 then listBusy d i idx q (t % 2) (base i + t) else listFree d i idx q (t % 2)
/-- The rows slot whose turn it is not at trip `t`, and the blocks that are in the result. -/
def rowsTurn (t : ℕ) : sProp 𝕄 := iprop((if t = 0 then rowsFree d i ((t + 1) % 2) else rowsBusy d i tab idx ((t + 1) % 2) (base i + t - 1))
  ∗ outPts d (base i) (base i + t - 1) (outC d tab idx))

/-- What a trip runs from and hands on. -/
def Inv (O : CellTallies nD τ sig (HIx 1)) (W : Waits sig (HIx 1)) (t : ℕ) (acc : BitVec 32 × BitVec 32 × BitVec 32 × BitVec 32 × BitVec 32) : sProp 𝕄 :=
  iprop(⌜acc = (fetched t, done t, done t, drained t, block t)⌝ ∗ Transfers.MayWaits (tile d i) (default : HIx 1) O
    ∗ listTurn d i idx q t ∗ listFree d i idx q ((t + 1) % 2) ∗ rowsFree d i (t % 2) ∗ rowsTurn d i tab idx t
    ∗ outPts d (base i + t) (base i + 72) out ∗ atZero d i gSem ∗ tabPts d tab q ∗ owing d i O W)

/-! ## The steps a trip takes on a condition -/

/-- At a program's end its postcondition is left. -/
theorem wp_done {α : Type} {a : α} {Post : α → sProp 𝕄} : Post a ⊢ wp frame (wpE (defs₀ (F := F)) 𝒱₀ (tile d i) none) Set.univ (.ret a) Post := BI.fupd_intro

/-- A step taken on a condition: from `A` to `B` either way. -/
theorem wp_on {c : Prop} [Decidable c] {e : c → TpuEff nD τ sig (Elt F) Λ₀ (tile d i).2 PUnit} {A B : sProp 𝕄} {α : Type}
    (hp : ∀ (h : c) (k : PUnit → Prog (TpuEff nD τ sig (Elt F) Λ₀ (tile d i).2) α) (Post : α → sProp 𝕄), A ⊢ iprop((B -∗ wp frame (wpE (defs₀ (F := F)) 𝒱₀ (tile d i) none) Set.univ (k ⟨⟩) Post) -∗ wp frame (wpE (defs₀ (F := F)) 𝒱₀ (tile d i) none) Set.univ (.op (e h) k) Post))
    (hn : ¬c → A ⊢ B) {K : Prog (TpuEff nD τ sig (Elt F) Λ₀ (tile d i).2) α} {Post : α → sProp 𝕄} :
    A ⊢ iprop((B -∗ wp frame (wpE (defs₀ (F := F)) 𝒱₀ (tile d i) none) Set.univ K Post) -∗ wp frame (wpE (defs₀ (F := F)) 𝒱₀ (tile d i) none) Set.univ (if h : c then .op (e h) (fun _ => K) else K) Post) := by
  split
  · exact hp ‹c› (fun _ => K) Post
  · rename_i h
    iintro HA Hk
    iapply Hk
    iapply (hn h); iexact HA

/-! ## A trip's two parts -/

/-- The words of the trip's block, of the block before it and of the block after it. -/
abbrev hereW (t : ℕ) : BitVec 32 := Scalar.addi (block t) (baseW i)
abbrev prevW (t : ℕ) : BitVec 32 :=
  Scalar.addi (Scalar.select (Scalar.cmpi .eq (Scalar.select 1#1 (Scalar.subi (block t) 1#32) (block t)) 4294967295#32) 71#32
    (Scalar.select 1#1 (Scalar.subi (block t) 1#32) (block t))) (baseW i)
abbrev nextW (t : ℕ) : BitVec 32 :=
  Scalar.addi (Scalar.select (Scalar.cmpi .eq (Scalar.select 1#1 (Scalar.addi (block t) 1#32) (block t)) 72#32) 0#32
    (Scalar.select 1#1 (Scalar.addi (block t) 1#32) (block t))) (baseW i)
abbrev tripW (t : ℕ) : BitVec 32 := Scf.iv 0#32 1#32 t
/-- The fetches begun once the trip's own has been. -/
abbrev fetchW (t : ℕ) : BitVec 32 :=
  Scalar.select (Scalar.andi (Scalar.andi (Scalar.cmpi .ne (hereW i t) (nextW i t)) (Scalar.xori (Scalar.cmpi .sge (tripW t) 71#32) 1#1)) 1#1)
    (Scalar.addi (fetched t) 1#32) (fetched t)

/-- Fetching the next block of the list, where there is one. -/
theorem wp_part1 (t : Fin k0_t1_loop.trips) {Post : _ → sProp 𝕄} :
    listFree d i idx q ((t.val + 1) % 2) ⊢ iprop((listTurn d i idx q (t.val + 1) -∗ Post
          (⟨chk3_ok ⟨t.val, trip_lt t⟩, chk2_ok ⟨t.val, trip_lt t⟩, chk1_ok i t, tripW t, Scalar.cmpi .eq (tripW t) 0#32, Scalar.cmpi .eq (tripW t) 71#32,
            hereW i t, prevW i t, nextW i t, fetchW i t, Scalar.cmpi .ne (hereW i t) (prevW i t)⟩))
      -∗ wp frame (wpE (defs₀ (F := F)) 𝒱₀ (tile d i) none) Set.univ (k0_part1 (F := F) i tabM (Memref.isWhole_whole _) idxM (Memref.isWhole_whole _) outM (Memref.isWhole_whole _)
          listM (Memref.isWhole_whole _) cc0_scoped1 rowsM (Memref.isWhole_whole _) cc0_scoped3 cc0_scoped4 (baseW i) 0#32 1#32 t
          (fetched t.val) (done t.val) (done t.val) (drained t.val) (block t.val)) Post) := by
  have ht := trip_lt t
  have h3 : k0_chk3 (done t.val) := chk3_ok ⟨t.val, ht⟩
  have h2 : k0_chk2 (done t.val) := chk2_ok ⟨t.val, ht⟩
  have h1 := chk1_ok i t
  rw [k0_part1_eq_skeleton]
  unfold k0_part1_skel
  iintro Hl' Hk
  simp only [Prog.lift, Prog.bind_op, Prog.bind_ret, Prog.pure_eq_ret]
  iapply (wp_assume 𝒱₀ (tile d i) none Set.univ h3)
  iapply (wp_assume 𝒱₀ (tile d i) none Set.univ h2)
  iapply (wp_assume 𝒱₀ (tile d i) none Set.univ h1)
  iapply (wp_on d i (A := listFree d i idx q ((t.val + 1) % 2)) (B := listTurn d i idx q (t.val + 1)) ?hp ?hn) $$ Hl'
  case hp =>
    intro h k Post
    have h71 := (cond1_iff i t).mp h
    unfold listTurn
    rw [if_pos (by omega)]
    exact wp_fetch d i idx q (B := base i + (t.val + 1)) (Nat.mod_lt _ (by decide)) (by have := base_le i; omega) (off5_eq i ⟨t.val, ht⟩ h71) (off4_eq ⟨t.val, ht⟩ h71) (semAt_in _ (Nat.mod_lt _ (by decide)) _ _ (off6_eq ⟨t.val, ht⟩ h71))
  case hn =>
    intro h
    unfold listTurn
    rw [if_neg (fun h' => h ((cond1_iff i t).mpr (by omega)))]
  iintro Hl'
  iapply (wp_done d i)
  iapply Hk
  iexact Hl'

/-- The trip's block of the list has arrived: fetch the rows it names and wait for them. -/
theorem wp_part2 (hn : Named d idx) {O : CellTallies nD τ sig (HIx 1)} {W : Waits sig (HIx 1)} (t : Fin k0_t1_loop.trips) {w v64 v65 v66 v71 v76 v96}
    {h1 h2 h3} {Post : _ → sProp 𝕄} :
    iprop(Transfers.MayWaits (tile d i) (default : HIx 1) O ∗ listTurn d i idx q t.val ∗ rowsFree d i (t.val % 2) ∗ atZero d i gSem ∗ tabPts d tab q ∗ owing d i O W)
      ⊢ iprop((iprop(listFree d i idx q (t.val % 2) ∗ (rowsPts d i (t.val % 2) (rowsC d i tab idx (base i + t.val)) ∗ atZero d i (outSem (t.val % 2)))
          ∗ atZero d i gSem ∗ tabPts d tab q ∗ owing d i O W) -∗ Post ⟨Scalar.ori (Scalar.cmpi .ne v66 v76) v65, Scalar.extui (Scalar.ori (Scalar.cmpi .ne v66 v76) v65), 0#32⟩)
      -∗ wp frame (wpE (defs₀ (F := F)) 𝒱₀ (tile d i) none) Set.univ (k0_part2 (F := F) i tabM (Memref.isWhole_whole _) idxM (Memref.isWhole_whole _) outM (Memref.isWhole_whole _)
          listM (Memref.isWhole_whole _) cc0_scoped1 rowsM (Memref.isWhole_whole _) cc0_scoped3 cc0_scoped4 t
          (fetched t.val) (done t.val) (done t.val) (drained t.val) (block t.val) h3 h2 h1 w v64 v65 v66 v71 v76 v96) Post) := by
  have ht := trip_lt t
  have hp : t.val % 2 < 2 := Nat.mod_lt _ (by decide)
  rw [k0_part2_eq_skeleton]
  unfold k0_part2_skel
  unfold rowsFree listTurn
  rw [if_pos ht]
  iintro ⟨#Hmw, Hl, ⟨Hr, Hrz⟩, Hz, Ht, HO⟩ Hk
  simp only [Prog.lift, Prog.bind_op, Prog.bind_ret, Prog.pure_eq_ret, ite_self, dif_pos (cond2_true i t)]
  iapply (wp_landing d i (semAt_in _ hp _ _ (off9_eq ⟨t.val, ht⟩)) (N := creditL) ?hL) $$ [Hl HO]
  case hL => rfl
  · isplitl [Hl]; · iexact Hl
    isplitl [HO]; · iexact HO
    iexact Hmw
  iintro ⟨⟨Hl, Hi⟩, Hlz, HO⟩
  iapply (wp_gather d i tab idx q hn hp (off10_eq ⟨t.val, ht⟩) (off11_eq ⟨t.val, ht⟩)) $$ [Hl Hr Hz Ht]
  · isplitl [Hl]; · iexact Hl
    isplitl [Hr]; · iexact Hr
    isplitl [Ht]; · iexact Ht
    iexact Hz
  iintro Hg
  iapply (wp_landing d i (sem' := gSem) rfl (N := creditR) ?hR) $$ [Hg HO]
  case hR => rfl
  · isplitl [Hg]; · iexact Hg
    isplitl [HO]; · iexact HO
    iexact Hmw
  iintro ⟨⟨Hr, Ht, Hl⟩, Hz, HO⟩
  iapply (wp_done d i)
  iapply Hk
  isplitl [Hl Hi Hlz]
  · unfold listFree
    isplitl [Hl]; · iexists _; iexact Hl
    isplitl [Hi]; · iexact Hi
    iexact Hlz
  isplitl [Hr Hrz]
  · isplitl [Hr]; · iexact Hr
    iexact Hrz
  isplitl [Hz]; · iexact Hz
  isplitl [Ht]; · iexact Ht
  iexact HO

/-! ## The result's blocks from trip to trip -/

/-- A block written out joins those before it. -/
theorem join_done (t : ℕ) (ht : 0 < t) (f : Buf (Elt F) (outLoc d)) :
    (iprop(outPts d (base i) (base i + t - 1) f ∗ outPts d (base i + t - 1) (base i + t - 1 + 1) f) : sProp 𝕄) ⊢ outPts d (base i) (base i + (t + 1) - 1) f := by
  have e : blocksS (base i) (base i + (t + 1) - 1) = blocksS (base i) (base i + t - 1) ∪ blocksS (base i + t - 1) (base i + t - 1 + 1) := by
    rw [blocksS_union (by omega) (by omega)]; congr 1; omega
  unfold outPts
  rw [e]
  exact (pointsTo_union (blocksS_disjoint (.inl le_rfl))).2

/-- Before trips 0 and 1 no block is in the result yet. -/
theorem none_done (t : ℕ) (h : t = 0) (f : Buf (Elt F) (outLoc d)) :
    (outPts d (base i) (base i + t - 1) f : sProp 𝕄) = outPts d (base i) (base i + (t + 1) - 1) f := by
  have e : blocksS (base i) (base i + t - 1) = blocksS (base i) (base i + (t + 1) - 1) := by
    ext x; simp only [blocksS, Finset.mem_filter]; omega
  unfold outPts
  rw [e]

/-- The trip's block, and those still to come. -/
theorem split_todo (t : ℕ) (ht : t < 72) (f : Buf (Elt F) (outLoc d)) :
    outPts d (base i + t) (base i + 72) f ⊢ (iprop(outPts d (base i + t) (base i + t + 1) f ∗ outPts d (base i + (t + 1)) (base i + 72) f) : sProp 𝕄) := by
  unfold outPts
  rw [← blocksS_union (a := base i + t) (b := base i + t + 1) (c := base i + 72) (by omega) (by omega)]
  exact (pointsTo_union (blocksS_disjoint (.inl le_rfl))).1

/-- One trip: fetch the next block of the list, the rows the trip's own block names, and begin writing them out; the
    write-out before has come to its end by then. -/
theorem trip (hn : Named d idx) (O : CellTallies nD τ sig (HIx 1)) (W : Waits sig (HIx 1)) (t : Fin k0_t1_loop.trips)
    (acc : BitVec 32 × BitVec 32 × BitVec 32 × BitVec 32 × BitVec 32) :
    Inv d i tab idx out q O W t.val acc ⊢ wp frame (wpE (defs₀ (F := F)) 𝒱₀ (tile d i) none) Set.univ (body i (baseW i) t acc) (Inv d i tab idx out q O W (t.val + 1)) := by
  have ht := trip_lt t
  have hp : t.val % 2 < 2 := Nat.mod_lt _ (by decide)
  have hp' : (t.val + 1) % 2 < 2 := Nat.mod_lt _ (by decide)
  unfold Inv
  iintro ⟨%hacc, #Hmw, Hl, Hl', Hr, Hr', Ho, Hz, Ht, HO⟩
  subst hacc
  unfold body k0_t1_body
  simp only [wp_bind]
  iapply (wp_part1 d i idx q t) $$ Hl'
  iintro Hl'
  dsimp only
  iapply (wp_part2 d i tab idx q hn t (O := O) (W := W)) $$ [Hl Hr Hz Ht HO]
  · isplitr; · iexact Hmw
    isplitl [Hl]; · iexact Hl
    isplitl [Hr]; · iexact Hr
    isplitl [Hz]; · iexact Hz
    isplitl [Ht]; · iexact Ht
    iexact HO
  iintro ⟨Hl, ⟨Hr, Hrz⟩, Hz, Ht, HO⟩
  dsimp only
  simp only [Prog.lift, Prog.bind_op, Prog.bind_ret, Prog.pure_eq_ret, ite_self, dif_pos (cond5_true i t)]
  ihave Ho := (split_todo d i t.val ht out) $$ Ho
  icases Ho with ⟨Hblk, Ho⟩
  iapply (wp_put d i tab idx hp (B := base i + t.val) ?hB (off12_eq ⟨t.val, ht⟩) (off13_eq i ⟨t.val, ht⟩) (semAt_out _ hp _ _ (off14_eq ⟨t.val, ht⟩))) $$ [Hr Hblk Hrz]
  case hB => have := base_le i; omega
  · isplitl [Hr]; · iexact Hr
    isplitl [Hblk]; · iexact Hblk
    iexact Hrz
  iintro Hr
  iapply (wp_on d i (A := iprop(Transfers.MayWaits (tile d i) (default : HIx 1) O ∗ rowsTurn d i tab idx t.val ∗ owing d i O W))
    (B := iprop((rowsFree d i ((t.val + 1) % 2) ∗ outPts d (base i) (base i + (t.val + 1) - 1) (outC d tab idx)) ∗ owing d i O W)) ?hp ?hn) $$ [Hr' HO]
  case hp =>
    intro h k Post
    have h0 := (cond7_iff i t).mp h
    unfold rowsTurn
    rw [if_neg (by omega)]
    iintro ⟨#Hmw, ⟨Hr, Ho⟩, HO⟩ Hk
    iapply (wp_landing d i (semAt_out _ hp' _ _ (off17_eq ⟨t.val, ht⟩ h0)) (N := creditO) ?hL) $$ [Hr HO]
    case hL => rfl
    · isplitl [Hr]; · iexact Hr
      isplitl [HO]; · iexact HO
      iexact Hmw
    iintro ⟨⟨Hb, %f, Hr⟩, Hz, HO⟩
    iapply Hk
    isplitl [Hb Ho Hr Hz]
    · isplitl [Hr Hz]
      · unfold rowsFree
        isplitl [Hr]; · iexists _; iexact Hr
        iexact Hz
      iapply (join_done d i t.val h0 _)
      isplitl [Ho]; · iexact Ho
      iexact Hb
    iexact HO
  case hn =>
    intro h
    have h0 : t.val = 0 := by by_contra h'; exact h ((cond7_iff i t).mpr (by omega))
    unfold rowsTurn
    rw [if_pos h0]
    iintro ⟨-, ⟨Hr, Ho⟩, HO⟩
    isplitl [Hr Ho]
    · isplitl [Hr]; · iexact Hr
      iapply (Entails.of_eq (none_done d i t.val h0 _))
      iexact Ho
    iexact HO
  · isplitr; · iexact Hmw
    isplitl [Hr']; · iexact Hr'
    iexact HO
  iintro ⟨⟨Hr', Hd⟩, HO⟩
  iapply (wp_done d i)
  isplitr
  · ipureintro; exact next_eq i ⟨t.val, ht⟩
  isplitr; · iexact Hmw
  isplitl [Hl']; · iexact Hl'
  isplitl [Hl]
  · rw [show (t.val + 1 + 1) % 2 = t.val % 2 by omega]; iexact Hl
  isplitl [Hr']; · iexact Hr'
  isplitl [Hr Hd]
  · unfold rowsTurn
    rw [if_neg (Nat.succ_ne_zero _), show (t.val + 1 + 1) % 2 = t.val % 2 by omega]
    isplitl [Hr]; · iexact Hr
    iexact Hd
  isplitl [Ho]; · iexact Ho
  isplitl [Hz]; · iexact Hz
  isplitl [Ht]; · iexact Ht
  iexact HO

end Trip

end Cert.Proof.Gather

end
-- ==== Proof.Tile.lean ====
/-
  One tile's whole run: the first fetch, the seventy-two trips, the last write-out's wait. It takes the tile's share of
  the table and of the list and its seventy-two blocks of the result, and brings them back with the rows there.
-/
module

public import proofs.«01_k».proof.Proof.Trip

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (i : grid0.Coords)

/-- The five semaphores of a tile's transfers. -/
abbrev cellAt (s : DmaSem sig) : GSem nD τ sig := (tile d i, .dma s)

theorem ownSems0_V :
    (ownSems0 (tile d i) : sProp 𝕄)
      = iprop(semVal (cellAt d i (inSem 0)) 0 ∗ semVal (cellAt d i (inSem 1)) 0 ∗ semVal (cellAt d i (outSem 0)) 0 ∗ semVal (cellAt d i (outSem 1)) 0
          ∗ semVal (cellAt d i gSem) 0
          ∗ bigSep ((((((ownCells (tile d i)).erase (cellAt d i (inSem 0))).erase (cellAt d i (inSem 1))).erase (cellAt d i (outSem 0))).erase
              (cellAt d i (outSem 1))).erase (cellAt d i gSem)) fun g => semVal g 0) := by
  have hmem : ∀ s : DmaSem sig, (SemLoc.dma s : SemLoc sig).isScoped .scVector = true → cellAt d i s ∈ ownCells (tile d i) :=
    fun s h => mem_ownCells.mpr ⟨rfl, h⟩
  have hne : ∀ s s' : DmaSem sig, s ≠ s' → cellAt d i s ≠ cellAt d i s' := fun s s' h e => h (by
    have := congrArg Prod.snd e; injection this)
  unfold SparseCore.Cfg.ownSems0
  rw [SparseCore.bigSep_erase' (hmem (inSem 0) (by decide)),
    SparseCore.bigSep_erase' (Finset.mem_erase.mpr ⟨hne (inSem 1) (inSem 0) (by decide), hmem (inSem 1) (by decide)⟩),
    SparseCore.bigSep_erase' (Finset.mem_erase.mpr ⟨hne (outSem 0) (inSem 1) (by decide),
      Finset.mem_erase.mpr ⟨hne (outSem 0) (inSem 0) (by decide), hmem (outSem 0) (by decide)⟩⟩),
    SparseCore.bigSep_erase' (Finset.mem_erase.mpr ⟨hne (outSem 1) (outSem 0) (by decide),
      Finset.mem_erase.mpr ⟨hne (outSem 1) (inSem 1) (by decide),
      Finset.mem_erase.mpr ⟨hne (outSem 1) (inSem 0) (by decide), hmem (outSem 1) (by decide)⟩⟩⟩),
    SparseCore.bigSep_erase' (Finset.mem_erase.mpr ⟨hne gSem (outSem 1) (by decide), Finset.mem_erase.mpr ⟨hne gSem (outSem 0) (by decide),
      Finset.mem_erase.mpr ⟨hne gSem (inSem 1) (by decide),
      Finset.mem_erase.mpr ⟨hne gSem (inSem 0) (by decide), hmem gSem (by decide)⟩⟩⟩⟩)]

/-- The two scratch buffers among a tile's own. -/
theorem ownBufs_V :
    (ownBufs (tile d i) : sProp 𝕄)
      = iprop((∃ f, listLoc d i ↦{fullShare} f) ∗ (∃ f, rowsLoc d i ↦{fullShare} f)
          ∗ bigSep (((ownRefs (τ := τ) (.scVector (cV i) (jV i))).erase ((Proc.scVector (cV i) (jV i)).devRef cc0_scoped0)).erase
              ((Proc.scVector (cV i) (jV i)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV i) (jV i)) (b := (Proc.scVector (cV i) (jV i)).devRef cc0_scoped2) rfl⟩)]

/-! ## The scratch buffers and the list's share, by slots -/

theorem list_slots (f : Buf (Elt F) (listLoc d i)) : (listLoc d i ↦{fullShare} f : sProp 𝕄) ⊢ iprop(listPts d i 0 f ∗ listPts d i 1 f) := by
  unfold listPts
  rw [← listS_union]
  exact (pointsTo_union listS_disjoint).1

theorem rows_slots (f : Buf (Elt F) (rowsLoc d i)) : (rowsLoc d i ↦{fullShare} f : sProp 𝕄) ⊢ iprop(rowsPts d i 0 f ∗ rowsPts d i 1 f) := by
  unfold rowsPts
  rw [← rowsS_union]
  exact (pointsTo_union rowsS_disjoint).1

theorem list_whole (f g : Buf (Elt F) (listLoc d i)) : (iprop(listPts d i 0 f ∗ listPts d i 1 g) : sProp 𝕄) ⊢ iprop(∃ h, listLoc d i ↦{fullShare} h) := by
  unfold listPts
  iintro H
  ihave H := (pointsTo_join (listS_disjoint)) $$ H
  iexists _
  rw [← listS_union]
  iexact H

theorem rows_whole (f g : Buf (Elt F) (rowsLoc d i)) : (iprop(rowsPts d i 0 f ∗ rowsPts d i 1 g) : sProp 𝕄) ⊢ iprop(∃ h, rowsLoc d i ↦{fullShare} h) := by
  unfold rowsPts
  iintro H
  ihave H := (pointsTo_join (rowsS_disjoint)) $$ H
  iexists _
  rw [← rowsS_union]
  iexact H

/-- Before the first trip no block is in the result yet. -/
theorem none_yet (f : Buf (Elt F) (outLoc d)) : (outPts d (base i) (base i + 0 - 1) f : sProp 𝕄) = iprop(emp) := by
  have e : blocksS (base i) (base i + 0 - 1) = ∅ := by
    ext x; simp only [blocksS, Finset.mem_filter, Finset.notMem_empty, iff_false]; omega
  unfold outPts
  rw [e, pointsTo_empty]

theorem idx_halves (idx : Buf (Elt F) (idxLoc d)) (q : PosShare TreeShare) :
    (idxLoc d ↦{q} idx : sProp 𝕄) = iprop(idxPts d idx q 0 ∗ idxPts d idx q 1) :=
  BI.Entails.antisymm (pointsTo_share (PosShare.mem_left_op_right q)).1 (pointsTo_share (PosShare.mem_left_op_right q)).2

/-! ## The run -/

section Run

variable [FloatOps F] (tab : Buf (Elt F) (tabLoc d)) (idx : Buf (Elt F) (idxLoc d)) (out : Buf (Elt F) (outLoc d)) (q : PosShare TreeShare)

/-- The first fetch. -/
theorem wp_part3 {Post : _ → sProp 𝕄} :
    listFree d i idx q 0 ⊢ iprop((listBusy d i idx q 0 (base i) -∗ Post (baseW i))
      -∗ wp frame (wpE (defs₀ (F := F)) 𝒱₀ (tile d i) none) Set.univ (k0_part3 (F := F) i tabM (Memref.isWhole_whole _) idxM (Memref.isWhole_whole _)
          outM (Memref.isWhole_whole _) listM (Memref.isWhole_whole _) cc0_scoped1 rowsM (Memref.isWhole_whole _) cc0_scoped3 cc0_scoped4) Post) := by
  rw [k0_part3_eq_skeleton]
  unfold k0_part3_skel
  iintro Hl Hk
  simp only [Prog.lift, Prog.bind_op, Prog.bind_ret, Prog.pure_eq_ret]
  iapply (wp_fetch d i idx q (p := 0) (B := base i) (by decide) ?hB (off2_eq i) off1_eq (semAt_in 0 (by decide) _ _ off3_eq)) $$ Hl
  case hB => have := base_le i; omega
  iintro Hl
  iapply (wp_done d i)
  iapply Hk
  iexact Hl

/-- The seventy-two trips. -/
theorem wp_part4 (hn : Named d idx) (O : CellTallies nD τ sig (HIx 1)) (W : Waits sig (HIx 1)) {Post : _ → sProp 𝕄} :
    Inv d i tab idx out q O W 0 (fetched 0, done 0, done 0, drained 0, block 0)
      ⊢ iprop((Inv d i tab idx out q O W 72 (fetched 72, done 72, done 72, drained 72, block 72) -∗ Post ⟨drained 72, block 72, chk5_ok i, chk4_ok⟩)
      -∗ wp frame (wpE (defs₀ (F := F)) 𝒱₀ (tile d i) none) Set.univ (k0_part4 (F := F) i tabM (Memref.isWhole_whole _) idxM (Memref.isWhole_whole _)
          outM (Memref.isWhole_whole _) listM (Memref.isWhole_whole _) cc0_scoped1 rowsM (Memref.isWhole_whole _) cc0_scoped3 cc0_scoped4 (baseW i)) Post) := by
  rw [k0_part4_eq_skeleton]
  unfold k0_part4_skel
  iintro HI Hk
  dsimp only [Scf.Loop.for]
  rw [start_eq]
  iapply (Scf.wp_for_bind frame (wpE (defs₀ (F := F)) 𝒱₀ (tile d i) none) Set.univ _ _ _ _ _ (body i (baseW i))
    (Inv d i tab idx out q O W) (trip d i tab idx out q hn O W)) $$ HI
  iintro %acc HI
  rw [show Scf.trips k0_t1_loop.lb k0_t1_loop.ub k0_t1_loop.st = 72 from trips_eq]
  unfold Inv
  icases HI with ⟨%hacc, HI⟩
  subst hacc
  simp only [Prog.lift, Prog.bind_op, Prog.bind_ret, Prog.pure_eq_ret]
  iapply (wp_assume 𝒱₀ (tile d i) none Set.univ (chk5_ok i))
  iapply (wp_assume 𝒱₀ (tile d i) none Set.univ chk4_ok)
  iapply (wp_done d i)
  iapply Hk
  isplitr; · ipureintro; trivial
  iexact HI

/-- The tile's whole run. -/
theorem tile_body (hn : Named d idx) (O : CellTallies nD τ sig (HIx 1)) (W : Waits sig (HIx 1)) (hO : ∀ g, O g none = 0) :
    iprop(levAts (K (F := F)).L (K (F := F)).lev ∗ emp
        ∗ ((tabLoc d ↦{q} tab) ∗ (idxLoc d ↦{q} idx) ∗ outPts d (base i) (base i + 72) out)
        ∗ scopedBufs (tile d i) ∗ scopedSems0 (tile d i) ∗ owes (tile d i) O W)
      ⊢ wp frame (wpE (defs₀ (F := F)) 𝒱₀ (tile d i) none) Set.univ
          (cc0_k (F := F) i tabM (Memref.isWhole_whole _) idxM (Memref.isWhole_whole _) outM (Memref.isWhole_whole _)
            listM (Memref.isWhole_whole _) cc0_scoped1 rowsM (Memref.isWhole_whole _) cc0_scoped3 cc0_scoped4)
          fun _ => iprop(((tabLoc d ↦{q} tab) ∗ (idxLoc d ↦{q} idx) ∗ outPts d (base i) (base i + 72) (outC d tab idx))
            ∗ scopedBufs (tile d i) ∗ scopedSems0 (tile d i)
            ∗ ∃ W', ⌜∀ p ∈ W', p ∈ W ∨ p.2 = none⌝ ∗ owes (tile d i) O W') := by
  rw [cc0_k_eq_skeleton]
  unfold cc0_k_skel
  rw [(K (F := F)).scopedBufs_V launch_facts d (cV i) (jV i), SparseCore.Cfg.scopedSems0_V (Val := Elt F) d (cV i) (jV i), ownSems0_V, ownBufs_V, idx_halves]
  iintro ⟨#Hlv, -, ⟨Ht, ⟨Hi0, Hi1⟩, Ho⟩, ⟨⟨%fl, Hl⟩, ⟨%fr, Hr⟩, Hbufs⟩, ⟨HA, HB, HC, HD, HE, Hsems⟩, HO⟩
  ihave Hmw := (show levAts (K (F := F)).L (K (F := F)).lev ⊢ Transfers.MayWaits (tile d i) (default : HIx 1) O from
    (K (F := F)).mayWaits_none (thr := tile d i) hO) $$ Hlv
  icases Hmw with #Hmw
  ihave Hl := (list_slots d i fl) $$ Hl
  icases Hl with ⟨Hl0, Hl1⟩
  ihave Hr := (rows_slots d i fr) $$ Hr
  icases Hr with ⟨Hr0, Hr1⟩
  simp only [wp_bind]
  iapply (wp_part3 d i idx q) $$ [Hl0 Hi0 HA]
  · unfold listFree
    isplitl [Hl0]; · iexists _; iexact Hl0
    isplitl [Hi0]; · iexact Hi0
    iexact HA
  iintro Hl0
  iapply (wp_part4 d i tab idx out q hn O W) $$ [Hl0 Hl1 Hi1 HB Hr0 HC Hr1 HD Ho HE Ht HO]
  · unfold Inv
    isplitr; · ipureintro; rfl
    isplitr; · iexact Hmw
    isplitl [Hl0]; · unfold listTurn; rw [if_pos (by decide)]; iexact Hl0
    isplitl [Hl1 Hi1 HB]
    · unfold listFree
      isplitl [Hl1]; · iexists _; iexact Hl1
      isplitl [Hi1]; · iexact Hi1
      iexact HB
    isplitl [Hr0 HC]
    · unfold rowsFree
      isplitl [Hr0]; · iexists _; iexact Hr0
      iexact HC
    isplitl [Hr1 HD]
    · unfold rowsTurn
      rw [if_pos rfl]
      isplitl [Hr1 HD]
      · unfold rowsFree
        isplitl [Hr1]; · iexists _; iexact Hr1
        iexact HD
      rw [none_yet]
      iempintro
    isplitl [Ho]; · iexact Ho
    isplitl [HE]; · iexact HE
    isplitl [Ht]; · iexact Ht
    unfold owing
    iexists W; isplitr
    · ipureintro; exact fun p hp => .inl hp
    iexact HO
  unfold Inv rowsTurn listTurn
  rw [if_neg (by decide), if_neg (by decide)]
  iintro ⟨-, -, Hl0, Hl1, Hr0, ⟨Hr1, Hd⟩, -, HE, Ht, HO⟩
  dsimp only
  simp only [Prog.lift, Prog.bind_op, Prog.bind_ret, Prog.pure_eq_ret]
  iapply (wp_landing d i (sem' := outSem 1) (semAt_out 1 (by decide) _ _ off20_eq) (N := creditO) ?hL) $$ [Hr1 HO]
  case hL => rfl
  · isplitl [Hr1]; · iexact Hr1
    isplitl [HO]; · iexact HO
    iexact Hmw
  iintro ⟨⟨Hb, %g1, Hr1⟩, HD, HO⟩
  iapply (wp_done d i)
  iapply (wp_done d i)
  unfold listFree rowsFree
  icases Hl0 with ⟨⟨%f0, Hl0⟩, Hi0, HA⟩
  icases Hl1 with ⟨⟨%f1, Hl1⟩, Hi1, HB⟩
  icases Hr0 with ⟨⟨%g0, Hr0⟩, HC⟩
  isplitl [Ht Hi0 Hi1 Hd Hb]
  · isplitl [Ht]; · iexact Ht
    isplitl [Hi0 Hi1]
    · isplitl [Hi0]; · iexact Hi0
      iexact Hi1
    iapply (join_done d i 72 (by decide) _)
    isplitl [Hd]; · iexact Hd
    iexact Hb
  isplitl [Hl0 Hl1 Hr0 Hr1 Hbufs]
  · isplitl [Hl0 Hl1]
    · iapply (list_whole d i f0 f1)
      isplitl [Hl0]; · iexact Hl0
      iexact Hl1
    isplitl [Hr0 Hr1]
    · iapply (rows_whole d i g0 g1)
      isplitl [Hr0]; · iexact Hr0
      iexact Hr1
    iexact Hbufs
  isplitl [HA HB HC HD HE Hsems]
  · isplitl [HA]; · iexact HA
    isplitl [HB]; · iexact HB
    isplitl [HC]; · iexact HC
    isplitl [HD]; · iexact HD
    isplitl [HE]; · iexact HE
    iexact Hsems
  unfold owing
  iexact HO

end Run

end Tile

end Cert.Proof.Gather

end
-- ==== Proof.Launch.lean ====
/-
  The launch: what the call deals its two SparseCores and their sixteen tiles each, what comes back, and the program's
  run. Each tile takes a share of the table and of the list, both only read, and 72 blocks of the result.
-/
module

public import proofs.«01_k».proof.Proof.Tile
public import Idealize.ShloMosaic.Lib.ShareLeaves

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The arrays as the program's lines leave them -/

abbrev bTab0 : DevRef τ sig := Proc.devRef .tc (main_arg0 : Ref sig .tc)
abbrev bIdx0 : DevRef τ sig := Proc.devRef .tc (main_arg1 : Ref sig .tc)
abbrev bTab : DevRef τ sig := Proc.devRef .tc (main_v0 : Ref sig .tc)
abbrev bIdx : DevRef τ sig := Proc.devRef .tc (main_v1 : Ref sig .tc)
abbrev bOut : DevRef τ sig := Proc.devRef .tc (main_v2 : Ref sig .tc)
abbrev bRes : DevRef τ sig := Proc.devRef .tc (main_v3 : Ref sig .tc)

abbrev opTab : HloOp τ sig (Elt F) :=
  StableHlo.reshape main_arg0 main_v0 (rfl : (.i32 : EltTy) = .i32) shapeCasts_S359424x256_S359424x2x128
abbrev opIdx : HloOp τ sig (Elt F) :=
  StableHlo.reshape main_arg1 main_v1 (rfl : (.i32 : EltTy) = .i32) shapeCasts_S294912_S1x294912
abbrev opRes : HloOp τ sig (Elt F) :=
  StableHlo.reshape main_v2 main_v3 (rfl : (.i32 : EltTy) = .i32) shapeCasts_S294912x2x128_S294912x256

def atStart (d : Dev nD) : Valuation τ sig (Elt F) := fun b => m (d, b)
/-- The arrays when the call starts: the table and the list in the call's shapes. -/
def atCall (d : Dev nD) : Valuation τ sig (Elt F) := (opIdx (F := F)).result ((opTab (F := F)).result (atStart m d))

def tabOf (d : Dev nD) : Buf (Elt F) (tabLoc d) := atCall m d bTab
def idxOf (d : Dev nD) : Buf (Elt F) (idxLoc d) := atCall m d bIdx
def outOf (d : Dev nD) : Buf (Elt F) (outLoc d) := atCall m d bOut

/-- When the call is over, the result holds the rows the list names. -/
def afterCall (d : Dev nD) : Valuation τ sig (Elt F) := Function.update (atCall m d) bOut (outC d (tabOf m d) (idxOf m d))
def atEnd (d : Dev nD) : Valuation τ sig (Elt F) := (opRes (F := F)).result (afterCall m d)

/-! ## What the handshakes carry -/

/-- A share of the table and of the list, and the result's blocks from `a` to `b`. -/
abbrev deal (d : Dev nD) (q : PosShare TreeShare) (a b : ℕ) (f : Buf (Elt F) (outLoc d)) : sProp 𝕄 :=
  iprop((tabLoc d ↦{q} tabOf m d) ∗ (idxLoc d ↦{q} idxOf m d) ∗ outPts d a b f)

/-- SparseCore `c`'s share, and its tile `s`'s. -/
abbrev coreQ (c : Fin 2) : PosShare TreeShare := leaf 1 fullShare c
abbrev tileQ (c : Fin 2) (s : Fin 16) : PosShare TreeShare := leaf 4 (coreQ c) s

abbrev coreDeal (d : Dev nD) (c : Fin 2) (f : Buf (Elt F) (outLoc d)) : sProp 𝕄 :=
  deal m d (coreQ c) (1152 * c.val) (1152 * c.val + 1152) f
abbrev tileDeal (d : Dev nD) (c : Fin 2) (s : Fin 16) (f : Buf (Elt F) (outLoc d)) : sProp 𝕄 :=
  deal m d (tileQ c s) (1152 * c.val + 72 * s.val) (1152 * c.val + 72 * s.val + 72) f

abbrev done (d : Dev nD) : Buf (Elt F) (outLoc d) := outC d (tabOf m d) (idxOf m d)

def P : (K (F := F)).Pay (nD := nD) (Val := Elt F) (Name := ℕ) (U := UU) where
  st := fun q d c => match q with | 0 => coreDeal m d (Fin.cast nCore_zero c) (outOf m d)
  dn := fun q d c => match q with | 0 => coreDeal m d (Fin.cast nCore_zero c) (done m d)
  go := fun q d c i => match q with | 0 => tileDeal m d (Fin.cast nCore_zero c) (Fin.cast nSub_zero i) (outOf m d)
  td := fun q d c i => match q with | 0 => tileDeal m d (Fin.cast nCore_zero c) (Fin.cast nSub_zero i) (done m d)
  x := fun _ _ => iprop(emp)

instance P_storable : (P (F := F) m).IsStorable where
  st q d c := match q with
    | 0 => (inferInstance : BI.Storable (upEmb : UEmb _ 𝕄) (coreDeal m d (Fin.cast nCore_zero c) (outOf m d)))
  dn q d c := match q with
    | 0 => (inferInstance : BI.Storable (upEmb : UEmb _ 𝕄) (coreDeal m d (Fin.cast nCore_zero c) (done m d)))
  go q d c i := match q with
    | 0 => (inferInstance : BI.Storable (upEmb : UEmb _ 𝕄) (tileDeal m d (Fin.cast nCore_zero c) (Fin.cast nSub_zero i) (outOf m d)))
  td q d c i := match q with
    | 0 => (inferInstance : BI.Storable (upEmb : UEmb _ 𝕄) (tileDeal m d (Fin.cast nCore_zero c) (Fin.cast nSub_zero i) (done m d)))

/-! ## Dealing and gathering up -/

theorem blocks_cores : blocksS 0 2304 = Finset.univ.biUnion fun c : Fin 2 => blocksS (1152 * c.val) (1152 * c.val + 1152) := by
  ext x
  simp only [blocksS, Finset.mem_biUnion, Finset.mem_filter, Finset.mem_univ, true_and]
  constructor
  · rintro ⟨_, h⟩
    exact ⟨⟨(x 0).val / 147456, by omega⟩, by dsimp only; omega⟩
  · rintro ⟨c, h⟩; have := c.isLt; omega
theorem blocks_tiles (a : ℕ) : blocksS a (a + 1152) = Finset.univ.biUnion fun s : Fin 16 => blocksS (a + 72 * s.val) (a + 72 * s.val + 72) := by
  ext x
  simp only [blocksS, Finset.mem_biUnion, Finset.mem_filter, Finset.mem_univ, true_and]
  constructor
  · rintro ⟨_, h⟩
    exact ⟨⟨((x 0).val - 128 * a) / 9216, by omega⟩, by dsimp only; omega⟩
  · rintro ⟨s, h⟩; have := s.isLt; omega
theorem blocks_all : blocksS 0 2304 = Finset.univ := by
  ext x; have : (x 0).val < 294912 := (x 0).isLt
  simp only [blocksS, Finset.mem_filter, Finset.mem_univ, true_and, iff_true]; omega

theorem deal_cores (d : Dev nD) (f : Buf (Elt F) (outLoc d)) :
    deal m d fullShare 0 2304 f = bigSep Finset.univ fun c : Fin 2 => coreDeal m d c f := by
  unfold coreDeal deal outPts
  rw [bigSep_sep', bigSep_sep', blocks_cores, pointsTo_biUnion Finset.univ (ℓ := outLoc d) _ fun c _ c' _ h => blocksS_disjoint (by
      have : c.val ≠ c'.val := fun e => h (Fin.ext e)
      omega)]
  exact congr (congrArg BIBase.sep (pointsTo_leaves Finset.univ (tabOf m d) 1 fullShare))
    (congrFun (congrArg BIBase.sep (pointsTo_leaves Finset.univ (idxOf m d) 1 fullShare)) _)
theorem deal_tiles (d : Dev nD) (c : Fin 2) (f : Buf (Elt F) (outLoc d)) :
    coreDeal m d c f = bigSep Finset.univ fun s : Fin 16 => tileDeal m d c s f := by
  unfold tileDeal coreDeal deal outPts
  rw [bigSep_sep', bigSep_sep', blocks_tiles, pointsTo_biUnion Finset.univ (ℓ := outLoc d) _ fun c _ c' _ h => blocksS_disjoint (by
      have : c.val ≠ c'.val := fun e => h (Fin.ext e)
      omega)]
  exact congr (congrArg BIBase.sep (pointsTo_leaves Finset.univ (tabOf m d) 4 (coreQ c)))
    (congrFun (congrArg BIBase.sep (pointsTo_leaves Finset.univ (idxOf m d) 4 (coreQ c))) _)

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show coreDeal m d (Fin.cast nCore_zero c) (outOf m d) ⊢ |={Set.univ}=> iprop(
      (bigSep Finset.univ fun i : Fin ((K (F := F)).nSub 0) => tileDeal m d (Fin.cast nCore_zero c) (Fin.cast nSub_zero i) (outOf m d))
      ∗ ((bigSep Finset.univ fun i : Fin ((K (F := F)).nSub 0) => tileDeal m d (Fin.cast nCore_zero c) (Fin.cast nSub_zero i) (done m d))
          -∗ coreDeal m d (Fin.cast nCore_zero c) (done m d)))
  rw [bigSep_tiles (F := F) (fun i => tileDeal m d (Fin.cast nCore_zero c) i (outOf m d)),
    bigSep_tiles (F := F) (fun i => tileDeal m d (Fin.cast nCore_zero c) i (done m d)), ← deal_tiles, ← deal_tiles]
  iintro H; imodintro
  isplitl [H]; · iexact H
  iintro H; iexact H

theorem st_all (d : Dev nD) : (bigSep Finset.univ fun c : Fin ((K (F := F)).nCore 0) => (P m).st 0 d c) = deal m d fullShare 0 2304 (outOf m d) :=
  (bigSep_cores (F := F) fun c => coreDeal m d c (outOf m d)).trans (deal_cores m d _).symm
theorem dn_all (d : Dev nD) : (bigSep Finset.univ fun c : Fin ((K (F := F)).nCore 0) => (P m).dn 0 d c) = deal m d fullShare 0 2304 (done m d) :=
  (bigSep_cores (F := F) fun c => coreDeal m d c (done m d)).trans (deal_cores m d _).symm

/-! ## One tile's task -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem base_coordsV (c : Fin (grid0.bound 0)) (s : Fin (grid0.bound 1)) : base (coordsV c s) = 1152 * c.val + 72 * s.val := by
  unfold base
  show 72 * (s.val + 16 * c.val) = _
  omega

theorem defs₀_tile (c : Fin τ.nSC) (s : Fin τ.nSub) :
    defs₀ (F := F) (.scVector c s) 0 ()
      = SparseCore.onTile hcore0 hsub0 (fun c s => cc0_k (F := F) (coordsV c s)
          tabM (Memref.isWhole_whole _) idxM (Memref.isWhole_whole _) outM (Memref.isWhole_whole _)
          listM (Memref.isWhole_whole _) cc0_scoped1 rowsM (Memref.isWhole_whole _) cc0_scoped3 cc0_scoped4) ⟨⟩ c s := rfl

theorem settle {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hn : ∀ d, Named d (idxOf m d)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  have h := tile_body d (coordsV ⟨_, hci.1⟩ ⟨_, hci.2⟩) (tabOf m d) (idxOf m d) (outOf m d)
    (tileQ (Fin.cast nCore_zero c) (Fin.cast nSub_zero i)) (hn d) O W hO
  rw [base_coordsV] at h
  exact h.trans (wp_mono frame _ _ fun _ => settle)

/-! ## The launch's ghost state -/

def u₀ : UU := (initOf (K (F := F)).hsCells (K (F := F)).hsToks, 1)

omit [FloatOps F] in
theorem none_each {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none_each]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), none_each]
  iempintro

/-! ## The program on the TensorCore -/

abbrev arrays : Finset (DevRef τ sig) := {bTab0, bIdx0, bTab, bIdx, bOut, bRes}

omit [FloatOps F] in
theorem held_arrays (d : Dev nD) (W : Valuation τ sig (Elt F)) :
    (held (T d) arrays W : sProp 𝕄)
      = iprop(((SparseCore.T d).loc main_arg0 ↦{fullShare} W bTab0) ∗ ((SparseCore.T d).loc main_arg1 ↦{fullShare} W bIdx0)
        ∗ (tabLoc d ↦{fullShare} W bTab) ∗ (idxLoc d ↦{fullShare} W bIdx) ∗ (outLoc d ↦{fullShare} W bOut)
        ∗ (SparseCore.T d).loc main_v3 ↦{fullShare} W bRes) := by
  unfold held arrays
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscoped_held (d : Dev nD) : (unscopedBufs d (fun b => m ((SparseCore.T d).loc b)) : sProp 𝕄) = held (T d) arrays (atStart m d) := by
  rw [held_arrays]
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]
  rfl

theorem opTab_sub : (opTab (F := F)).bufs ⊆ arrays := show ({bTab0, bTab} : Finset (DevRef τ sig)) ⊆ arrays by decide
theorem opIdx_sub : (opIdx (F := F)).bufs ⊆ arrays := show ({bIdx0, bIdx} : Finset (DevRef τ sig)) ⊆ arrays by decide
theorem opRes_sub : (opRes (F := F)).bufs ⊆ arrays := show ({bOut, bRes} : Finset (DevRef τ sig)) ⊆ arrays by decide

/-- The call's operands out of the arrays, and what they come back as. -/
theorem call_in (d : Dev nD) :
    (held (T d) arrays (atCall m d) : sProp 𝕄)
      ⊢ iprop(deal m d fullShare 0 2304 (outOf m d)
        ∗ (deal m d fullShare 0 2304 (done m d) -∗ held (T d) arrays (afterCall m d))) := by
  rw [held_arrays, held_arrays]
  unfold deal outPts
  rw [blocks_all, show afterCall m d bTab0 = atCall m d bTab0 from Function.update_of_ne (by decide) _ _,
    show afterCall m d bIdx0 = atCall m d bIdx0 from Function.update_of_ne (by decide) _ _,
    show afterCall m d bTab = tabOf m d from Function.update_of_ne (by decide) _ _,
    show afterCall m d bIdx = idxOf m d from Function.update_of_ne (by decide) _ _,
    show afterCall m d bOut = done m d from Function.update_self _ _ _,
    show afterCall m d bRes = atCall m d bRes from Function.update_of_ne (by decide) _ _]
  iintro ⟨H0, H1, Ht, Hi, Ho, Hr⟩
  isplitl [Ht Hi Ho]
  · isplitl [Ht]; · iexact Ht
    isplitl [Hi]; · iexact Hi
    iexact Ho
  iintro ⟨Ht, Hi, Ho⟩
  isplitl [H0]; · iexact H0
  isplitl [H1]; · iexact H1
  isplitl [Ht]; · iexact Ht
  isplitl [Hi]; · iexact Hi
  isplitl [Ho]; · iexact Ho
  iexact Hr

/-- What the program leaves: its two arguments and its result. -/
abbrev FIN (d : Dev nD) : sProp 𝕄 := held (T d) arrays (atEnd m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opTab) (S := arrays) opTab_sub (V := atStart m d)) $$ [Hb Hheld]
  · isplitl [Hb]; · iexact Hb
    iexact Hheld
  iintro ⟨Hb, Hheld⟩
  rw [wp_ret]; imodintro
  iapply (wp_hlo_within 𝒱 (SparseCore.T d) none Set.univ (op := opIdx) (S := arrays) opIdx_sub (V := (opTab (F := F)).result (atStart m d))) $$ [Hb Hheld]
  · isplitl [Hb]; · iexact Hb
    iexact Hheld
  iintro ⟨Hb, Hheld⟩
  rw [wp_ret]; imodintro
  ihave Hc := (show (held (T d) arrays ((opIdx (F := F)).result ((opTab (F := F)).result (atStart m d))) : sProp 𝕄) ⊢ _ from call_in m d) $$ Hheld
  icases Hc with ⟨Hin, Hback⟩
  iapply ((K (F := F)).wp_run (D (F := F)) 𝒱 (EH := EH) (P := P m) κ d 0) $$ [Hst Hin Hback Hb Hts]
  isplitr; · iexact Hctx
  isplitl [Hst]; · iexact Hst
  isplitl [Hin]
  · rw [st_all]; iexact Hin
  iintro ⟨Hst, Hdn⟩
  ihave Hdn' := (Entails.of_eq (dn_all m d)) $$ Hdn
  ihave Hheld := Hback $$ Hdn'
  iapply (wp_hlo_within 𝒱 (SparseCore.T d) none Set.univ (op := opRes) (S := arrays) opRes_sub (V := afterCall m d)) $$ [Hb Hheld]
  · isplitl [Hb]; · iexact Hb
    iexact Hheld
  iintro ⟨Hb, Hheld⟩
  rw [wp_ret]; imodintro; imodintro
  isplitl [Hst]; · iexact Hst
  isplitl [Hheld]; · iexact Hheld
  isplitl [Hb] <;> iassumption

def fq (d : Dev nD) (s' : Phys nD τ sig (Elt F)) : Prop :=
  s'.mem.mem ((SparseCore.T d).loc main_v3) = atEnd m d bRes
    ∧ s'.mem.mem ((SparseCore.T d).loc main_arg0) = atEnd m d bTab0
    ∧ s'.mem.mem ((SparseCore.T d).loc main_arg1) = atEnd m d bIdx0

omit [FloatOps F] in
theorem read_whole {s' : Phys nD τ sig (Elt F)} {ℓ : Loc nD τ sig} {f : Buf (Elt F) ℓ} :
    iprop(SI s' ∗ ℓ ↦{fullShare} f) ⊢ (iprop(⌜s'.mem.mem ℓ = f⌝ ∗ SI s' ∗ ℓ ↦{fullShare} f) : sProp 𝕄) := by
  iintro H
  ihave H := (persistent_entails_right (SI_pointsTo_agree (st := s') (ℓ := ℓ) (I := Finset.univ) (q := fullShare) (f := f))) $$ H
  icases H with ⟨%h, HSI, Hf⟩
  isplitr; · ipureintro; exact funext fun i => h i (Finset.mem_univ i)
  isplitl [HSI] <;> iassumption

theorem hfin (d : Dev nD) (s' : Phys nD τ sig (Elt F)) : iprop(FIN m d ∗ SI s') ⊢ (⌜fq m d s'⌝ : sProp 𝕄) := by
  unfold FIN
  rw [held_arrays]
  iintro ⟨⟨H0, H1, -, -, -, Hr⟩, HSI⟩
  ihave H := (read_whole (s' := s') (ℓ := (SparseCore.T d).loc main_v3) (f := atEnd m d bRes)) $$ [HSI Hr]
  · isplitl [HSI] <;> iassumption
  icases H with ⟨%hr, HSI, -⟩
  ihave H := (read_whole (s' := s') (ℓ := (SparseCore.T d).loc main_arg0) (f := atEnd m d bTab0)) $$ [HSI H0]
  · isplitl [HSI] <;> iassumption
  icases H with ⟨%h0, HSI, -⟩
  ihave H := (read_whole (s' := s') (ℓ := (SparseCore.T d).loc main_arg1) (f := atEnd m d bIdx0)) $$ [HSI H1]
  · isplitl [HSI] <;> iassumption
  icases H with ⟨%h1, -, -⟩
  ipureintro; exact ⟨hr, h0, h1⟩

/-- The program's run: the result is the gathered rows, the arguments are as they were, every counter is zero. -/
def QC : PUnit × MemSt nD τ sig (Elt F) → Prop := fun r =>
  (∀ c : Dev nD, r.2.mem ((SparseCore.T c).loc main_v3) = atEnd m c bRes
    ∧ r.2.mem ((SparseCore.T c).loc main_arg0) = atEnd m c bTab0
    ∧ r.2.mem ((SparseCore.T c).loc main_arg1) = atEnd m c bIdx0) ∧ r.2.sem = fun _ => 0

theorem run_main [∀ e, Nonempty (Elt F e)] (hn : ∀ d, Named d (idxOf m d)) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) launch_facts v₀
    (fun q hq => match q with | 0 => nomatch hq)
    (fun q _ => match q with | 0 => tileObl m hn)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  What the two programs compute, and that it is the same: entry `(r, c)` of the result is the table's entry
  `(idx r, c)`. The kernel moves a row as two lines of 128 words; the reference as one of 256.
-/
module

public import proofs.«01_k».proof.Proof.Launch
public import proofs.«01_k».proof.Proof.Gen.ReferenceIdeal.Run
public import Idealize.ShloMosaic.Lib.Routing.Ops
public import Idealize.ShloMosaic.Lib.Pipeline.Value

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

/-! ## The kernel's program -/

section Kernel
variable (m : (ℓ : Loc nD τ sig) → Buf (Elt F) ℓ) (d : Dev nD)

abbrev tab0 : S359424x256.Idx → BitVec 32 := m ((SparseCore.T d).loc main_arg0)
abbrev idx0 : S294912.Idx → BitVec 32 := m ((SparseCore.T d).loc main_arg1)

theorem tabOf_eq : tabOf m d = (shapeCast S359424x2x128 (tab0 m d) shapeCasts_S359424x256_S359424x2x128 : S359424x2x128.Idx → BitVec 32) := by
  unfold tabOf atCall
  rw [StableHlo.reshape_result_ne (h := by decide), StableHlo.reshape_result]
  rfl

theorem idxOf_eq : idxOf m d = (shapeCast S1x294912 (idx0 m d) shapeCasts_S294912_S1x294912 : S1x294912.Idx → BitVec 32) := by
  unfold idxOf atCall
  rw [StableHlo.reshape_result, StableHlo.reshape_result_ne (h := by decide)]
  rfl

theorem res_eq : atEnd m d bRes
    = (shapeCast S294912x256 (outC d (tabOf m d) (idxOf m d)) shapeCasts_S294912x2x128_S294912x256 : S294912x256.Idx → BitVec 32) := by
  unfold atEnd afterCall
  rw [StableHlo.reshape_result, Function.update_self]
  rfl

theorem tab0_end : atEnd m d bTab0 = tab0 m d := by
  unfold atEnd afterCall atCall
  rw [StableHlo.reshape_result_ne (h := by decide), Function.update_of_ne (by decide),
    StableHlo.reshape_result_ne (h := by decide), StableHlo.reshape_result_ne (h := by decide)]
  rfl

theorem idx0_end : atEnd m d bIdx0 = idx0 m d := by
  unfold atEnd afterCall atCall
  rw [StableHlo.reshape_result_ne (h := by decide), Function.update_of_ne (by decide),
    StableHlo.reshape_result_ne (h := by decide), StableHlo.reshape_result_ne (h := by decide)]
  rfl

/-- The list in the call's shape, entry by entry. -/
theorem idxOf_at (r : Fin 294912) : (show BitVec 32 from idxOf m d (ix2 (0 : Fin 1) r)) = idx0 m d (ix1 r) := by
  rw [idxOf_eq]
  refine shapeCast_apply _ _ _ _ ?_
  rw [Shape.rowMajor_val_one, Shape.rowMajor_val_two]
  show r.val = 0 * 294912 + r.val
  omega

/-- The table in the call's shape: word `c` of a row is word `c % 128` of its line `c / 128`. -/
theorem tabOf_at (r : Fin 359424) (c : Fin 256) :
    (show BitVec 32 from tabOf m d (ix3 r (⟨c.val / 128, by omega⟩ : Fin 2) (⟨c.val % 128, by omega⟩ : Fin 128))) = tab0 m d (ix2 r c) := by
  rw [tabOf_eq]
  refine shapeCast_apply _ _ _ _ ?_
  rw [Shape.rowMajor_val_two, Shape.rowMajor_val_three]
  show r.val * 256 + c.val = (r.val * 2 + c.val / 128) * 128 + c.val % 128
  omega

/-- Entry `(r, c)` of the kernel's result. -/
theorem res_at (r : Fin 294912) (c : Fin 256) :
    (show BitVec 32 from atEnd m d bRes (ix2 r c)) = tab0 m d (ix2 (rowOf (idx0 m d (ix1 r))) c) := by
  rw [res_eq]
  refine (shapeCast_apply _ _ _ (ix3 r (⟨c.val / 128, by omega⟩ : Fin 2) (⟨c.val % 128, by omega⟩ : Fin 128)) ?_).trans ?_
  · rw [Shape.rowMajor_val_two, Shape.rowMajor_val_three]
    show (r.val * 2 + c.val / 128) * 128 + c.val % 128 = r.val * 256 + c.val
    omega
  · have h := tabOf_at m d (rowOf (idx0 m d (ix1 r))) c
    rw [← idxOf_at m d r] at h ⊢
    exact h

/-- The list names rows, in the call's shape, when it does in its own. -/
theorem named_of (h : ∀ r : Fin 294912, (idx0 m d (ix1 r)).toNat < 359424) : Named d (idxOf m d) := by
  intro x
  obtain ⟨r, rfl⟩ : ∃ r : Fin 294912, x = ix2 (0 : Fin 1) r :=
    ⟨x 1, (ValueIdx.eq_ix2 x).trans (congrArg (fun a => ix2 a (x 1)) (Subsingleton.elim (α := Fin 1) _ _))⟩
  exact (idxOf_at m d r).symm ▸ h r

end Kernel

/-! ## The reference's program -/

/-- `table[idx]` at `(r, c)`. -/
theorem ref_at (tab : S359424x256.Idx → BitVec 32) (idx : S294912.Idx → BitVec 32) (h : ∀ r : Fin 294912, (idx (ix1 r)).toNat < 359424)
    (r : Fin 294912) (c : Fin 256) :
    Host.gather Cert.ReferenceIdeal.gather_S359424x256_S294912x1_S294912x256_1_0_n_n_0_1_1256 tab
        (broadcastInDim Cert.ReferenceIdeal.S294912x1 ![0] Cert.ReferenceIdeal.Gen.bcast_S294912_S294912x1_0 idx) (ix2 r c)
      = tab (ix2 (rowOf (idx (ix1 r))) c) := by
  refine Routing.gather_row _ rfl rfl rfl rfl rfl tab _ r c (rowOf (idx (ix1 r))) ?_ (by decide)
  refine Eq.trans (b := idx (ix1 r)) ?_ ?_
  · unfold broadcastInDim
    refine congrArg idx (funext fun a => ?_)
    obtain rfl : a = 0 := Subsingleton.elim _ _
    rfl
  · unfold rowOf
    rw [dif_pos (h r)]
    simp

/-- The kernel's result is the reference's. -/
theorem values_eq (m : (ℓ : Loc nD τ sig) → Buf (Elt F) ℓ) (d : Dev nD) (h : ∀ r : Fin 294912, (idx0 m d (ix1 r)).toNat < 359424) :
    atEnd m d bRes = (Host.gather Cert.ReferenceIdeal.gather_S359424x256_S294912x1_S294912x256_1_0_n_n_0_1_1256 (tab0 m d)
        (broadcastInDim Cert.ReferenceIdeal.S294912x1 ![0] Cert.ReferenceIdeal.Gen.bcast_S294912_S294912x1_0 (idx0 m d)) : S294912x256.Idx → BitVec 32) := by
  funext x
  rw [show x = ix2 (x 0) (x 1) from ValueIdx.eq_ix2 x]
  exact (res_at m d _ _).trans (ref_at (tab0 m d) (idx0 m d) h _ _).symm

/-! ## The precondition -/

/-- `(0 ≤ v) & (v < 359424)`, of a signed word, says that its value is below 359424. -/
theorem in_rows (v : BitVec 32) (e : IntOp.andi (IntOp.cmpi .sge v 0#32) (IntOp.cmpi .slt v 359424#32) = 1#1) : v.toNat < 359424 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, both, one, Bool.and_eq_true, BitVec.sle_eq_decide, BitVec.slt_eq_decide,
    decide_eq_true_eq, BitVec.toInt_eq_toNat_cond, BitVec.toNat_ofNat, Nat.reducePow, Nat.reduceMod] at e
  omega

instance pre_facts : Cert.Pre_idx_in_rows.Facts where
  bcast_S_S294912 := by decide

theorem rows_of_pre [FloatOps F] (tab : S359424x256.Idx → BitVec 32) (idx : S294912.Idx → BitVec 32)
    (h : Cert.Pre_idx_in_rows.fn (F := F) tab idx = fun _ => 1#1) (r : Fin 294912) : (idx (ix1 r)).toNat < 359424 := by
  have e := congrFun h (ix1 r)
  simp only [Cert.Pre_idx_in_rows.fn, andi, cmpi, broadcastInDim, constantI] at e
  exact in_rows _ e

end Cert.Proof.Gather

end
-- ==== Proof.ExpertsPre.lean ====
/-
  The counts as whole numbers, and what the precondition says of them: every expert has between 0 and 18432 rows.
-/
module

public import proofs.«01_k».proof.Pre_counts_fit
public import Idealize.ShloMosaic.Lib.ReduceAll
public import Idealize.ShloMosaic.Lib.WordCmp
public import Idealize.ShloMosaic.Lib.Pointwise

@[expose] public section

noncomputable section

namespace Cert.Proof.Moe

open Idealize.ShloMosaic

variable {F : FTy → Type} [FloatOps F]

instance counts_facts : Cert.Pre_counts_fit.Facts where
  slices_S64x128_S64x1_0_0 := by decide
  shapeCasts_S64x1_S64 := by decide
  bcast_S_S64 := by decide
  reducesTo_S64_S_d0 := by decide
  h_S_ := by decide

instance : Subsingleton Cert.Pre_counts_fit.S_.Idx := ⟨fun a b => funext fun i => i.elim0⟩

/-- The counts: the first column of what the router gives, as words. -/
def wordsOf (z : FVec F Cert.Pre_counts_fit.S64x128 .f32) : IVec Cert.Pre_counts_fit.S64 32 :=
  fptosi 32 (shapeCast Cert.Pre_counts_fit.S64
    (extractStridedSlice Cert.Pre_counts_fit.S64x1 ![0, 0] z Cert.Pre_counts_fit.Facts.slices_S64x128_S64x1_0_0)
    Cert.Pre_counts_fit.Facts.shapeCasts_S64x1_S64)

/-- A bit that says a comparison of two words, read. -/
theorem bit_one (p : Bool) : BitVec.ofBool p = 1#1 ↔ p = true := by cases p <;> decide

theorem both_ones (a b : BitVec 1) : IntOp.andi a b = 1#1 ↔ a = 1#1 ∧ b = 1#1 := by
  revert a b
  decide

theorem count_le (v : BitVec 32) (h0 : IntOp.cmpi .sge v 0#32 = 1#1) (h1 : IntOp.cmpi .sle v 18432#32 = 1#1) : v.toNat ≤ 18432 := by
  simp only [IntOp.cmpi, bit_one, BitVec.sle_eq_decide, decide_eq_true_eq, BitVec.toInt_eq_toNat_cond,
    BitVec.toNat_ofNat, Nat.reducePow, Nat.reduceMod] at h0 h1
  omega

/-- The counts as whole numbers, zero past the last expert. -/
def countsOf (x : IVec Cert.Pre_counts_fit.S64 32) (n : ℕ) : ℕ := if h : n < 64 then (x (ix1 ⟨n, h⟩)).toNat else 0

theorem countsOf_apply (x : IVec Cert.Pre_counts_fit.S64 32) (i : Fin 64) : x (ix1 i) = BitVec.ofNat 32 (countsOf x i.val) := by
  unfold countsOf
  rw [dif_pos i.isLt, BitVec.ofNat_toNat, BitVec.setWidth_eq]

theorem countsOf_le (z : FVec F Cert.Pre_counts_fit.S64x128 .f32) (xs : IVec Cert.Pre_counts_fit.S2x179712x256 32)
    (wgu : FVec F Cert.Pre_counts_fit.S4x64x1024x512 .f32) (wd : FVec F Cert.Pre_counts_fit.S4x64x256x1024 .f32)
    (h : Cert.Pre_counts_fit.fn z xs wgu wd = fun _ => 1#1) (n : ℕ) : countsOf (wordsOf z) n ≤ 18432 := by
  unfold countsOf
  split
  · next hn =>
    have e := (both_ones _ _).mp (Host.reduce_andi_all _ _ _ _ _ (congrFun h (fun i => i.elim0)) (ix1 ⟨n, hn⟩))
    exact count_le _ e.1 e.2
  · exact Nat.zero_le _

end Cert.Proof.Moe

end
-- ==== Proof.ExpertsSame.lean ====
/-
  The original experts program at bits and its ideal reading are one program.
-/
module

public import proofs.«01_k».proof.Defs
public import proofs.«01_k».proof.Proof.Gen.ExpertsIdeal

@[expose] public section

set_option maxRecDepth 16384

noncomputable section

namespace Cert.Proof.Moe

open Idealize.ShloMosaic Idealize.SL.Sem

/-- What the program states of its shapes and windows: the same as its ideal reading. -/
instance experts_facts₀ : Cert.Experts.Facts₀ := { Cert.ExpertsIdeal.Gen.facts₀ with }

instance experts_facts : Cert.Experts.Facts := { experts_facts₀ with harr0 := Cert.ExpertsIdeal.Gen.harr0 }

/-- Its body table, and with it its definitions, are those of its ideal reading, at bits. -/
theorem body_table_eq : Cert.Experts.defs₀ (F := Bits) = Cert.ExpertsIdeal.defs₀ := by
  unfold Cert.Experts.defs₀ Cert.ExpertsIdeal.defs₀
  refine congrArg Defs.onTc (funext fun ℓ => funext fun a => ?_)
  match ℓ, a with
  | 0, (t, s) => rfl

theorem defs_eq : Cert.Experts.defs (F := Bits) = Cert.ExpertsIdeal.defs := by
  unfold Cert.Experts.defs
  rw [body_table_eq]
  rfl

set_option maxHeartbeats 4000000 in
/-- So is its text: the host's operations, then the call. -/
theorem main_eq : Cert.Experts.main (F := Bits) = Cert.ExpertsIdeal.main := by
  unfold Cert.Experts.main Cert.ExpertsIdeal.main
  rfl

end Cert.Proof.Moe

end
-- ==== Proof.ExpertsSetup.lean ====
/-
  The launch of the experts call: the arrays as the pipeline finds them after the host's operations, the two tables it
  reads before it starts, the blocks its windows read, and the buffers the body is handed at a point.
-/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Tactic

@[expose] public section

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)
open Cert.ExpertsIdeal.Gen

variable {F : FTy → Type} [FloatOps F]

local notation "𝕄" => MT nD τ sig Unit (Elt F) ℕ (UR sig nD τ) ℕ

variable (m : (ℓ : Loc nD τ sig) → Buf (Elt F) ℓ)

/-! ## The arguments and the tables -/

/-- The host's operations before the call: the tables from the counts, by stretches as they print. -/
abbrev hostSteps : List (List (HloOp τ sig (Elt F))) :=
  [hostOps0, hostOps0_1, hostOps0_2, hostOps0_3, hostOps0_4, hostOps0_5, hostOps0_6, hostOps0_7, hostOps0_8]

/-- What a buffer of core `c` holds when the pipeline starts: what the host's operations leave in it. -/
def start (c : Dev nD) (b : Ref sig .tc) : Buf (Elt F) ((c : Thread nD τ).loc b) :=
  StableHlo.after (hostSteps (F := F)).flatten (fun b => m (c, b)) b

theorem start_eq : start m = fun (c : Dev nD) (b : Ref sig .tc) => StableHlo.after (hostSteps (F := F)).flatten (fun b => m (c, b)) b := by
  funext c b
  unfold start
  rfl

/-- The program is the host's operations and then the pipeline's region. -/
theorem region_only (𝒱₀ : Variants) :
    Pipeline.HMainP (Ix := Unit) (Name := ℕ) (U := UR sig nD τ) (Lvl := ℕ) pcfgs 0 defs₀ 𝒱₀ m (main (F := F)) (start m) := by
  rw [start_eq]
  refine Pipeline.hmainP_prefixes pcfgs 0 defs₀ 𝒱₀ m main hostSteps
    ⟨hostOps0_sub, hostOps0_1_sub, hostOps0_2_sub, hostOps0_3_sub, hostOps0_4_sub, hostOps0_5_sub, hostOps0_6_sub, hostOps0_7_sub, hostOps0_8_sub⟩
    ⟨?_, ?_, ?_, ?_, ?_, ?_, ?_, ?_, ?_⟩ main_chain
  all_goals (repeat' apply And.intro) <;> rfl

attribute [irreducible] start

/-- The two tables: the tiles' experts and the tiles' row counts. -/
def tables : pre0.Contents (Elt F) := fun j => start m (0 : Dev nD) (pre0.ref j)

theorem start_tables (c : Dev nD) (j : Fin 2) : start m c (pre0.ref j) = tables m j := by
  obtain rfl : c = 0 := Subsingleton.elim _ _
  rfl

/-- Every tile's expert names a block of the weights. -/
abbrev Ok : Prop := ok0 (F := F) (tables m)

abbrev adm (hO : Ok m) : (pcfg0 (F := F)).Adm := ⟨tables m, hO⟩
/-- The pipeline at these tables. -/
abbrev cfgT (hO : Ok m) : Pipeline.Cfg sig Λ₀ := cfg0 (adm m hO)

/-- The two tables as the body loads from them. -/
abbrev expertsM : Memref sig .tc .smem S351 .i32 := Memref.whole main_v23
abbrev rowsM : Memref sig .tc .smem S351 .i32 := Memref.whole main_v45

/-- A table's contents on core `c`, and its buffer held for reading. -/
abbrev TabBuf (c : Dev nD) (M : Memref sig .tc .smem S351 .i32) : Type := Buf (Elt F) (M.view.loc (c : Thread nD τ))
abbrev tabPt (c : Dev nD) (M : Memref sig .tc .smem S351 .i32) (f : TabBuf (F := F) c M) : sProp 𝕄 :=
  M.view.loc (c : Thread nD τ) ↦{fullShare.right} f

/-- The tables' shares that the body is given, one by one. -/
theorem tables_held (c : Dev nD) :
    (Pipeline.ΦT pre0 (tables m) c : sProp 𝕄) = iprop(tabPt c expertsM (tables m 0) ∗ tabPt c rowsM (tables m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- The block of window `w` at point `t`, as the launch holds it. -/
def blockAt (hO : Ok m) (c : Dev nD) (w : Fin (cfgT m hO).W) (t : Fin (cfgT m hO).N) :
    (((cfgT m hO).win w).xblock ((cfgT m hO).grid.coords t)).Idx → Elt F ((cfgT m hO).win w).elt :=
  (((cfgT m hO).win w).blk t).view.read (Elt F) (start m c (Pipeline.arrRef spec0 w))

/-- The packed rows', the gate and up weights' and the down weights' buffers hold their blocks whenever the body runs,
    fetched at that point or kept from an earlier one. -/
theorem before_rows (hO : Ok m) {c : Dev nD} (dat : Dat τ (Elt F) Unit ℕ (UR sig nD τ) ℕ (cfgT m hO) c)
    (hA : dat.A 0 = start m c (Pipeline.arrRef spec0 0)) (hafter : ∀ t, dat.after 0 t = blockAt m hO c 0 t)
    (t : Fin (cfgT m hO).N) (d) : dat.before 0 t d = blockAt m hO c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem before_gateUp (hO : Ok m) {c : Dev nD} (dat : Dat τ (Elt F) Unit ℕ (UR sig nD τ) ℕ (cfgT m hO) c)
    (hA : dat.A 1 = start m c (Pipeline.arrRef spec0 1)) (hafter : ∀ t, dat.after 1 t = blockAt m hO c 1 t)
    (t : Fin (cfgT m hO).N) (d) : dat.before 1 t d = blockAt m hO c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem before_down (hO : Ok m) {c : Dev nD} (dat : Dat τ (Elt F) Unit ℕ (UR sig nD τ) ℕ (cfgT m hO) c)
    (hA : dat.A 2 = start m c (Pipeline.arrRef spec0 2)) (hafter : ∀ t, dat.after 2 t = blockAt m hO c 2 t)
    (t : Fin (cfgT m hO).N) (d) : dat.before 2 t d = blockAt m hO c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)

/-- The output's block is written back at every point. -/
theorem flush_out (a : (pcfg0 (F := F)).Adm) : ∀ t : Fin (cfg0 a).N, ((cfg0 a).win 3).flush t = true :=
  (fun t => (Pipeline.Window.flushOf_reads cc0_transform_3 reads0_3 hreads0_3 0 (by decide) (by decide)
    (Pipeline.Window.sep_of_coord cc0_transform_3 0 1 (fun _ => rfl) (by decide)) (P := 1) (m := 0) (by decide) rfl t).mpr
    (Nat.mod_one _) : ∀ t : Fin grid0.N, Pipeline.Window.flushOf grid0 true cc0_transform_3 t = true)

/-! ## The buffers at a point -/

abbrev rowsBuf (hO : Ok m) (t : Fin (cfgT m hO).N) : Memref sig .tc .vmem S2x512x256 .i32 := spec0_0.stage ((cfgT m hO).slots t 0)
abbrev gateUpBuf (hO : Ok m) (t : Fin (cfgT m hO).N) : Memref sig .tc .vmem S1x1x1024x512 .f32 := spec0_1.stage ((cfgT m hO).slots t 1)
abbrev downBuf (hO : Ok m) (t : Fin (cfgT m hO).N) : Memref sig .tc .vmem S1x1x256x1024 .f32 := spec0_2.stage ((cfgT m hO).slots t 2)
abbrev outBuf (hO : Ok m) (t : Fin (cfgT m hO).N) : Memref sig .tc .vmem S4x512x256 .bf16 := spec0_3.stage ((cfgT m hO).slots t 3)
/-- The two scratch buffers: the rounded weights of the expert in work. -/
abbrev gateUpKept : Memref sig .tc .vmem S1024x512 .bf16 := Memref.whole cc0_scratch0
abbrev downKept : Memref sig .tc .vmem S256x1024 .bf16 := Memref.whole cc0_scratch1

/-- The body as the pipeline calls it at point `t`. -/
abbrev bodyAt (a : (pcfg0 (F := F)).Adm) (t : Fin (cfg0 a).N) : Prog (TpuEff nD τ sig (Elt F) Λ₀ .tc) PUnit :=
  cc0_moe_experts (grid0.coords t) expertsM (Memref.isWhole_whole _) rowsM (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    gateUpKept (Memref.isWhole_whole _) downKept (Memref.isWhole_whole _)

/-- What a region keeps for its body beside the windows: here the two scratch buffers and the generator register. -/
theorem scratch_held (c : Dev nD) :
    (Pipeline.ΦA spec0 c : sProp 𝕄)
      = iprop(iprop((∃ d, owns (c : Thread nD τ) gateUpKept fullShare d) ∗ (∃ d, owns (c : Thread nD τ) downKept fullShare d)) ∗ (∃ r, prngReg c r)) := by
  unfold Pipeline.ΦA; rw [scopedRest0_eq]; simp only [gateUpKept, downKept, owns_whole]; try rfl

end Cert.ExpertsIdeal.Moe

end
-- ==== Proof.ExpertsTile.lean ====
/-
  One tile of the experts call as values: which words the body loads from the two tables, when it refreshes the rounded
  weights it keeps, and what it leaves in the tile's output block.
-/
module

public import proofs.«01_k».proof.Proof.ExpertsSetup
public import Idealize.ShloMosaic.Lib.WordCmp
public import Idealize.ShloMosaic.Lib.Writes
public import Idealize.ShloMosaic.Lib.VecWindow
public import Idealize.ShloMosaic.Lib.WholeRead
public import Idealize.ShloMosaic.Lib.ValueIdxCoords
public import Idealize.ShloMosaic.Lib.Pipeline.Value

@[expose] public section

set_option maxRecDepth 16384

noncomputable section

namespace Cert.ExpertsIdeal.Moe

open Idealize.ShloMosaic Idealize.ShloMosaic.TcCoe Idealize.ShloMosaic.ValueIdx Idealize.ShloMosaic.WordCmp
open Idealize.SL Idealize.SL.Sem
open Cert.ExpertsIdeal.Gen

variable {F : FTy → Type} [FloatOps F]

/-! ## The words the body loads, and its conditions on them -/

/-- The tile before, and the first tile for itself. -/
abbrev tileBefore (t : Fin 351) : Fin 351 := ⟨t.val - 1, by omega⟩

theorem off2_eq : ∀ i : grid0.Coords, k0_off2 i = ![(i 0).val - 1] := by decide +kernel

/-- The load at a point's own tile reads the table there. -/
theorem load_tile (f : S351.Idx → BitVec 32) (b : Ref sig .tc) (i : grid0.Coords) (y : S1.Idx) :
    f ((Rect.unit (s := S351) (k0_off1 i) S1.size (k0_off1_inb i)).toLoadRect.idx y) = f (ix1 (i 0)) := by
  refine congrArg f (funext fun a => Fin.ext ?_)
  match a with
  | ⟨0, _⟩ =>
    show k0_off1 i 0 + 1 * (y 0).val = (i 0).val
    have hy : (y 0).val < 1 := (y 0).isLt
    rw [k0_off1_eq]
    show (i 0).val + 1 * (y 0).val = (i 0).val
    omega

/-- The load at the tile before reads the table there. -/
theorem load_before (f : S351.Idx → BitVec 32) (i : grid0.Coords) (y : S1.Idx) :
    f ((Rect.unit (s := S351) (k0_off2 i) S1.size (k0_off2_inb i)).toLoadRect.idx y) = f (ix1 (tileBefore (i 0))) := by
  refine congrArg f (funext fun a => Fin.ext ?_)
  match a with
  | ⟨0, _⟩ =>
    show k0_off2 i 0 + 1 * (y 0).val = (i 0).val - 1
    have hy : (y 0).val < 1 := (y 0).isLt
    rw [off2_eq]
    show (i 0).val - 1 + 1 * (y 0).val = (i 0).val - 1
    omega

/-- A bit widened to a word is not zero when it is set. -/
theorem widened (b : Bool) : Scalar.cmpi .ne (Scalar.extui (BitVec.ofBool b) : BitVec 32) 0#32 = 1#1 ↔ b = true := by
  cases b <;> decide

/-- The tile has rows of its own. -/
theorem cond2_iff (v : BitVec 32) : k0_cond2 v = 1#1 ↔ 0 < v.toInt :=
  (widened (decide (0 < v.toInt))).trans decide_eq_true_iff

/-- The tile has none. -/
theorem cond3_iff (v : BitVec 32) : k0_cond3 v = 1#1 ↔ v = 0#32 := by
  have h : k0_cond3 v = Scalar.cmpi .ne (Scalar.extui (IntOp.cmpi .eq v 0#32) : BitVec 32) 0#32 := rfl
  rw [h, cmpi_eq_eq, widened, decide_eq_true_iff]

/-- The tile starts an expert: it is the first one, or the one before has another expert. -/
def Starts (te : S351.Idx → BitVec 32) (t : Fin 351) : Prop := t.val = 0 ∨ te (ix1 t) ≠ te (ix1 (tileBefore t))

instance (te : S351.Idx → BitVec 32) (t : Fin 351) : Decidable (Starts te t) := by unfold Starts; infer_instance

theorem starts_iff (te : S351.Idx → BitVec 32) (t : Fin 351) :
    Scalar.cmpi .ne (Scalar.extui (Scalar.ori (Scalar.cmpi .eq (BitVec.ofNat 32 t.val) 0#32)
      (Scalar.cmpi .ne (te (ix1 t)) (te (ix1 (tileBefore t))))) : BitVec 32) 0#32 = 1#1 ↔ Starts te t := by
  have h : Scalar.ori (Scalar.cmpi .eq (BitVec.ofNat 32 t.val) 0#32) (Scalar.cmpi .ne (te (ix1 t)) (te (ix1 (tileBefore t))))
      = IntOp.ori (IntOp.cmpi .eq (BitVec.ofNat 32 t.val) 0#32) (IntOp.cmpi .ne (te (ix1 t)) (te (ix1 (tileBefore t)))) := rfl
  have h0 : BitVec.ofNat 32 t.val = 0#32 ↔ t.val = 0 := ofNat_eq_ofNat_iff (by omega) (by omega)
  rw [h, cmpi_eq_eq, cmpi_ne_eq, ori_ofBool, widened, Bool.or_eq_true, decide_eq_true_iff, decide_eq_true_iff, h0]
  rfl

/-! ## The output block of a tile -/

/-- One half of a block of packed words: the words of the first or of the second part of the columns. -/
def wordsPart (p : Fin 2) (x : Vec F S2x512x256 .i32) : Vec F S1x512x256 .i32 := fun y => x (ix3 p (y 1) (y 2))

/-- The hidden values of the tile's rows, rounded: `v` rows are live, the words are `x`, the rounded gate and up weights `g`. -/
abbrev hidden (v : BitVec 32) (x : Vec F S2x512x256 .i32) (g : Vec F S1024x512 .bf16) : FVec F S512x256 .bf16 :=
  k0_pay9 v (wordsPart 0 x) (wordsPart 1 x) g

/-- The tile's output block: part `p` of it holds the columns from `256 p` of the second product, rounded; zeros when the tile has no rows. -/
def outTile (v : BitVec 32) (x : Vec F S2x512x256 .i32) (g : Vec F S1024x512 .bf16) (d : Vec F S256x1024 .bf16) :
    Vec F S4x512x256 .bf16 := fun y =>
  if k0_cond2 v = 1#1 then
    truncf .bf16 (k0_pay3 (hidden v x g) d) bitsLt_bf16_f32
      (ix2 (y 1) ⟨256 * (y 0).val + (y 2).val, by
        have h0 : (y 0).val < 4 := (y 0).isLt
        have h2 : (y 2).val < 256 := (y 2).isLt
        omega⟩)
  else k0_pay8 y

/-- A piece of 256 columns of the product, rounded and stood up as one part of the block. -/
theorem columns_apply (z : FVec F S512x1024 .f32) (o : ℕ) (h : S512x1024.Slices ![0, o] S512x256) (ho : o + 256 ≤ 1024)
    (y : S1x512x256.Idx) :
    shapeCast S1x512x256 (truncf .bf16 (extractStridedSlice S512x256 ![0, o] z h) bitsLt_bf16_f32) shapeCasts_S512x256_S1x512x256 y
      = truncf .bf16 z bitsLt_bf16_f32 (ix2 (y 1) ⟨o + (y 2).val, by have h2 : (y 2).val < 256 := (y 2).isLt; omega⟩) := by
  have h0 : (y 0).val < 1 := (y 0).isLt
  refine (shapeCast_apply _ _ y (ix2 (y 1) (y 2)) ?_).trans ?_
  · rw [Shape.rowMajor_val_two, Shape.rowMajor_val_three]
    show (y 1).val * 256 + (y 2).val = ((y 0).val * 512 + (y 1).val) * 256 + (y 2).val
    omega
  · unfold truncf
    refine congrArg (FloatOps.truncf .bf16 bitsLt_bf16_f32) (extractStridedSlice_apply _ z h _ _ fun a => ?_)
    match a with
    | ⟨0, _⟩ => show (y 1).val = 0 + (y 1).val; omega
    | ⟨1, _⟩ => rfl

end Cert.ExpertsIdeal.Moe

end
-- ==== Proof.ExpertsBody.lean ====
/-
  The body's run at one tile: it loads the tile's words from the tables, refreshes the two kept weights when the tile
  starts an expert, and fills the output block.
-/
module

public import proofs.«01_k».proof.Proof.ExpertsTile
public import Idealize.ShloMosaic.Lib.Ring

@[expose] public section

set_option maxRecDepth 16384

noncomputable section

namespace Cert.ExpertsIdeal.Moe

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)
open Cert.ExpertsIdeal.Gen

variable {F : FTy → Type} [FloatOps F]

local notation "𝕄" => MT nD τ sig Unit (Elt F) ℕ (UR sig nD τ) ℕ

/-- The rounded weights after a tile: the tile's own when it starts an expert, the kept ones otherwise. -/
abbrev keptGateUp (te : S351.Idx → BitVec 32) (t : Fin 351) (g : Vec F S1x1x1024x512 .f32) (kg : Vec F S1024x512 .bf16) :
    Vec F S1024x512 .bf16 := if Starts te t then k0_pay1 g else kg
abbrev keptDown (te : S351.Idx → BitVec 32) (t : Fin 351) (d : Vec F S1x1x256x1024 .f32) (kd : Vec F S256x1024 .bf16) :
    Vec F S256x1024 .bf16 := if Starts te t then k0_pay2 d else kd

/-- What the four stores of a live tile leave, whatever the block held. -/
theorem read_columns (a6 : Memref sig .tc .vmem S4x512x256 .bf16) (f : BufTy.Contents (Elt F) a6.view.ty) (v : BitVec 32)
    (hv : k0_cond2 v = 1#1) (x : Vec F S2x512x256 .i32) (g : Vec F S1024x512 .bf16) (d : Vec F S256x1024 .bf16) :
    a6.view.read (Elt F) (a6.view.writes (Elt F) f
      [⟨Rect.unit ![3, 0, 0] ![1, 512, 256] inb_S4x512x256_S1x512x256_3_0_0, k0_pay7 (hidden v x g) d⟩,
        ⟨Rect.unit ![2, 0, 0] ![1, 512, 256] inb_S4x512x256_S1x512x256_2_0_0, k0_pay6 (hidden v x g) d⟩,
        ⟨Rect.unit ![1, 0, 0] ![1, 512, 256] inb_S4x512x256_S1x512x256_1_0_0, k0_pay5 (hidden v x g) d⟩,
        ⟨Rect.unit ![0, 0, 0] ![1, 512, 256] inb_S4x512x256_S1x512x256_0_0_0, k0_pay4 (hidden v x g) d⟩])
      = outTile v x g d := by
  funext y
  refine View.read_writes_apply_of_pieces _ _ (outTile v x g d) _ ?pieces y ?cover
  case cover => exact View.cover_of_tiledL (s := S4x512x256) _ S1x512x256.size (by sl_kernel_rfl) y
  have at_part : ∀ (k : ℕ) (hk : k < 4) (inb) (h : S512x1024.Slices ![0, 256 * k] S512x256) (z : S1x512x256.Idx),
      shapeCast S1x512x256 (truncf .bf16 (extractStridedSlice S512x256 ![0, 256 * k] (k0_pay3 (hidden v x g) d) h) bitsLt_bf16_f32)
          shapeCasts_S512x256_S1x512x256 z
        = outTile v x g d ((Rect.unit (s := S4x512x256) ![k, 0, 0] ![1, 512, 256] inb).emb z) := by
    intro k hk inb h z
    rw [columns_apply _ _ _ (by omega)]
    unfold outTile
    rw [if_pos hv]
    have h0 : (z 0).val < 1 := (z 0).isLt
    refine congrArg _ (funext fun a => Fin.ext ?_)
    match a with
    | ⟨0, _⟩ => show (z 1).val = 0 + 1 * (z 1).val; omega
    | ⟨1, _⟩ => show 256 * k + (z 2).val = 256 * (k + 1 * (z 0).val) + (0 + 1 * (z 2).val); omega
  intro p hp z
  simp only [List.mem_cons, List.not_mem_nil, _root_.or_false] at hp
  rcases hp with rfl | rfl | rfl | rfl
  · exact at_part 3 (by decide) inb_S4x512x256_S1x512x256_3_0_0 slices_S512x1024_o0_768_S512x256 z
  · exact at_part 2 (by decide) inb_S4x512x256_S1x512x256_2_0_0 slices_S512x1024_o0_512_S512x256 z
  · exact at_part 1 (by decide) inb_S4x512x256_S1x512x256_1_0_0 slices_S512x1024_o0_256_S512x256 z
  · exact at_part 0 (by decide) inb_S4x512x256_S1x512x256_0_0_0 slices_S512x1024_o0_0_S512x256 z

/-- A load of one part of the packed words. -/
theorem load_part (a3 : Memref sig .tc .vmem S2x512x256 .i32) (h3 : a3.IsWhole) (x : Vec F S2x512x256 .i32) (p : Fin 2)
    (inb : ∀ a, (![p.val, 0, 0] : Fin 3 → ℕ) a + S1x512x256.size a ≤ S2x512x256.size a) :
    View.readAt (Elt F) a3.view (Rect.unit (s := S2x512x256) ![p.val, 0, 0] S1x512x256.size inb).toLoadRect (h3.unread x) = wordsPart p x := by
  funext y
  rw [h3.readAt_unread]
  have h0 : (y 0).val < 1 := (y 0).isLt
  refine congrArg x (funext fun a => Fin.ext ?_)
  match a with
  | ⟨0, _⟩ => show p.val + 1 * (y 0).val = p.val; omega
  | ⟨1, _⟩ => show 0 + 1 * (y 1).val = (y 1).val; omega
  | ⟨2, _⟩ => show 0 + 1 * (y 2).val = (y 2).val; omega

set_option maxHeartbeats 1000000 in
/-- The body's run. The tile's rows, its two weight blocks and the two tables are read and kept; the two kept weights and the
    output block end as stated; nothing else is touched. -/
theorem body_run (c : Dev nD) (i : grid0.Coords)
    (a3 : Memref sig .tc .vmem S2x512x256 .i32) (h3 : a3.IsWhole) (a4 : Memref sig .tc .vmem S1x1x1024x512 .f32) (h4 : a4.IsWhole)
    (a5 : Memref sig .tc .vmem S1x1x256x1024 .f32) (h5 : a5.IsWhole) (a6 : Memref sig .tc .vmem S4x512x256 .bf16) (h6 : a6.IsWhole)
    (a7 : Memref sig .tc .vmem S1024x512 .bf16) (h7 : a7.IsWhole) (a8 : Memref sig .tc .vmem S256x1024 .bf16) (h8 : a8.IsWhole)
    (x : Vec F S2x512x256 .i32) (g : Vec F S1x1x1024x512 .f32) (d : Vec F S1x1x256x1024 .f32)
    (kg : Vec F S1024x512 .bf16) (kd : Vec F S256x1024 .bf16)
    (te : TabBuf (F := F) c expertsM) (tr : TabBuf (F := F) c rowsM) (hpos : 0 ≤ (tr (ix1 (i 0)) : BitVec 32).toInt)
    (E : Set ℕ) (K : PUnit → sProp 𝕄) :
    iprop(owns (c : Thread nD τ) a3 fullShare x ∗ owns (c : Thread nD τ) a4 fullShare g ∗ owns (c : Thread nD τ) a5 fullShare d
        ∗ (∃ o, owns (c : Thread nD τ) a6 fullShare o)
        ∗ owns (c : Thread nD τ) a7 fullShare kg ∗ owns (c : Thread nD τ) a8 fullShare kd ∗ tabPt c expertsM te ∗ tabPt c rowsM tr
        ∗ (iprop(owns (c : Thread nD τ) a3 fullShare x ∗ owns (c : Thread nD τ) a4 fullShare g ∗ owns (c : Thread nD τ) a5 fullShare d
            ∗ owns (c : Thread nD τ) a6 fullShare (outTile (tr (ix1 (i 0))) x (keptGateUp te (i 0) g kg) (keptDown te (i 0) d kd))
            ∗ owns (c : Thread nD τ) a7 fullShare (keptGateUp te (i 0) g kg) ∗ owns (c : Thread nD τ) a8 fullShare (keptDown te (i 0) d kd)
            ∗ tabPt c expertsM te ∗ tabPt c rowsM tr) -∗ K ⟨⟩))
      ⊢ wp frame (wpE (defs₀ (F := F)) Variants.none c none) E
          (cc0_moe_experts i expertsM (Memref.isWhole_whole _) rowsM (Memref.isWhole_whole _) a3 h3 a4 h4 a5 h5 a6 h6 a7 h7 a8 h8) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, HT1, Hk⟩
  obtain rfl := h3.eq_unread hf0; obtain rfl := h4.eq_unread hf1; obtain rfl := h5.eq_unread hf2
  obtain rfl := h7.eq_unread hs0; obtain rfl := h8.eq_unread hs1
  sl_exec
  -- the words loaded, the condition of the refresh, and what the two kept weights end as
  have w1 : body_run.sl.r_1 c i te = te (ix1 (i 0)) := load_tile te main_v23 i _
  have w2 : body_run.sl.r_2 c i te = te (ix1 (tileBefore (i 0))) := load_before te i _
  have w3 : body_run.sl.r c i tr = tr (ix1 (i 0)) := load_tile tr main_v45 i _
  have hfresh := starts_iff te (i 0)
  have hg : body_run.sl.v19 c a4 h4 g = g := by
    unfold body_run.sl.v19
    exact (View.readAt_full (s := S1x1x1024x512) a4.view _ _).trans hf1
  have hd : body_run.sl.v25 c a5 h5 d = d := by
    unfold body_run.sl.v25
    exact (View.readAt_full (s := S1x1x256x1024) a5.view _ _).trans hf2
  have kept1 : ∀ (C : Prop) [Decidable C], (C ↔ Starts te (i 0)) → a7.view.read (Elt F) (if hc : C then
      a7.view.writes (Elt F) (h7.unread kg) [⟨Rect.unit ![0, 0] ![1024, 512] inb_S1024x512_S1024x512_0_0, k0_pay1 g⟩] else h7.unread kg)
      = keptGateUp te (i 0) g kg := by
    intro C _ hC
    unfold keptGateUp
    by_cases hs : C
    · rw [dif_pos hs, if_pos (hC.mp hs)]
      exact View.read_writes_full (s := S1024x512) a7.view _ _ _ []
    · rw [dif_neg hs, if_neg fun h => hs (hC.mpr h)]
      exact hs0
  have kept2 : ∀ (C : Prop) [Decidable C], (C ↔ Starts te (i 0)) → a8.view.read (Elt F) (if hc : C then
      a8.view.writes (Elt F) (h8.unread kd) [⟨Rect.unit ![0, 0] ![256, 1024] inb_S256x1024_S256x1024_0_0, k0_pay2 d⟩] else h8.unread kd)
      = keptDown te (i 0) d kd := by
    intro C _ hC
    unfold keptDown
    by_cases hs : C
    · rw [dif_pos hs, if_pos (hC.mp hs)]
      exact View.read_writes_full (s := S256x1024) a8.view _ _ _ []
    · rw [dif_neg hs, if_neg fun h => hs (hC.mpr h)]
      exact hs1
  have hx : body_run.sl.r_3 c i a3 h3 a4 h4 a7 h7 x g kg te tr = hidden (tr (ix1 (i 0))) x (keptGateUp te (i 0) g kg) := by
    unfold body_run.sl.r_3 body_run.sl.v47
    simp only [w1, w2, w3, hg]
    rw [show View.readAt (Elt F) a3.view (Rect.unit (s := S2x512x256) ![0, 0, 0] S1x512x256.size inb_S2x512x256_S1x512x256_0_0_0).toLoadRect (h3.unread x)
        = wordsPart 0 x from load_part a3 h3 x 0 _,
      show View.readAt (Elt F) a3.view (Rect.unit (s := S2x512x256) ![1, 0, 0] S1x512x256.size inb_S2x512x256_S1x512x256_1_0_0).toLoadRect (h3.unread x)
        = wordsPart 1 x from load_part a3 h3 x 1 _]
    exact congrArg _ ((View.readAt_full (s := S1024x512) a7.view _ _).trans (kept1 _ hfresh))
  have hw : body_run.sl.v61 c i a5 h5 a8 h8 d kd te = keptDown te (i 0) d kd := by
    unfold body_run.sl.v61
    simp only [w1, w2, hd]
    exact (View.readAt_full (s := S256x1024) a8.view _ _).trans (kept2 _ hfresh)
  simp only [w1, w2, w3, hg, hd, hx, hw]
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    by_cases hc : k0_cond2 (tr (ix1 (i 0))) = 1#1
    · have hz : ¬ k0_cond3 (tr (ix1 (i 0))) = 1#1 := by
        rw [cond3_iff]
        intro h0
        rw [cond2_iff, h0] at hc
        exact absurd hc (by decide)
      rw [dif_neg hz, dif_pos hc]
      exact read_columns a6 _ _ hc x _ _
    · have hz : k0_cond3 (tr (ix1 (i 0))) = 1#1 := by
        rw [cond3_iff]
        rw [cond2_iff] at hc
        exact BitVec.eq_of_toInt_eq (by rw [show (0#32 : BitVec 32).toInt = 0 from rfl]; omega)
      rw [dif_pos hz]
      refine (View.read_writes_full (s := S4x512x256) a6.view _ _ _ []).trans (funext fun y => ?_)
      unfold outTile
      rw [if_neg hc]
  isplitl [HS0]
  · iexists _; isplitr; swap; · iexact HS0
    ipureintro; exact kept1 _ hfresh
  isplitl [HS1]
  · iexists _; isplitr; swap; · iexact HS1
    ipureintro; exact kept2 _ hfresh
  isplitl [HT0]; · iexact HT0
  iexact HT1

end Cert.ExpertsIdeal.Moe

end
-- ==== Proof.ExpertsBlocks.lean ====
/-
  Which elements of the call's arrays the blocks of a point are: the rows of the point's own tile, the weights of the
  tile's expert, and the tile's rows of the output.
-/
module

public import proofs.«01_k».proof.Proof.ExpertsTile

@[expose] public section

set_option maxRecDepth 16384

noncomputable section

namespace Cert.ExpertsIdeal.Moe

open Idealize.ShloMosaic Idealize.ShloMosaic.TcCoe Idealize.ShloMosaic.ValueIdx
open Idealize.SL Idealize.SL.Sem
open Idealize.ShloMosaic.Pipeline (Dat Cfg)
open Cert.ExpertsIdeal.Gen

variable {F : FTy → Type} [FloatOps F]

variable (m : (ℓ : Loc nD τ sig) → Buf (Elt F) ℓ)

/-- The tile of a point is the point. -/
theorem coord_eq : ∀ t : Fin grid0.N, (grid0.coords t 0).val = t.val := by decide +kernel

/-- The tiles' experts and the tiles' row counts, as words. -/
abbrev experts : S351.Idx → BitVec 32 := tables m 0
abbrev counts : S351.Idx → BitVec 32 := tables m 1

/-- What the call asks of its tables: every tile's expert is one of the 64, and no tile has a negative number of rows. -/
structure InRange : Prop where
  expert : ∀ t : Fin 351, (experts m (ix1 t)).toNat < 64
  count : ∀ t : Fin 351, 0 ≤ (counts m (ix1 t)).toInt

/-- The block index of the gate and up weights, and of the down weights: layer zero, the tile's expert. -/
theorem transform1_eq (pf : pre0.Contents (Elt F)) (i : grid0.Coords) :
    cc0_transform_1 k0_off1_inb numel1_S1 pf i = ![0, (pf 0 (ix1 (i 0)) : BitVec 32).toNat, 0, 0] := by
  have h : (pf 0 ((Rect.unit (s := S351) (k0_off1 i) S1.size (k0_off1_inb i)).emb (Shape.Idx.first (numel1_S1.symm ▸ Nat.one_pos))) : BitVec 32)
      = pf 0 (ix1 (i 0)) := load_tile (pf 0) main_v23 i _
  exact congrArg (fun w : BitVec 32 => (![0, w.toNat, 0, 0] : Fin 4 → ℕ)) h

theorem transform2_eq (pf : pre0.Contents (Elt F)) (i : grid0.Coords) :
    cc0_transform_2 k0_off1_inb numel1_S1 pf i = ![0, (pf 0 (ix1 (i 0)) : BitVec 32).toNat, 0, 0] :=
  transform1_eq pf i

/-- Tables in range name blocks inside the weights. -/
theorem ok_of_inRange (h : InRange m) : Ok m := by
  refine ⟨fun i => ⟨fun a => ?_, Or.inl rfl⟩, fun i => ⟨fun a => ?_, Or.inl rfl⟩⟩
  · have he : (tables m 0 (ix1 (i 0)) : BitVec 32).toNat < 64 := h.expert (i 0)
    rw [transform1_eq]
    match a with
    | ⟨0, _⟩ => show (0 + 1) * 1 ≤ 4; omega
    | ⟨1, _⟩ => show ((tables m 0 (ix1 (i 0)) : BitVec 32).toNat + 1) * 1 ≤ 64; omega
    | ⟨2, _⟩ => show (0 + 1) * 1024 ≤ 1024; omega
    | ⟨3, _⟩ => show (0 + 1) * 512 ≤ 512; omega
  · have he : (tables m 0 (ix1 (i 0)) : BitVec 32).toNat < 64 := h.expert (i 0)
    rw [transform2_eq]
    match a with
    | ⟨0, _⟩ => show (0 + 1) * 1 ≤ 4; omega
    | ⟨1, _⟩ => show ((tables m 0 (ix1 (i 0)) : BitVec 32).toNat + 1) * 1 ≤ 64; omega
    | ⟨2, _⟩ => show (0 + 1) * 256 ≤ 256; omega
    | ⟨3, _⟩ => show (0 + 1) * 1024 ≤ 1024; omega

/-- A point as a tile. -/
abbrev tileOf (t : Fin grid0.N) : Fin 351 := t.cast N_0

theorem coord_tile (t : Fin grid0.N) : (grid0.coords t 0 : Fin 351) = tileOf t := Fin.ext (coord_eq t)

/-- Row `r` of tile `t`, among all rows. -/
abbrev rowOf (t : Fin 351) (r : Fin 512) : Fin 179712 := ⟨512 * t.val + r.val, by omega⟩

variable (hR : InRange m)

/-- The expert of a tile. -/
abbrev expertOf (t : Fin 351) : Fin 64 := ⟨(experts m (ix1 t)).toNat, hR.expert t⟩

/-- The packed rows at a point are the tile's rows. -/
theorem rows_apply (c : Dev nD) (t : Fin grid0.N) (y : S2x512x256.Idx) :
    blockAt m (ok_of_inRange m hR) c 0 t y = start m c main_arg1 (ix3 (y 0) (rowOf (tileOf t) (y 1)) (y 2)) := by
  show start m c main_arg1 ((((cfgT m (ok_of_inRange m hR)).win 0).rect t).emb y) = _
  refine congrArg (start m c main_arg1) (funext fun a => Fin.ext ?_)
  refine (Pipeline.Window.rect_emb_val _ t y a).trans ?_
  have hc := coord_eq t
  have hlt : t.val < 351 := (tileOf t).isLt
  match a with
  | ⟨0, _⟩ => show 0 * 2 + (y 0).val = (y 0).val; omega
  | ⟨1, _⟩ =>
    show (BitVec.ofNat 32 (grid0.coords t 0).val).toNat * 512 + (y 1).val = 512 * t.val + (y 1).val
    rw [hc, WordCmp.toNat_ofNat_of_lt (by omega)]
    omega
  | ⟨2, _⟩ => show 0 * 256 + (y 2).val = (y 2).val; omega

/-- The gate and up weights at a point are the tile's expert's. -/
theorem gateUp_apply (c : Dev nD) (t : Fin grid0.N) (y : S1x1x1024x512.Idx) :
    blockAt m (ok_of_inRange m hR) c 1 t y = start m c main_arg2 (ix4 0 (expertOf m hR (tileOf t)) (y 2) (y 3)) := by
  show start m c main_arg2 ((((cfgT m (ok_of_inRange m hR)).win 1).rect t).emb y) = _
  refine congrArg (start m c main_arg2) (funext fun a => Fin.ext ?_)
  have hi : ((cfgT m (ok_of_inRange m hR)).win 1).index t = ![0, (experts m (ix1 (tileOf t))).toNat, 0, 0] := by
    rw [← coord_tile]
    exact transform1_eq (tables m) (grid0.coords t)
  have h0 : (y 0).val < 1 := (y 0).isLt
  have h1 : (y 1).val < 1 := (y 1).isLt
  refine (Pipeline.Window.rect_emb_val _ t y a).trans ?_
  match a with
  | ⟨0, _⟩ => exact (congrArg (fun ix : Fin 4 → ℕ => ix 0 * 1 + (y 0).val) hi).trans (by show 0 * 1 + (y 0).val = 0; omega)
  | ⟨1, _⟩ => exact (congrArg (fun ix : Fin 4 → ℕ => ix 1 * 1 + (y 1).val) hi).trans (by show (experts m (ix1 (tileOf t))).toNat * 1 + (y 1).val = (experts m (ix1 (tileOf t))).toNat; omega)
  | ⟨2, _⟩ => exact (congrArg (fun ix : Fin 4 → ℕ => ix 2 * 1024 + (y 2).val) hi).trans (by show 0 * 1024 + (y 2).val = (y 2).val; omega)
  | ⟨3, _⟩ => exact (congrArg (fun ix : Fin 4 → ℕ => ix 3 * 512 + (y 3).val) hi).trans (by show 0 * 512 + (y 3).val = (y 3).val; omega)

/-- The down weights at a point are the tile's expert's. -/
theorem down_apply (c : Dev nD) (t : Fin grid0.N) (y : S1x1x256x1024.Idx) :
    blockAt m (ok_of_inRange m hR) c 2 t y = start m c main_arg3 (ix4 0 (expertOf m hR (tileOf t)) (y 2) (y 3)) := by
  show start m c main_arg3 ((((cfgT m (ok_of_inRange m hR)).win 2).rect t).emb y) = _
  refine congrArg (start m c main_arg3) (funext fun a => Fin.ext ?_)
  have hi : ((cfgT m (ok_of_inRange m hR)).win 2).index t = ![0, (experts m (ix1 (tileOf t))).toNat, 0, 0] := by
    rw [← coord_tile]
    exact transform2_eq (tables m) (grid0.coords t)
  have h0 : (y 0).val < 1 := (y 0).isLt
  have h1 : (y 1).val < 1 := (y 1).isLt
  refine (Pipeline.Window.rect_emb_val _ t y a).trans ?_
  match a with
  | ⟨0, _⟩ => exact (congrArg (fun ix : Fin 4 → ℕ => ix 0 * 1 + (y 0).val) hi).trans (by show 0 * 1 + (y 0).val = 0; omega)
  | ⟨1, _⟩ => exact (congrArg (fun ix : Fin 4 → ℕ => ix 1 * 1 + (y 1).val) hi).trans (by show (experts m (ix1 (tileOf t))).toNat * 1 + (y 1).val = (experts m (ix1 (tileOf t))).toNat; omega)
  | ⟨2, _⟩ => exact (congrArg (fun ix : Fin 4 → ℕ => ix 2 * 256 + (y 2).val) hi).trans (by show 0 * 256 + (y 2).val = (y 2).val; omega)
  | ⟨3, _⟩ => exact (congrArg (fun ix : Fin 4 → ℕ => ix 3 * 1024 + (y 3).val) hi).trans (by show 0 * 1024 + (y 3).val = (y 3).val; omega)

/-- The output's block at a point is the tile's rows of the output. -/
theorem out_emb (hO : Ok m) (t : Fin grid0.N) (y : S4x512x256.Idx) :
    ((((cfgT m hO).win 3).rect t).emb y : S4x179712x256.Idx) = ix3 (y 0) (rowOf (tileOf t) (y 1)) (y 2) := by
  refine funext fun a => Fin.ext ?_
  refine (Pipeline.Window.rect_emb_val _ t y a).trans ?_
  have hc := coord_eq t
  have hlt : t.val < 351 := (tileOf t).isLt
  match a with
  | ⟨0, _⟩ => show 0 * 4 + (y 0).val = (y 0).val; omega
  | ⟨1, _⟩ =>
    show (BitVec.ofNat 32 (grid0.coords t 0).val).toNat * 512 + (y 1).val = 512 * t.val + (y 1).val
    rw [hc, WordCmp.toNat_ofNat_of_lt (by omega)]
    omega
  | ⟨2, _⟩ => show 0 * 256 + (y 2).val = (y 2).val; omega

/-- Two tiles of one expert have the same weights. -/
theorem gateUp_same (c : Dev nD) (t u : Fin grid0.N) (h : experts m (ix1 (tileOf t)) = experts m (ix1 (tileOf u))) :
    (blockAt m (ok_of_inRange m hR) c 1 t : Vec F S1x1x1024x512 .f32) = blockAt m (ok_of_inRange m hR) c 1 u := by
  refine funext fun (y : S1x1x1024x512.Idx) => ?_
  have he : expertOf m hR (tileOf t) = expertOf m hR (tileOf u) := Fin.ext (congrArg BitVec.toNat h)
  exact (gateUp_apply m hR c t y).trans ((congrArg (fun e => start m c main_arg2 (ix4 0 e (y 2) (y 3))) he).trans (gateUp_apply m hR c u y).symm)

theorem down_same (c : Dev nD) (t u : Fin grid0.N) (h : experts m (ix1 (tileOf t)) = experts m (ix1 (tileOf u))) :
    (blockAt m (ok_of_inRange m hR) c 2 t : Vec F S1x1x256x1024 .f32) = blockAt m (ok_of_inRange m hR) c 2 u := by
  refine funext fun (y : S1x1x256x1024.Idx) => ?_
  have he : expertOf m hR (tileOf t) = expertOf m hR (tileOf u) := Fin.ext (congrArg BitVec.toNat h)
  exact (down_apply m hR c t y).trans ((congrArg (fun e => start m c main_arg3 (ix4 0 e (y 2) (y 3))) he).trans (down_apply m hR c u y).symm)

end Cert.ExpertsIdeal.Moe

end
-- ==== Proof.ExpertsRun.lean ====
/-
  The experts call's run: what each point leaves, what the two kept weights are between points, and what the call leaves
  in its arrays.
-/
module

public import proofs.«01_k».proof.Proof.ExpertsBody
public import proofs.«01_k».proof.Proof.ExpertsBlocks
public import Idealize.ShloMosaic.Lib.Claim
public import Idealize.ShloMosaic.Lib.Pipeline.ValueKit

@[expose] public section

set_option maxRecDepth 16384

noncomputable section

namespace Cert.ExpertsIdeal.Moe

open Idealize.ShloMosaic hiding ix1 ix2 ix3 ix4 eq_ix1 eq_ix2 eq_ix3 eq_ix4
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (hR : InRange m)

/-- The rounded weights of a point's own expert. -/
abbrev ownGateUp (c : Dev nD) (t : Fin grid0.N) : Vec F S1024x512 .bf16 := k0_pay1 (blockAt m (ok_of_inRange m hR) c 1 t)
abbrev ownDown (c : Dev nD) (t : Fin grid0.N) : Vec F S256x1024 .bf16 := k0_pay2 (blockAt m (ok_of_inRange m hR) c 2 t)

/-- What a point leaves in the output block. -/
abbrev outAt (c : Dev nD) (t : Fin grid0.N) : Vec F S4x512x256 .bf16 :=
  outTile (counts m (ix1 (tileOf t))) (blockAt m (ok_of_inRange m hR) c 0 t) (ownGateUp m hR c t) (ownDown m hR c t)

/-- The two kept weights before point `t` are those of the point before, if there is one. -/
def Kept (c : Dev nD) (t : ℕ) (kg : Vec F S1024x512 .bf16) (kd : Vec F S256x1024 .bf16) : Prop :=
  ∀ u : Fin grid0.N, u.val + 1 = t → kg = ownGateUp m hR c u ∧ kd = ownDown m hR c u

/-- What holds between points: the two scratch buffers at the kept weights, the generator, and the tables. -/
def between (c : Dev nD) (t : ℕ) : sProp 𝕄 :=
  iprop(∃ kg, ∃ kd, ⌜Kept m hR c t kg kd⌝ ∗ owns (c : Thread nD τ) gateUpKept fullShare kg ∗ owns (c : Thread nD τ) downKept fullShare kd
    ∗ (∃ r, prngReg c r) ∗ tabPt c expertsM (tables m 0) ∗ tabPt c rowsM (tables m 1))

/-- Whether or not the tile starts an expert, the weights it uses are its own expert's. -/
theorem uses_own (c : Dev nD) (t : Fin grid0.N) (kg : Vec F S1024x512 .bf16) (kd : Vec F S256x1024 .bf16) (h : Kept m hR c t.val kg kd) :
    keptGateUp (experts m) (grid0.coords t 0) (blockAt m (ok_of_inRange m hR) c 1 t) kg = ownGateUp m hR c t
    ∧ keptDown (experts m) (grid0.coords t 0) (blockAt m (ok_of_inRange m hR) c 2 t) kd = ownDown m hR c t := by
  unfold keptGateUp keptDown
  by_cases hs : Starts (experts m) (grid0.coords t 0)
  · exact ⟨if_pos hs, if_pos hs⟩
  · rw [if_neg hs, if_neg hs]
    have hne : (grid0.coords t 0).val ≠ 0 := fun h0 => hs (Or.inl h0)
    have hsame : experts m (ix1 (grid0.coords t 0)) = experts m (ix1 (tileBefore (grid0.coords t 0))) :=
      not_not.mp fun h0 => hs (Or.inr h0)
    rw [coord_eq] at hne
    have hu : t.val - 1 < grid0.N := by have := t.isLt; omega
    have hb : tileBefore (grid0.coords t 0) = tileOf ⟨t.val - 1, hu⟩ := Fin.ext (congrArg (· - 1) (coord_eq t))
    rw [hb, coord_tile] at hsame
    obtain ⟨e1, e2⟩ := h ⟨t.val - 1, hu⟩ (by show t.val - 1 + 1 = t.val; omega)
    exact ⟨e1.trans (congrArg k0_pay1 (gateUp_same m hR c t ⟨t.val - 1, hu⟩ hsame).symm),
      e2.trans (congrArg k0_pay2 (down_same m hR c t ⟨t.val - 1, hu⟩ hsame).symm)⟩

/-! ## The pipeline's data -/

/-- The arrays as the launch holds them; after a point, each input's buffer its block and the output's what the point leaves. -/
def dats (_ : Fin 1) (c : Dev nD) : Dat τ (Elt F) Unit ℕ (UR sig nD τ) ℕ (cfgT m (ok_of_inRange m hR)) c where
  A w := start m c (Pipeline.arrRef spec0 w)
  after w t := match w with
    | ⟨0, _⟩ => blockAt m (ok_of_inRange m hR) c 0 t
    | ⟨1, _⟩ => blockAt m (ok_of_inRange m hR) c 1 t
    | ⟨2, _⟩ => blockAt m (ok_of_inRange m hR) c 2 t
    | ⟨3, _⟩ => outAt m hR c t
  Φ t := between m hR c t.val
  q _ := fullShare
  owed _ := 0

theorem arrays_eq (c : Dev nD) (w : Fin (cfgT m (ok_of_inRange m hR)).W) :
    (dats m hR 0 c).A w = start m c (Pipeline.arrRef spec0 w) := by dsimp only [dats]

theorem after_rows (c : Dev nD) (t : Fin (cfgT m (ok_of_inRange m hR)).N) :
    (dats m hR 0 c).after 0 t = blockAt m (ok_of_inRange m hR) c 0 t := by dsimp only [dats]; try rfl
theorem after_gateUp (c : Dev nD) (t : Fin (cfgT m (ok_of_inRange m hR)).N) :
    (dats m hR 0 c).after 1 t = blockAt m (ok_of_inRange m hR) c 1 t := by dsimp only [dats]; try rfl
theorem after_down (c : Dev nD) (t : Fin (cfgT m (ok_of_inRange m hR)).N) :
    (dats m hR 0 c).after 2 t = blockAt m (ok_of_inRange m hR) c 2 t := by dsimp only [dats]; try rfl
theorem after_out (c : Dev nD) (t : Fin (cfgT m (ok_of_inRange m hR)).N) :
    (dats m hR 0 c).after 3 t = outAt m hR c t := by dsimp only [dats]; try rfl

/-! ## A point -/

/-- What the body is called with, and what it returns, the windows one by one. -/
def pointPre (c : Dev nD) (t : Fin (cfgT m (ok_of_inRange m hR)).N) : sProp 𝕄 :=
  iprop((dats m hR 0 c).Φ t.castSucc ∗ (dats m hR 0 c).owesAt () t.castSucc
    ∗ (∃ d, owns (c : Thread nD τ) (rowsBuf m (ok_of_inRange m hR) t) fullShare ((dats m hR 0 c).before 0 t d))
    ∗ (∃ d, owns (c : Thread nD τ) (gateUpBuf m (ok_of_inRange m hR) t) fullShare ((dats m hR 0 c).before 1 t d))
    ∗ (∃ d, owns (c : Thread nD τ) (downBuf m (ok_of_inRange m hR) t) fullShare ((dats m hR 0 c).before 2 t d))
    ∗ (∃ d, owns (c : Thread nD τ) (outBuf m (ok_of_inRange m hR) t) fullShare ((dats m hR 0 c).before 3 t d)))
def pointPost (c : Dev nD) (t : Fin (cfgT m (ok_of_inRange m hR)).N) : sProp 𝕄 :=
  iprop((dats m hR 0 c).Φ t.succ ∗ (dats m hR 0 c).owesAt () t.succ
    ∗ owns (c : Thread nD τ) (rowsBuf m (ok_of_inRange m hR) t) fullShare ((dats m hR 0 c).after 0 t)
    ∗ owns (c : Thread nD τ) (gateUpBuf m (ok_of_inRange m hR) t) fullShare ((dats m hR 0 c).after 1 t)
    ∗ owns (c : Thread nD τ) (downBuf m (ok_of_inRange m hR) t) fullShare ((dats m hR 0 c).after 2 t)
    ∗ owns (c : Thread nD τ) (outBuf m (ok_of_inRange m hR) t) fullShare ((dats m hR 0 c).after 3 t))

/-- The body at a point: the kept weights it finds are the previous point's, and those it leaves are its own. -/
theorem sound_point (c : Dev nD) (t : Fin (cfgT m (ok_of_inRange m hR)).N) :
    pointPre m hR c t ⊢ wp frame (wpE (defs₀ (F := F)) Variants.none c none) Set.univ (bodyAt (adm m (ok_of_inRange m hR)) t)
      (fun _ => pointPost m hR c t) := by
  have hrows := fun d => before_rows m (ok_of_inRange m hR) (dats m hR 0 c) (arrays_eq m hR c 0) (after_rows m hR c) t d
  have hgu := fun d => before_gateUp m (ok_of_inRange m hR) (dats m hR 0 c) (arrays_eq m hR c 1) (after_gateUp m hR c) t d
  have hdn := fun d => before_down m (ok_of_inRange m hR) (dats m hR 0 c) (arrays_eq m hR c 2) (after_down m hR c) t d
  unfold pointPre pointPost
  simp only [hrows, hgu, hdn]
  rw [show (dats m hR 0 c).owesAt () t.succ = (dats m hR 0 c).owesAt () t.castSucc from rfl,
    after_rows, after_gateUp, after_down, after_out,
    show (dats m hR 0 c).Φ t.succ = between m hR c (t.val + 1) from rfl,
    show (dats m hR 0 c).Φ t.castSucc = between m hR c t.val from rfl]
  unfold between
  iintro ⟨⟨%kg, %kd, %hk, HS0, HS1, Hg, HT0, HT1⟩, Ho, ⟨%d0, H0⟩, ⟨%d1, H1⟩, ⟨%d2, H2⟩, ⟨%d3, H3⟩⟩
  iapply (body_run c (grid0.coords t) _ _ _ _ _ _ _ _ _ _ _ _ (blockAt m (ok_of_inRange m hR) c 0 t)
    (blockAt m (ok_of_inRange m hR) c 1 t) (blockAt m (ok_of_inRange m hR) c 2 t) kg kd (tables m 0) (tables m 1)
    (hR.count (grid0.coords t 0)) Set.univ _)
  have hown := uses_own m hR c t kg kd hk
  have ho : outTile (counts m (ix1 (grid0.coords t 0))) (blockAt m (ok_of_inRange m hR) c 0 t)
      (keptGateUp (experts m) (grid0.coords t 0) (blockAt m (ok_of_inRange m hR) c 1 t) kg)
      (keptDown (experts m) (grid0.coords t 0) (blockAt m (ok_of_inRange m hR) c 2 t) kd) = outAt m hR c t := by
    rw [hown.1, hown.2, coord_tile]
  isplitl [H0]; · iexact H0
  isplitl [H1]; · iexact H1
  isplitl [H2]; · iexact H2
  isplitl [H3]; · iexists _; iexact H3
  isplitl [HS0]; · iexact HS0
  isplitl [HS1]; · iexact HS1
  isplitl [HT0]; · iexact HT0
  isplitl [HT1]; · iexact HT1
  iintro ⟨H0, H1, H2, H3, HS0, HS1, HT0, HT1⟩
  isplitl [HS0 HS1 Hg HT0 HT1]
  · iexists _; iexists _
    isplitr
    swap
    · isplitl [HS0]; · iexact HS0
      isplitl [HS1]; · iexact HS1
      isplitl [Hg]; · iexact Hg
      isplitl [HT0]; · iexact HT0
      iexact HT1
    ipureintro
    intro u hu
    obtain rfl : u = t := Fin.ext (by omega)
    exact hown
  isplitl [Ho]; · iexact Ho
  isplitl [H0]; · iexact H0
  isplitl [H1]; · iexact H1
  isplitl [H2]; · iexact H2
  rw [← ho]
  iexact H3

/-- The body table's row at a point is the body. -/
theorem body_row (hO : Ok m) (t : Fin (cfgT m hO).N) :
    defs₀ (F := F) .tc (cfgT m hO).body ((cfgT m hO).bodyArgs t ((cfgT m hO).slots t)) = bodyAt (adm m hO) t := by
  unfold defs₀; rw [Defs.onTc_tc]

/-- A block that is written back counts as left by the body, whether or not the body touched it. -/
theorem written_either_way (idle flush : Bool) (P Q : sProp 𝕄) :
    flush = true → (P ⊢ (match idle with | true => (match flush with | false => Q | true => P) | false => P)) := by
  rintro rfl; cases idle <;> exact .rfl

theorem body_obligation (c : Dev nD) : BodyObligation (dats (F := F) m hR 0 c) (defs₀ (F := F)) Variants.none () Set.univ := fun t => by
  rw [bigSep_W0, bigSep_W0, body_row m (ok_of_inRange m hR)]
  refine triple_restated (sound_point m hR c t) rfl .rfl fun _ => ?_
  unfold pointPost
  exact sep_mono .rfl (sep_mono .rfl (sep_mono .rfl (sep_mono .rfl (sep_mono .rfl (written_either_way _ _ _ _ (flush_out _ t))))))

/-! ## The run -/

set_option backward.isDefEq.respectTransparency.types false in
/-- The run: each array ends as the pipeline computes it from these data, all else as it was, every counter at zero. -/
theorem run_main (ρ : Dev nD → PrngReg) : θ_run defs (onTc (τ := τ) (main (F := F))) (s₀ m ρ)
    (fun r => (Pipeline.FramePost (Pipeline.pin pcfgs fun _ => adm m (ok_of_inRange m hR)) (dats m hR) 0 (start m)) r ∧ r.2.sem = fun _ => 0) :=
  Pipeline.θ_run_frameP_track (Q' := _) pcfgs (fun _ => adm m (ok_of_inRange m hR)) (dats m hR) (0 : Fin 1) launch0 defs₀ Variants.none m ρ main
    (hbody := fun c => (body_obligation m hR c).loose) (hshare := fun c => (dats m hR 0 c).share_full fun _ => rfl)
    (howed := fun _ _ => rfl) (V := start m) (hmain := region_only m Variants.none) (hA := arrays_eq m hR) (hpf := start_tables m)
    (hin := fun c => by
      show iprop(Pipeline.ΦA spec0 c ∗ Pipeline.ΦT pre0 (tables m) c) ⊢ between m hR c 0
      rw [scratch_held, tables_held]
      unfold between
      iintro ⟨⟨⟨⟨%kg, HS0⟩, ⟨%kd, HS1⟩⟩, Hg⟩, ⟨HT0, HT1⟩⟩
      iexists kg; iexists kd
      isplitr
      swap
      · isplitl [HS0]; · iexact HS0
        isplitl [HS1]; · iexact HS1
        isplitl [Hg]; · iexact Hg
        isplitl [HT0]; · iexact HT0
        iexact HT1
      ipureintro
      exact fun u hu => absurd hu (Nat.succ_ne_zero _))
    (hout := fun c => by
      show between m hR c _ ⊢ Pipeline.ΦA spec0 c
      rw [scratch_held]
      unfold between
      iintro ⟨%kg, %kd, %hk, HS0, HS1, Hg, HT0, HT1⟩
      isplitl [HS0 HS1]
      · isplitl [HS0]
        · iexists _; iexact HS0
        iexists _; iexact HS1
      iexact Hg)

/-! ## What the run leaves -/

/-- Row `r` of the output, as a tile and a row of the tile. -/
abbrev tileOfRow (r : Fin 179712) : Fin grid0.N := ⟨r.val / 512, by rw [N_0]; omega⟩
abbrev rowInTile (r : Fin 179712) : Fin 512 := ⟨r.val % 512, Nat.mod_lt _ (by decide)⟩

/-- The output array: each row as its tile left it. -/
def outArr (c : Dev nD) : S4x179712x256.Idx → Elt F .bf16 := fun y =>
  outAt m hR c (tileOfRow (y 1)) (ix3 (y 0) (rowInTile (y 1)) (y 2))

/-- A tile's row, read back as a row of the output. -/
theorem outArr_row (c : Dev nD) (t : Fin grid0.N) (y : S4x512x256.Idx) :
    outArr m hR c (ix3 (y 0) (rowOf (tileOf t) (y 1)) (y 2)) = outAt m hR c t y := by
  have h1 : (y 1).val < 512 := (y 1).isLt
  have ht : tileOfRow (rowOf (tileOf t) (y 1)) = t := Fin.ext (by show (512 * t.val + (y 1).val) / 512 = t.val; omega)
  have hr : rowInTile (rowOf (tileOf t) (y 1)) = y 1 := Fin.ext (by show (512 * t.val + (y 1).val) % 512 = (y 1).val; omega)
  show outAt m hR c (tileOfRow (rowOf (tileOf t) (y 1))) (ix3 (y 0) (rowInTile (rowOf (tileOf t) (y 1))) (y 2)) = outAt m hR c t y
  rw [ht, hr]
  exact congrArg (outAt m hR c t) (eq_ix3 y).symm

/-- Every row of the output is in its tile's block. -/
theorem out_covered (i : S4x179712x256.Idx) :
    i = ((((cfgT m (ok_of_inRange m hR)).win 3).rect (tileOfRow (i 1))).emb (ix3 (i 0) (rowInTile (i 1)) (i 2)) : S4x179712x256.Idx) := by
  refine Eq.trans ?_ (out_emb m (ok_of_inRange m hR) (tileOfRow (i 1)) (ix3 (i 0) (rowInTile (i 1)) (i 2))).symm
  refine (eq_ix3 i).trans (congrArg (fun r => ix3 (i 0) r (i 2)) (Fin.ext ?_))
  show (i 1).val = 512 * ((i 1).val / 512) + (i 1).val % 512
  omega

theorem mem_of_emb {sp : Space} {s : Shape} {e : EltTy} (v : View sig .tc sp s e) (x : s.Idx) (i : v.ty.Idx) (h : i = v.emb x) :
    i ∈ v.set := h ▸ View.emb_mem_set v x

theorem arr_out (c : Dev nD) : (dats m hR 0 c).arrAt 3 (cfgT m (ok_of_inRange m hR)).N = outArr m hR c := by
  refine (dats m hR 0 c).arrAt_eq_of_emb 3 (outArr m hR c) (fun t _ (y : S4x512x256.Idx) => ?_) (fun (i : S4x179712x256.Idx) => ?_)
  · rw [after_out]
    exact (outArr_row m hR c t y).symm.trans (congrArg (outArr m hR c) (out_emb m (ok_of_inRange m hR) t y).symm)
  · refine ⟨tileOfRow (i 1), flush_out _ _, ?_⟩
    exact mem_of_emb (((cfgT m (ok_of_inRange m hR)).win 3).blk (tileOfRow (i 1))).view (ix3 (i 0) (rowInTile (i 1)) (i 2)) i (out_covered m hR i)

end Cert.ExpertsIdeal.Moe

end
-- ==== Proof.ExpertsTables.lean ====
/-
  The host's operations before the experts call, read back: each expert's rows rounded up to whole tiles, where they end,
  and the two tables as terms of the counts. The arguments are as they were.
-/
module

public import proofs.«01_k».proof.Proof.ExpertsSetup
public import proofs.«01_k».proof.Proof.ExpertsPre
public import Idealize.ShloMosaic.Lib.StableHlo.Run
public import Idealize.ShloMosaic.Lib.Routing.Model

@[expose] public section

set_option maxRecDepth 16384

noncomputable section

namespace Cert.ExpertsIdeal.Moe

open Idealize.ShloMosaic Idealize.ShloMosaic.TcCoe Idealize.ShloMosaic.StableHlo
open Idealize.SL Idealize.SL.Sem
open Cert.ExpertsIdeal.Gen
open Cert.Proof.Moe (wordsOf)

variable {F : FTy → Type} [FloatOps F]

/-! ## The tables as terms -/

/-- A scalar, at every expert; at every tile; at every tile and expert. -/
abbrev allExperts (v : BitVec 32) : IVec S64 32 := broadcastInDim S64 ![] bcast_S_S64 (constantI S_ 32 v)
abbrev allTiles (v : BitVec 32) : IVec S351 32 := broadcastInDim S351 ![] bcast_S_S351 (constantI S_ 32 v)
abbrev allPairs (v : BitVec 32) : IVec S351x64 32 := broadcastInDim S351x64 ![] bcast_S_S351x64 (constantI S_ 32 v)

/-- Each expert's rows, rounded up to whole tiles. -/
def paddedOf (x : IVec S64 32) : IVec S64 32 :=
  muli (Routing.pyDiv bcast_S_S64 (subi (addi x (allExperts 512#32)) (allExperts 1#32)) (constantI S_ 32 512#32)) (allExperts 512#32)

/-- Where each expert's tiles end. -/
def endsOf (x : IVec S64 32) : IVec S64 32 :=
  Host.reduceWindow IntOp.addi ![64] ![1] ![63] ![0] (paddedOf x) (broadcastInDim S_ ![] bcast_S_S_ (constantI S_ 32 0#32))
    reduceWindows_S64_S64_w64s1p63_0 h_S_

/-- Each tile's first row. -/
def tile0 : IVec S351 32 := muli (iotaInDim S351 32 0) (allTiles 512#32)

/-- A vector over the tiles, and one over the experts, at every tile and expert. -/
abbrev overExperts (v : IVec S351 32) : IVec S351x64 32 :=
  broadcastInDim S351x64 ![0, 1] bcast_S351x1_S351x64_0_1 (broadcastInDim S351x1 ![0] bcast_S351_S351x1_0 v)
abbrev overTiles (v : IVec S64 32) : IVec S351x64 32 :=
  broadcastInDim S351x64 ![0, 1] bcast_S1x64_S351x64_0_1 (broadcastInDim S1x64 ![1] bcast_S64_S1x64_1 v)

/-- The table of the tiles' experts. -/
def expertTable (x : IVec S64 32) : IVec S351 32 :=
  minsi (Host.reduce IntOp.addi (extui 32 (cmpi .sge (overExperts tile0) (overTiles (endsOf x))) natLt_1_32)
    (constantI S_ 32 0#32) reducesTo_S351x64_S351_d1 h_S_) (allTiles 63#32)

/-- What each expert has left from each tile on, between 0 and 512, where the tile is one of the expert's. -/
def leftOf (x : IVec S64 32) : IVec S351x64 32 :=
  select (andi (cmpi .sge (overExperts tile0) (overTiles (subi (endsOf x) (paddedOf x)))) (cmpi .slt (overExperts tile0) (overTiles (endsOf x))))
    (minsi (allPairs 512#32) (maxsi (allPairs 0#32)
      (subi (overTiles x) (subi (overExperts tile0) (overTiles (subi (endsOf x) (paddedOf x)))))))
    (allPairs 0#32)

/-- The table of the tiles' row counts. -/
def countTable (x : IVec S64 32) : IVec S351 32 :=
  Host.reduce IntOp.addi (leftOf x) (constantI S_ 32 0#32) reducesTo_S351x64_S351_d1 h_S_

/-! ## What the host's operations leave -/

variable (m : (ℓ : Loc nD τ sig) → Buf (Elt F) ℓ)

theorem start_arg0 (c : Dev nD) : start m c main_arg0 = m ((c : Thread nD τ).loc main_arg0) := by
  rw [start_eq]
  simp only [hostSteps, List.flatten_cons, List.flatten_nil, List.append_nil, List.cons_append, List.nil_append, hostOps0, hostOps0_1,
    hostOps0_2, hostOps0_3, hostOps0_4, hostOps0_5, hostOps0_6, hostOps0_7, hostOps0_8, TRef.binary, TRef.nullary, TRef.ternary,
    TRef.unary, TRef.toBuf, TRef.ofBuf, cast_eq]
  after_results_simp

theorem start_arg1 (c : Dev nD) : start m c main_arg1 = m ((c : Thread nD τ).loc main_arg1) := by
  rw [start_eq]
  simp only [hostSteps, List.flatten_cons, List.flatten_nil, List.append_nil, List.cons_append, List.nil_append, hostOps0, hostOps0_1,
    hostOps0_2, hostOps0_3, hostOps0_4, hostOps0_5, hostOps0_6, hostOps0_7, hostOps0_8, TRef.binary, TRef.nullary, TRef.ternary,
    TRef.unary, TRef.toBuf, TRef.ofBuf, cast_eq]
  after_results_simp

theorem start_arg2 (c : Dev nD) : start m c main_arg2 = m ((c : Thread nD τ).loc main_arg2) := by
  rw [start_eq]
  simp only [hostSteps, List.flatten_cons, List.flatten_nil, List.append_nil, List.cons_append, List.nil_append, hostOps0, hostOps0_1,
    hostOps0_2, hostOps0_3, hostOps0_4, hostOps0_5, hostOps0_6, hostOps0_7, hostOps0_8, TRef.binary, TRef.nullary, TRef.ternary,
    TRef.unary, TRef.toBuf, TRef.ofBuf, cast_eq]
  after_results_simp

theorem start_arg3 (c : Dev nD) : start m c main_arg3 = m ((c : Thread nD τ).loc main_arg3) := by
  rw [start_eq]
  simp only [hostSteps, List.flatten_cons, List.flatten_nil, List.append_nil, List.cons_append, List.nil_append, hostOps0, hostOps0_1,
    hostOps0_2, hostOps0_3, hostOps0_4, hostOps0_5, hostOps0_6, hostOps0_7, hostOps0_8, TRef.binary, TRef.nullary, TRef.ternary,
    TRef.unary, TRef.toBuf, TRef.ofBuf, cast_eq]
  after_results_simp

theorem start_experts (c : Dev nD) : start m c main_v23 = expertTable (wordsOf (m ((c : Thread nD τ).loc main_arg0))) := by
  rw [start_eq]
  simp only [hostSteps, List.flatten_cons, List.flatten_nil, List.append_nil, List.cons_append, List.nil_append, hostOps0, hostOps0_1,
    hostOps0_2, hostOps0_3, hostOps0_4, hostOps0_5, hostOps0_6, hostOps0_7, hostOps0_8, TRef.binary, TRef.nullary, TRef.ternary,
    TRef.unary, TRef.toBuf, TRef.ofBuf, cast_eq]
  after_results_simp <;> rfl

theorem start_counts (c : Dev nD) : start m c main_v45 = countTable (wordsOf (m ((c : Thread nD τ).loc main_arg0))) := by
  rw [start_eq]
  simp only [hostSteps, List.flatten_cons, List.flatten_nil, List.append_nil, List.cons_append, List.nil_append, hostOps0, hostOps0_1,
    hostOps0_2, hostOps0_3, hostOps0_4, hostOps0_5, hostOps0_6, hostOps0_7, hostOps0_8, TRef.binary, TRef.nullary, TRef.ternary,
    TRef.unary, TRef.toBuf, TRef.ofBuf, cast_eq]
  after_results_simp <;> rfl

end Cert.ExpertsIdeal.Moe

end
-- ==== Proof.ExpertsLayout.lean ====
/-
  The rows of the experts in whole numbers: expert `q` has `c q` rows, from a multiple of 512 on, and the tiles of 512
  rows they take are its own. Which expert a tile is of and how many of its rows are live is told by counting and by a sum
  over the experts; that it is the same as asking of every row whose it is.
-/
module

public import Idealize.ShloMosaic.Lib.Routing.Count
public import Idealize.ShloMosaic.Lib.WordSum

@[expose] public section

namespace Cert.Proof.Moe

/-- A number of rows, rounded up to whole tiles. -/
def pad (n : ℕ) : ℕ := (n + 511) / 512 * 512

/-- The padded rows of the experts before `k`: where the rows of expert `k` start. -/
def before (c : ℕ → ℕ) (k : ℕ) : ℕ := ((List.range k).map fun i => pad (c i)).sum

/-- Row `R` is one of expert `q`'s. -/
def IsOf (c : ℕ → ℕ) (q R : ℕ) : Prop := before c q ≤ R ∧ R < before c q + c q

instance (c : ℕ → ℕ) (q R : ℕ) : Decidable (IsOf c q R) := inferInstanceAs (Decidable (_ ∧ _))

/-- Tile `t` is one of expert `q`'s. -/
def Owns (c : ℕ → ℕ) (q t : ℕ) : Prop := before c q ≤ 512 * t ∧ 512 * t < before c (q + 1)

instance (c : ℕ → ℕ) (q t : ℕ) : Decidable (Owns c q t) := inferInstanceAs (Decidable (_ ∧ _))

/-- What expert `q` has left from tile `t` on, up to 512, where the tile is one of the expert's. -/
def left (c : ℕ → ℕ) (t q : ℕ) : ℕ := if Owns c q t then min 512 (c q - (512 * t - before c q)) else 0

/-- Expert `q` ends at or before tile `t`. -/
def Over (c : ℕ → ℕ) (t q : ℕ) : Prop := before c (q + 1) ≤ 512 * t

instance (c : ℕ → ℕ) (t : ℕ) : DecidablePred (Over c t) := fun _ => inferInstanceAs (Decidable (_ ≤ _))

variable (c : ℕ → ℕ)

theorem before_succ (k : ℕ) : before c (k + 1) = before c k + pad (c k) := by
  unfold before
  simp [List.range_succ]

theorem before_tiles (k : ℕ) : ∃ q, before c k = 512 * q := by
  induction k with
  | zero => exact ⟨0, rfl⟩
  | succ k ih =>
    obtain ⟨q, hq⟩ := ih
    exact ⟨q + (c k + 511) / 512, by rw [before_succ, hq]; unfold pad; omega⟩

theorem before_mono {a b : ℕ} (h : a ≤ b) : before c a ≤ before c b := by
  induction h with
  | refl => exact Nat.le_refl _
  | step _ ih => exact ih.trans (by rw [before_succ]; omega)

theorem le_pad (n : ℕ) : n ≤ pad n := by unfold pad; omega

theorem before_le (hc : ∀ i, c i ≤ 18432) (k : ℕ) : before c k ≤ k * 18432 := by
  induction k with
  | zero => exact Nat.le_refl _
  | succ k ih =>
    have h := hc k
    rw [before_succ]
    unfold pad
    omega

/-- The tile of an expert's row is the expert's. -/
theorem owns_of_isOf {q R : ℕ} (h : IsOf c q R) : Owns c q (R / 512) := by
  obtain ⟨h0, h1⟩ := h
  obtain ⟨a, ha⟩ := before_tiles c q
  have hp := le_pad (c q)
  have hs := before_succ c q
  exact ⟨by omega, by omega⟩

/-- A tile is of one expert only. -/
theorem owns_unique {q r t : ℕ} (hq : Owns c q t) (hr : Owns c r t) : q = r := by
  by_contra hn
  rcases Nat.lt_or_gt_of_ne hn with h | h
  · have := before_mono c (show q + 1 ≤ r from h)
    have := hq.2
    have := hr.1
    omega
  · have := before_mono c (show r + 1 ≤ q from h)
    have := hr.2
    have := hq.1
    omega

/-- The experts that end at or before a tile of expert `q` are those before `q`. -/
theorem count_over {q t : ℕ} (h : Owns c q t) (hq : q < 64) : Nat.count (Over c t) 64 = q := by
  have hiff : ∀ k, Over c t k ↔ k < q := fun k => by
    constructor
    · intro hk
      by_contra hn
      have := before_mono c (show q + 1 ≤ k + 1 by omega)
      have := h.2
      unfold Over at hk
      omega
    · intro hk
      exact (before_mono c (show k + 1 ≤ q by omega)).trans h.1
  have e : Over c t = fun k => k < q := funext fun k => propext (hiff k)
  have hc : Nat.count (Over c t) 64 = Nat.count (fun k => k < q) 64 := by
    simp only [Nat.count_eq_card_filter_range, hiff]
  rw [hc, Nat.count_eq_card_filter_range]
  have hf : (Finset.range 64).filter (fun k => k < q) = Finset.range q := by
    ext k
    simp only [Finset.mem_filter, Finset.mem_range]
    omega
  rw [hf, Finset.card_range]

/-- The live rows of a tile, all experts together. -/
def live (t : ℕ) : ℕ := ∑ q : Fin 64, left c t q.val

theorem live_of_owns {t : ℕ} (q : Fin 64) (h : Owns c q.val t) : live c t = min 512 (c q.val - (512 * t - before c q.val)) := by
  unfold live
  rw [Finset.sum_eq_single q]
  · exact if_pos h
  · intro r _ hr
    exact if_neg fun hq => hr (Fin.ext (owns_unique c hq h))
  · exact fun hn => absurd (Finset.mem_univ q) hn

theorem live_of_none {t : ℕ} (h : ∀ q : Fin 64, ¬ Owns c q.val t) : live c t = 0 :=
  Finset.sum_eq_zero fun q _ => if_neg (h q)

/-- Summing over the experts what each gives a row that is its own is what the tile's expert gives the row if it is below
    the tile's live rows. -/
theorem sum_isOf {M : Type} [AddCommMonoid M] (f : Fin 64 → M) (R : ℕ) (e : Fin 64)
    (he : e.val = min 63 (Nat.count (Over c (R / 512)) 64)) :
    (∑ q : Fin 64, if IsOf c q.val R then f q else 0) = if R % 512 < live c (R / 512) then f e else 0 := by
  by_cases h : ∃ q : Fin 64, Owns c q.val (R / 512)
  · obtain ⟨q, hq⟩ := h
    have hcount := count_over c hq q.isLt
    have hqe : e = q := Fin.ext (by have := q.isLt; omega)
    subst hqe
    rw [live_of_owns c e hq, Finset.sum_eq_single e]
    · refine if_congr ?_ rfl rfl
      obtain ⟨h0, h1⟩ := hq
      unfold IsOf
      have hp := le_pad (c e.val)
      constructor
      · intro h2
        omega
      · intro h2
        omega
    · intro r _ hr
      exact if_neg fun h => hr (Fin.ext (owns_unique c (owns_of_isOf c h) hq))
    · exact fun hn => absurd (Finset.mem_univ e) hn
  · have hn : ∀ q : Fin 64, ¬ Owns c q.val (R / 512) := fun q hq => h ⟨q, hq⟩
    rw [live_of_none c hn, if_neg (by omega)]
    exact Finset.sum_eq_zero fun q _ => if_neg fun hq => hn q (owns_of_isOf c hq)

end Cert.Proof.Moe
-- ==== Proof.ExpertsCounts.lean ====
/-
  The two tables at a tile. Whatever the counts are, a tile's expert is one of the 64 and its count is not negative; where
  the counts are those of 64 experts with at most 18432 rows each, the tables hold what Proof/ExpertsLayout.lean says in
  whole numbers.
-/
module

public import proofs.«01_k».proof.Proof.ExpertsTables
public import proofs.«01_k».proof.Proof.ExpertsBlocks
public import proofs.«01_k».proof.Proof.ExpertsLayout
public import Idealize.ShloMosaic.Lib.Routing.Words
public import Idealize.ShloMosaic.Lib.PlanTiles.Rows
public import Idealize.ShloMosaic.Lib.Pointwise

@[expose] public section

set_option maxRecDepth 16384

noncomputable section

namespace Cert.ExpertsIdeal.Moe

open Idealize.ShloMosaic hiding ix1 ix2 ix3 ix4 eq_ix1 eq_ix2 eq_ix3 eq_ix4
open Idealize.ShloMosaic.TcCoe Idealize.ShloMosaic.ValueIdx Idealize.ShloMosaic.WordCmp Idealize.ShloMosaic.Routing
open Cert.ExpertsIdeal.Gen Cert.Proof.Moe

/-! ## Whatever the counts are -/

/-- The sum over the experts, at a tile, of words too small to wrap. -/
theorem toNat_sumExperts (v : IVec S351x64 32) (t : Fin 351) (h : ∑ q : Fin 64, (v (ix2 t q)).toNat < 2 ^ 32) :
    (Host.reduce IntOp.addi v (constantI S_ 32 0#32) reducesTo_S351x64_S351_d1 h_S_ (ix1 t)).toNat = ∑ q : Fin 64, (v (ix2 t q)).toNat := by
  rw [Host.reduce_eq_fold, Shape.ReducesTo.fold_fiber_r2_a1]
  have e : ∀ q : Fin 64, v (Idealize.ShloMosaic.ix2 t q) = v (ix2 t q) := fun q => by rw [ix2_eq_valueIdx]
  refine (StableHlo.Predicate.toNat_fold_addi _ _ ?_).trans (Finset.sum_congr rfl fun q _ => congrArg BitVec.toNat (e q))
  exact lt_of_eq_of_lt (Finset.sum_congr rfl fun q _ => congrArg BitVec.toNat (e q)) h

theorem minsi_toNat_le (w : BitVec 32) : (IntOp.minsi 512#32 (IntOp.maxsi 0#32 w)).toNat ≤ 512 := by
  unfold IntOp.minsi IntOp.maxsi
  simp only [BitVec.slt_eq_decide, decide_eq_true_eq, BitVec.toInt_eq_toNat_cond, BitVec.toNat_ofNat, Nat.reducePow, Nat.reduceMod]
  split_ifs <;> simp_all <;> omega

theorem leftOf_le (x : IVec S64 32) (t : Fin 351) (q : Fin 64) : (leftOf x (ix2 t q)).toNat ≤ 512 := by
  unfold leftOf
  rw [select_at]
  unfold Scalar.select
  split
  · exact minsi_toNat_le _
  · exact Nat.zero_le _

theorem countTable_toNat (x : IVec S64 32) (t : Fin 351) : (countTable x (ix1 t)).toNat = ∑ q : Fin 64, (leftOf x (ix2 t q)).toNat := by
  refine toNat_sumExperts _ t (lt_of_le_of_lt (Finset.sum_le_card_nsmul _ _ 512 fun q _ => leftOf_le x t q) ?_)
  rw [Finset.card_univ, Fintype.card_fin]
  norm_num

theorem countTable_le (x : IVec S64 32) (t : Fin 351) : (countTable x (ix1 t)).toNat ≤ 32768 := by
  rw [countTable_toNat]
  refine (Finset.sum_le_card_nsmul _ _ 512 fun q _ => leftOf_le x t q).trans ?_
  rw [Finset.card_univ, Fintype.card_fin]
  norm_num

/-- A tile's expert, from what it is to count. -/
theorem expertTable_eq (x : IVec S64 32) (t : Fin 351) (Q : ℕ → Prop) [DecidablePred Q]
    (hQ : ∀ q : Fin 64, cmpi .sge (overExperts tile0) (overTiles (endsOf x)) (ix2 t q) = 1#1 ↔ Q q.val) :
    expertTable x (ix1 t) = BitVec.ofNat 32 (min 63 (Nat.count Q 64)) := by
  have hn : Nat.count Q 64 ≤ 64 := Nat.count_le _
  have h := reduce_count (n := 351) (m := 64) (by norm_num) _ natLt_1_32 reducesTo_S351x64_S351_d1 h_S_ t Q hQ
  have hb : allTiles 63#32 (ix1 t) = BitVec.ofNat 32 63 := bc0 _ _ _
  unfold expertTable
  rw [minsi_apply]
  refine (congrArg₂ IntOp.minsi h hb).trans ?_
  exact PlanTiles.minsi_word (by omega) (by norm_num)

theorem expertTable_lt (x : IVec S64 32) (t : Fin 351) : (expertTable x (ix1 t)).toNat < 64 := by
  classical
  rw [expertTable_eq x t (fun n => ∃ h : n < 64, cmpi .sge (overExperts tile0) (overTiles (endsOf x)) (ix2 t ⟨n, h⟩) = 1#1)
    fun q => ⟨fun h => ⟨q.isLt, h⟩, fun h => h.2⟩, BitVec.toNat_ofNat]
  exact lt_of_le_of_lt (Nat.mod_le _ _) (by omega)

variable {F : FTy → Type} [FloatOps F]

theorem experts_eq (m : (ℓ : Loc nD τ sig) → Buf (Elt F) ℓ) : experts m = expertTable (Cert.Proof.Moe.wordsOf (m (((0 : Dev nD) : Thread nD τ).loc main_arg0))) :=
  start_experts m 0

theorem counts_eq (m : (ℓ : Loc nD τ sig) → Buf (Elt F) ℓ) : counts m = countTable (Cert.Proof.Moe.wordsOf (m (((0 : Dev nD) : Thread nD τ).loc main_arg0))) :=
  start_counts m 0

/-- The tables are in range, whatever the counts. -/
theorem inRange (m : (ℓ : Loc nD τ sig) → Buf (Elt F) ℓ) : InRange m where
  expert t := by rw [experts_eq]; exact expertTable_lt _ t
  count t := by
    rw [counts_eq]
    have h := countTable_le (Cert.Proof.Moe.wordsOf (m (((0 : Dev nD) : Thread nD τ).loc main_arg0))) t
    rw [BitVec.toInt_eq_toNat_of_lt (by omega)]
    exact Int.natCast_nonneg _

/-! ## Where no expert has more rows than there are tokens -/

variable (x : IVec S64 32) (c : ℕ → ℕ) (hx : ∀ i : Fin 64, x (ix1 i) = BitVec.ofNat 32 (c i.val)) (hc : ∀ i, c i ≤ 18432)

include hx hc

theorem paddedOf_apply (i : Fin 64) : paddedOf x (ix1 i) = BitVec.ofNat 32 (pad (c i.val)) := by
  have h := hc i.val
  have h1 : subi (addi x (allExperts 512#32)) (allExperts 1#32) (ix1 i) = BitVec.ofNat 32 (c i.val + 511) := by
    rw [subi_ap, addi_ap, hx, show allExperts 512#32 (ix1 i) = BitVec.ofNat 32 512 from bc0 _ _ _,
      show allExperts 1#32 (ix1 i) = BitVec.ofNat 32 1 from bc0 _ _ _, BitVec.ofNat_add_ofNat, ofNat32_sub (by omega)]
    rfl
  unfold paddedOf
  rw [muli_ap, pyDiv_ap bcast_S_S64 _ (constantI S_ 32 512#32) (ix1 i) h1 rfl (by omega) (by norm_num) (by norm_num),
    show allExperts 512#32 (ix1 i) = BitVec.ofNat 32 512 from bc0 _ _ _]
  exact muli_ofNat _ _

theorem endsOf_apply (i : Fin 64) : endsOf x (ix1 i) = BitVec.ofNat 32 (before c (i.val + 1)) :=
  cumsum1 (N := 64) (Nm1 := 63) rfl (paddedOf x) (fun k => pad (c k)) (paddedOf_apply x c hx hc) _ (bc0 _ _ _) _ _ i

theorem startsOf_apply (i : Fin 64) : subi (endsOf x) (paddedOf x) (ix1 i) = BitVec.ofNat 32 (before c i.val) := by
  rw [subi_ap, endsOf_apply x c hx hc, paddedOf_apply x c hx hc, ofNat32_sub (by rw [before_succ]; omega), before_succ, Nat.add_sub_cancel]

omit hx hc in
theorem tile0_apply (t : Fin 351) : tile0 (ix1 t) = BitVec.ofNat 32 (512 * t.val) := by
  unfold tile0
  rw [muli_ap, show iotaInDim S351 32 0 (ix1 t) = BitVec.ofNat 32 t.val from rfl,
    show allTiles 512#32 (ix1 t) = BitVec.ofNat 32 512 from bc0 _ _ _, Nat.mul_comm]
  exact muli_ofNat _ _

omit hx hc in
theorem overExperts_apply (v : IVec S351 32) (t : Fin 351) (q : Fin 64) : overExperts v (ix2 t q) = v (ix1 t) := bcRows _ _ v t q

omit hx hc in
theorem overTiles_apply (v : IVec S64 32) (t : Fin 351) (q : Fin 64) : overTiles v (ix2 t q) = v (ix1 q) := bcCols _ _ v t q

omit hx in
theorem before_lt (k : ℕ) (hk : k ≤ 64) : before c k < 2 ^ 30 := by
  have := before_le c hc k
  have : k * 18432 ≤ 64 * 18432 := Nat.mul_le_mul_right _ hk
  norm_num
  omega

/-- A tile's expert: how many experts end at or before the tile, up to 63. -/
theorem expertTable_apply (t : Fin 351) : expertTable x (ix1 t) = BitVec.ofNat 32 (min 63 (Nat.count (Over c t.val) 64)) := by
  refine expertTable_eq x t (Over c t.val) fun q => ?_
  have h1 := before_lt c hc (q.val + 1) (by omega)
  rw [cmpi_at, overExperts_apply, overTiles_apply, tile0_apply, endsOf_apply x c hx hc,
    cmpi_sge_ofNat_eq_one_iff (w := 32) (by norm_num; omega) (by norm_num at h1 ⊢; omega)]
  rfl

theorem leftOf_apply (t : Fin 351) (q : Fin 64) : leftOf x (ix2 t q) = BitVec.ofNat 32 (left c t.val q.val) := by
  have h0 := before_lt c hc q.val (by omega)
  have h1 := before_lt c hc (q.val + 1) (by omega)
  have h2 := hc q.val
  have ht := t.isLt
  norm_num at h0 h1
  unfold leftOf left
  rw [select_at, andi_at, cmpi_at, cmpi_at, overExperts_apply, overTiles_apply, overTiles_apply, tile0_apply, endsOf_apply x c hx hc,
    startsOf_apply x c hx hc, cmpi_sge_ofNat (w := 32) (by norm_num; omega) (by norm_num; omega),
    cmpi_slt_ofNat (w := 32) (by norm_num; omega) (by norm_num; omega)]
  by_cases h : Owns c q.val t.val
  · rw [if_pos h, decide_eq_true h.1, decide_eq_true h.2]
    show IntOp.minsi (allPairs 512#32 (ix2 t q)) (IntOp.maxsi (allPairs 0#32 (ix2 t q))
      (overTiles x (ix2 t q) - (overExperts tile0 (ix2 t q) - overTiles (subi (endsOf x) (paddedOf x)) (ix2 t q)))) = _
    rw [overExperts_apply, overTiles_apply, overTiles_apply, tile0_apply, startsOf_apply x c hx hc, hx, ofNat32_sub h.1,
      show allPairs 512#32 (ix2 t q) = BitVec.ofNat 32 512 from bc0 _ _ _, show allPairs 0#32 (ix2 t q) = 0#32 from bc0 _ _ _]
    have hm : IntOp.maxsi 0#32 (BitVec.ofNat 32 (c q.val) - BitVec.ofNat 32 (512 * t.val - before c q.val))
        = BitVec.ofNat 32 (c q.val - (512 * t.val - before c q.val)) := by
      by_cases hle : 512 * t.val - before c q.val ≤ c q.val
      · rw [ofNat32_sub hle]
        exact maxsi_zero_left (by omega)
      · have e : BitVec.ofNat 32 (c q.val) - BitVec.ofNat 32 (512 * t.val - before c q.val)
            = -BitVec.ofNat 32 (512 * t.val - before c q.val - c q.val) := by
          rw [← ofNat32_sub (a := 512 * t.val - before c q.val) (b := c q.val) (by omega), BitVec.neg_sub, BitVec.sub_eq_add_neg, BitVec.add_comm]
        rw [e, PlanTiles.maxsi_zero_neg (by omega), Nat.sub_eq_zero_of_le (by omega)]
    rw [hm, PlanTiles.minsi_word (by norm_num) (by omega), Nat.min_comm]
  · rw [if_neg h]
    have hd : ¬ (decide (before c q.val ≤ 512 * t.val) = true ∧ decide (512 * t.val < before c (q.val + 1)) = true) := by
      rw [decide_eq_true_eq, decide_eq_true_eq]
      exact h
    revert hd
    generalize decide (before c q.val ≤ 512 * t.val) = a
    generalize decide (512 * t.val < before c (q.val + 1)) = b
    intro hd
    have hz : IntOp.andi (BitVec.ofBool a) (BitVec.ofBool b) = 0#1 := by
      cases a <;> cases b <;> first | rfl | exact absurd ⟨rfl, rfl⟩ hd
    rw [hz]
    exact (if_neg (by decide)).trans (bc0 _ _ _)

/-- A tile's count: the live rows of the tile. -/
theorem countTable_apply (t : Fin 351) : countTable x (ix1 t) = BitVec.ofNat 32 (live c t.val) := by
  apply BitVec.eq_of_toNat_eq
  have hle : ∀ q : Fin 64, (leftOf x (ix2 t q)).toNat = left c t.val q.val := fun q => by
    rw [leftOf_apply x c hx hc, BitVec.toNat_ofNat]
    refine Nat.mod_eq_of_lt (lt_of_le_of_lt (b := 512) ?_ (by norm_num))
    unfold left
    split <;> omega
  have e : (countTable x (ix1 t)).toNat = live c t.val := (countTable_toNat x t).trans (Finset.sum_congr rfl fun q _ => hle q)
  have hb := countTable_le x t
  rw [e, BitVec.toNat_ofNat, Nat.mod_eq_of_lt (by omega)]

end Cert.ExpertsIdeal.Moe

end
-- ==== Proof.ExpertsEnd.lean ====
/-
  The experts call's end, for any float values: its result, its arguments as they were, every counter zero.
-/
module

public import proofs.«01_k».proof.Proof.ExpertsRun
public import proofs.«01_k».proof.Proof.ExpertsCounts

@[expose] public section

set_option maxRecDepth 16384

noncomputable section

namespace Cert.ExpertsIdeal.Moe

open Idealize.ShloMosaic hiding ix1 ix2 ix3 ix4 eq_ix1 eq_ix2 eq_ix3 eq_ix4
open Idealize.ShloMosaic.TcCoe Idealize.ShloMosaic.ValueIdx Idealize.SL.Sem
open Cert.ExpertsIdeal.Gen

variable {F : FTy → Type} [FloatOps F]

/-- The arguments of a device at the end, those of `m`. -/
def Unchanged (m m' : (ℓ : Loc nD τ sig) → Buf (Elt F) ℓ) (c : Dev nD) : Prop :=
  m' ((c : Thread nD τ).loc main_arg0) = m ((c : Thread nD τ).loc main_arg0)
  ∧ m' ((c : Thread nD τ).loc main_arg1) = m ((c : Thread nD τ).loc main_arg1)
  ∧ m' ((c : Thread nD τ).loc main_arg2) = m ((c : Thread nD τ).loc main_arg2)
  ∧ m' ((c : Thread nD τ).loc main_arg3) = m ((c : Thread nD τ).loc main_arg3)

theorem run_end (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c : Thread nD τ).loc main_v46) = outArr m (inRange m) c ∧ Unchanged m r.2.mem c) ∧ r.2.sem = fun _ => 0) := by
  refine (θ_run defs _ _).mono (fun r h => ⟨fun c => ?_, h.2⟩) (run_main m (inRange m) ρ)
  have hc := h.1 c
  have arr := fun (w : Fin 4) (hw : ((cfgT m (ok_of_inRange m (inRange m))).win w).isOut = false) =>
    (hc.1 w).trans (((dats m (inRange m) 0 c).arrAt_in w hw _).trans (arrays_eq m (inRange m) c w))
  exact ⟨(hc.1 3).trans (arr_out m (inRange m) c),
    (hc.2 main_arg0 (by decide : main_arg0 ∈ Pipeline.restRefs sig spec0)).trans (start_arg0 m c),
    (arr 0 rfl).trans (start_arg1 m c), (arr 1 rfl).trans (start_arg2 m c), (arr 2 rfl).trans (start_arg3 m c)⟩

end Cert.ExpertsIdeal.Moe

end
-- ==== Proof.ExpertsMath.lean ====
/-
  One expert on one row, over the extended reals: the two halves of the row's words, the two products, and the gated
  value between them. The kernel's tile and the reference's batched products are both read as this.
-/
module

public import Idealize.ShloMosaic.Lib.Pointwise

@[expose] public section

noncomputable section

namespace Cert.Proof.Moe

open Idealize.ShloMosaic

/-- The number a half of a word spells: the high half for `h = 0`, the low half for `h = 1`. -/
def half (h : ℕ) (w : BitVec 32) : EReal := Ideal.ofBits .f32 (if h = 0 then w &&& 4294901760#32 else w <<< 16)

/-- Column `k` of an unpacked row: columns 0 to 511 are the high halves of the row's words, the others the low halves. -/
def column (x : Fin 2 → Fin 256 → BitVec 32) (k : Fin 1024) : EReal :=
  half (k.val / 512) (x ⟨k.val % 512 / 256, by omega⟩ ⟨k.val % 256, by omega⟩)

theorem column_eq (x : Fin 2 → Fin 256 → BitVec 32) (k : Fin 1024) (h : ℕ) (p : Fin 2) (j : Fin 256)
    (e : k.val = 512 * h + (256 * p.val + j.val)) : column x k = half h (x p j) := by
  unfold column
  have e1 : k.val / 512 = h := by omega
  have e2 : (⟨k.val % 512 / 256, by omega⟩ : Fin 2) = p := Fin.ext (by show k.val % 512 / 256 = p.val; omega)
  have e3 : (⟨k.val % 256, by omega⟩ : Fin 256) = j := Fin.ext (by show k.val % 256 = j.val; omega)
  rw [e1, e2, e3]

/-- The gated value of a gate and an up product. -/
def gated (a b : EReal) : EReal := a * Ideal.div 1 (1 + Ideal.exp (-a)) * b

/-- Column `n` of the expert with weights `G` (gate columns, then up columns) and `D` on the row `x`. -/
def expertAt (x : Fin 1024 → EReal) (G : Fin 1024 → Fin 512 → EReal) (D : Fin 256 → Fin 1024 → EReal) (n : Fin 1024) : EReal :=
  ∑ f : Fin 256, gated (∑ k, x k * G k ⟨f.val, by omega⟩) (∑ k, x k * G k ⟨256 + f.val, by omega⟩) * D f n

/-- A word of zeros spells zero, in either half. -/
theorem half_zero (h : ℕ) : half h 0#32 = 0 := by
  unfold half
  have e : (if h = 0 then 0#32 &&& 4294901760#32 else 0#32 <<< 16) = 0#32 := by split <;> rfl
  rw [e]
  exact Ideal.ofBits_zero_f32

theorem column_zero (k : Fin 1024) : column (fun _ _ => 0#32) k = 0 := half_zero _

/-- A row of zeros gives zeros, whatever the weights. -/
theorem expertAt_zero (x : Fin 1024 → EReal) (hx : ∀ k, x k = 0) (G : Fin 1024 → Fin 512 → EReal) (D : Fin 256 → Fin 1024 → EReal)
    (n : Fin 1024) : expertAt x G D n = 0 := by
  have hs : ∀ j : Fin 512, (∑ k, x k * G k j) = 0 := fun j => Finset.sum_eq_zero fun k _ => by rw [hx, zero_mul]
  refine Finset.sum_eq_zero fun f _ => ?_
  rw [hs, hs]
  unfold gated
  rw [mul_zero, zero_mul]

/-- A shift by 16 of a 32-bit word is in range on every unit. -/
theorem shli_sixteen (u : ArithUnit) (w : BitVec 32) : IntOp.shli u w 16#32 = w <<< 16 := rfl

theorem half_high (w : BitVec 32) : Ideal.ofBits .f32 (IntOp.andi w 4294901760#32) = half 0 w := rfl

theorem half_low (u : ArithUnit) (w : BitVec 32) : Ideal.ofBits .f32 (IntOp.shli u w 16#32) = half 1 w := rfl

end Cert.Proof.Moe

end
-- ==== Proof.ExpertsValue.lean ====
/-
  The experts kernel's value over the extended reals: an entry of a live row is the row's expert at it, an entry of any
  other row is zero.
-/
module

public import proofs.«01_k».proof.Proof.ExpertsRun
public import proofs.«01_k».proof.Proof.ExpertsMath
public import Idealize.ShloMosaic.Lib.StableHlo.Predicate

@[expose] public section

set_option maxRecDepth 16384

noncomputable section

namespace Cert.ExpertsIdeal.Moe

open Idealize.ShloMosaic
open Cert.ExpertsIdeal.Gen Cert.Proof.Moe

/-- A row of a tile's words as the tile unpacks it: zeros from the tile's count on. -/
def liveRow (v : BitVec 32) (x : Vec Ideal S2x512x256 .i32) (r : Fin 512) (p : Fin 2) (j : Fin 256) : BitVec 32 :=
  if (BitVec.ofNat 32 r.val).slt v then x (ix3 p r j) else 0#32

theorem wordsPart_apply (p : Fin 2) (x : Vec Ideal S2x512x256 .i32) (u : Fin 1) (r : Fin 512) (j : Fin 256) :
    wordsPart p x (ix3 u r j) = x (ix3 p r j) := by
  unfold wordsPart
  rw [ix3_eq_valueIdx p r j]
  rfl

theorem select_live (v : BitVec 32) (x : Vec Ideal S2x512x256 .i32) (p : Fin 2) (u : Fin 1) (r : Fin 512) (j : Fin 256) :
    Scalar.select (IntOp.cmpi .slt (BitVec.ofNat 32 r.val) v) (wordsPart p x (ix3 u r j)) 0#32 = liveRow v x r p j := by
  rw [wordsPart_apply]
  unfold liveRow Scalar.select IntOp.cmpi
  by_cases h : (BitVec.ofNat 32 r.val).slt v
  · simp [h]
  · simp [h]

/-- The hidden value of row `r` at `f`. -/
theorem hidden_apply (v : BitVec 32) (x : Vec Ideal S2x512x256 .i32) (g : Vec Ideal S1024x512 .bf16) (r : Fin 512) (f : Fin 256) :
    hidden v x g (ix2 r f)
      = gated (∑ k : Fin 1024, column (liveRow v x r) k * g (ix2 k ⟨f.val, by omega⟩))
          (∑ k : Fin 1024, column (liveRow v x r) k * g (ix2 k ⟨256 + f.val, by omega⟩)) := by
  unfold hidden k0_pay9
  simp only []
  generalize hX : concatenate S512x1024 1 _ _ = X
  have hcol : ∀ k : Fin 1024, X (ix2 r k) = column (liveRow v x r) k := by
    intro k
    have h := congrFun hX (ix2 r k)
    pointwise at h
    rw [← h]
    have hk : k.val < 1024 := k.isLt
    have step : ∀ (h : ℕ) (p : Fin 2) (j : Fin 256), k.val = 512 * h + (256 * p.val + j.val) →
        half h (Scalar.select (IntOp.cmpi .slt (BitVec.ofNat 32 r.val) v) (wordsPart p x (ix3 (0 : Fin 1) r j)) 0#32)
          = column (liveRow v x r) k := fun h p j e =>
      (congrArg (half h) (select_live v x p 0 r j)).trans (column_eq (liveRow v x r) k h p j e).symm
    split
    · exact step 0 0 ⟨k.val, by omega⟩ (by simp)
    split
    · exact step 0 1 ⟨k.val - 256, by omega⟩ (by simp; omega)
    split
    · exact step 1 0 ⟨k.val - 256 - 256, by omega⟩ (by simp; omega)
    · exact step 1 1 ⟨k.val - 256 - 256 - 256, by omega⟩ (by simp; omega)
  pointwise
  simp only [hcol]
  unfold gated
  rw [zero_sub]

/-- A row from the tile's count on unpacks to zeros. -/
theorem column_dead (v : BitVec 32) (x : Vec Ideal S2x512x256 .i32) (r : Fin 512) (h : ¬ (BitVec.ofNat 32 r.val).slt v) (k : Fin 1024) :
    column (liveRow v x r) k = 0 := by
  have e : liveRow v x r = fun _ _ => 0#32 := funext fun p => funext fun j => if_neg h
  rw [e]
  exact column_zero k

/-- The tile's output block, read at part `p`, row `r`, column `j`. -/
theorem outTile_apply (v : BitVec 32) (x : Vec Ideal S2x512x256 .i32) (g : Vec Ideal S1024x512 .bf16) (d : Vec Ideal S256x1024 .bf16)
    (p : Fin 4) (r : Fin 512) (j : Fin 256) :
    outTile v x g d (ix3 p r j)
      = expertAt (column (liveRow v x r)) (fun k f => g (ix2 k f)) (fun f n => d (ix2 f n)) ⟨256 * p.val + j.val, by omega⟩ := by
  unfold outTile
  split
  · show k0_pay3 (hidden v x g) d (ix2 r ⟨256 * p.val + j.val, _⟩) = _
    unfold k0_pay3
    generalize hh : hidden v x g = h
    pointwise
    subst hh
    simp only [hidden_apply]
    rfl
  · rename_i hc
    show k0_pay8 _ = _
    rw [expertAt_zero]
    · unfold k0_pay8
      pointwise
    · refine column_dead v x r fun hr => hc ((cond2_iff v).mpr ?_)
      have h0 : (0 : ℤ) ≤ (BitVec.ofNat 32 r.val).toInt := by
        rw [StableHlo.Predicate.toInt_ofNat_small _ (by omega)]
        omega
      have h1 := of_decide_eq_true hr
      omega

/-- The same with the operands' entries named: the live row's expert on it, -/
theorem outTile_live (v : BitVec 32) (x : Vec Ideal S2x512x256 .i32) (g : Vec Ideal S1024x512 .bf16) (d : Vec Ideal S256x1024 .bf16)
    (p : Fin 4) (r : Fin 512) (j : Fin 256) (hl : (BitVec.ofNat 32 r.val).slt v) (X : Fin 2 → Fin 256 → BitVec 32)
    (hx : ∀ h q, x (ix3 h r q) = X h q) (G : Fin 1024 → Fin 512 → EReal) (hg : ∀ k f, g (ix2 k f) = G k f)
    (D : Fin 256 → Fin 1024 → EReal) (hd : ∀ f n, d (ix2 f n) = D f n) :
    outTile v x g d (ix3 p r j) = expertAt (column X) G D ⟨256 * p.val + j.val, by omega⟩ := by
  have eX : liveRow v x r = X := funext fun h => funext fun q => (if_pos hl).trans (hx h q)
  have eG : (fun k f => g (ix2 k f)) = G := funext fun k => funext fun f => hg k f
  have eD : (fun f n => d (ix2 f n)) = D := funext fun f => funext fun n => hd f n
  rw [outTile_apply, eX, eG, eD]

/-- and zero on any other row. -/
theorem outTile_dead (v : BitVec 32) (x : Vec Ideal S2x512x256 .i32) (g : Vec Ideal S1024x512 .bf16) (d : Vec Ideal S256x1024 .bf16)
    (p : Fin 4) (r : Fin 512) (j : Fin 256) (hl : ¬ (BitVec.ofNat 32 r.val).slt v) : outTile v x g d (ix3 p r j) = 0 :=
  (outTile_apply v x g d p r j).trans (expertAt_zero _ (column_dead v x r hl) _ _ _)

theorem k0_pay1_apply (g : Vec Ideal S1x1x1024x512 .f32) (k : Fin 1024) (f : Fin 512) : k0_pay1 g (ix2 k f) = g (ix4 0 0 k f) := by
  unfold k0_pay1
  pointwise

theorem k0_pay2_apply (g : Vec Ideal S1x1x256x1024 .f32) (f : Fin 256) (n : Fin 1024) : k0_pay2 g (ix2 f n) = g (ix4 0 0 f n) := by
  unfold k0_pay2
  pointwise

variable (m : (ℓ : Loc nD τ sig) → Buf (Elt Ideal) ℓ) (hR : InRange m)

/-- The tile of a row of the result, and the row's place in it. -/
def tileNo (R : Fin 179712) : Fin 351 := ⟨R.val / 512, by omega⟩

/-- The call's result at part `p`, row `R`, column `j`: the row's expert on the row where it is live, zero elsewhere. -/
theorem outArr_apply (c : Dev nD) (p : Fin 4) (R : Fin 179712) (j : Fin 256) :
    outArr m hR c (ix3 p R j)
      = if (BitVec.ofNat 32 (R.val % 512)).slt (counts m (ix1 (tileNo R))) then
          expertAt (column fun h q => start m c main_arg1 (ix3 h R q))
            (fun k f => start m c main_arg2 (ix4 0 (expertOf m hR (tileNo R)) k f))
            (fun f n => start m c main_arg3 (ix4 0 (expertOf m hR (tileNo R)) f n)) ⟨256 * p.val + j.val, by omega⟩
        else 0 := by
  have hrow : rowOf (tileNo R) (rowInTile R) = R := Fin.ext (by show 512 * (R.val / 512) + R.val % 512 = R.val; omega)
  have ht : tileOf (tileOfRow R) = tileNo R := rfl
  have hx : ∀ (h : Fin 2) (q : Fin 256), blockAt m (ok_of_inRange m hR) c 0 (tileOfRow R) (ix3 h (rowInTile R) q)
      = start m c main_arg1 (ix3 h R q) := fun h q => by
    refine (rows_apply m hR c (tileOfRow R) (ix3 h (rowInTile R) q)).trans ?_
    show start m c main_arg1 (ValueIdx.ix3 h (rowOf (tileNo R) (rowInTile R)) q) = _
    rw [hrow, ix3_eq_valueIdx]
  have hg : ∀ (k : Fin 1024) (f : Fin 512), ownGateUp m hR c (tileOfRow R) (ix2 k f)
      = start m c main_arg2 (ix4 0 (expertOf m hR (tileNo R)) k f) := fun k f => by
    refine (k0_pay1_apply _ k f).trans ((gateUp_apply m hR c (tileOfRow R) (ix4 0 0 k f)).trans ?_)
    rw [ix4_eq_valueIdx]
    rfl
  have hd : ∀ (f : Fin 256) (n : Fin 1024), ownDown m hR c (tileOfRow R) (ix2 f n)
      = start m c main_arg3 (ix4 0 (expertOf m hR (tileNo R)) f n) := fun f n => by
    refine (k0_pay2_apply _ f n).trans ((down_apply m hR c (tileOfRow R) (ix4 0 0 f n)).trans ?_)
    rw [ix4_eq_valueIdx]
    rfl
  have e : outArr m hR c (ix3 p R j) = outAt m hR c (tileOfRow R) (ix3 p (rowInTile R) j) := by
    rw [ix3_eq_valueIdx p (rowInTile R) j]
    rfl
  rw [e, ix1_eq_valueIdx, ← ht]
  split
  · rename_i hl
    exact outTile_live _ _ _ _ p (rowInTile R) j hl _ hx _ hg _ hd
  · rename_i hl
    exact outTile_dead _ _ _ _ p (rowInTile R) j hl

end Cert.ExpertsIdeal.Moe

end
-- ==== Proof.ExpertsReference.lean ====
/-
  The reference's experts over the extended reals, read at an entry: the sum over the experts of what each gives the row
  where the row is its own.
-/
module

public import proofs.«01_k».proof.Proof.Gen.ExpertsReferenceIdeal.Run
public import proofs.«01_k».proof.Proof.ExpertsMath
public import proofs.«01_k».proof.Proof.ExpertsLayout
public import proofs.«01_k».proof.Proof.ExpertsPre
public import Idealize.ShloMosaic.Lib.Pointwise
public import Idealize.ShloMosaic.Lib.PlanTiles.Words

@[expose] public section

set_option maxRecDepth 16384

noncomputable section

namespace Cert.Proof.Moe

open Idealize.ShloMosaic
open Cert.ExpertsReferenceIdeal Cert.ExpertsReferenceIdeal.Gen Cert.ExpertsReferenceIdeal.Value

/-! ## Whose a row is -/

/-- The scalar 512 at every expert; each expert's rows rounded up to whole tiles; where they start. -/
def roomOf (x : IVec S64 32) : IVec S64 32 :=
  muli (negi (Routing.pyDiv bcast_S_S64 x (id (constantI S_ 32 4294966784#32)))) (broadcastInDim S64 ![] bcast_S_S64 (constantI S_ 32 512#32))

def firstOf (x : IVec S64 32) : IVec S64 32 :=
  subi (Host.reduceWindow IntOp.addi ![64] ![1] ![63] ![0] (roomOf x) (broadcastInDim S_ ![] bcast_S_S_ (constantI S_ 32 0#32))
    reduceWindows_S64_S64_w64s1p63_0 h_S_) (roomOf x)

/-- A vector over the rows, and one over the experts, at every expert and row. -/
abbrev overRows (v : IVec S64 32) : IVec S64x179712 32 :=
  broadcastInDim S64x179712 ![0, 1] bcast_S64x1_S64x179712_0_1 (broadcastInDim S64x1 ![0] bcast_S64_S64x1_0 v)
abbrev overAll (v : IVec S179712 32) : IVec S64x179712 32 :=
  broadcastInDim S64x179712 ![0, 1] bcast_S1x179712_S64x179712_0_1 (broadcastInDim S1x179712 ![1] bcast_S179712_S1x179712_1 v)

/-- The rows of each expert. -/
def mineOf (x : IVec S64 32) : IVec S64x179712 1 :=
  andi (cmpi .sge (overAll (iotaInDim S179712 32 0)) (overRows (firstOf x)))
    (cmpi .slt (overAll (iotaInDim S179712 32 0)) (overRows (addi (firstOf x) x)))

section Mine

variable (x : IVec S64 32) (c : ℕ → ℕ) (hx : ∀ i : Fin 64, x (ValueIdx.ix1 i) = BitVec.ofNat 32 (c i.val)) (hc : ∀ i, c i ≤ 18432)

include hx hc

theorem roomOf_apply (i : Fin 64) : roomOf x (ValueIdx.ix1 i) = BitVec.ofNat 32 (pad (c i.val)) := by
  have h := hc i.val
  unfold roomOf
  rw [Routing.muli_ap, PlanTiles.cdivFast_ap (m := 512) bcast_S_S64 x (id (constantI S_ 32 4294966784#32)) (ValueIdx.ix1 i) (hx i)
    (by decide) (by omega) (by norm_num) (by norm_num), Routing.bc0, WordCmp.constantI_at]
  refine (WordCmp.muli_ofNat _ _).trans (congrArg (BitVec.ofNat 32) ?_)
  rw [Idealize.Numerics.Plan.Chunks.cdiv_eq (by norm_num)]
  unfold pad
  split <;> omega

theorem firstOf_apply (i : Fin 64) : firstOf x (ValueIdx.ix1 i) = BitVec.ofNat 32 (before c i.val) := by
  unfold firstOf
  rw [Routing.subi_ap, Routing.cumsum1 (N := 64) (Nm1 := 63) rfl (roomOf x) (fun k => pad (c k)) (roomOf_apply x c hx hc) _ (Routing.bc0 _ _ _),
    roomOf_apply x c hx hc]
  show BitVec.ofNat 32 (before c (i.val + 1)) - _ = _
  rw [Routing.ofNat32_sub (by rw [before_succ]; omega), before_succ, Nat.add_sub_cancel]

/-- The reference's mask, where no expert has more rows than there are tokens. -/
theorem mineOf_apply (q : Fin 64) (R : Fin 179712) : mineOf x (ValueIdx.ix2 q R) = 1#1 ↔ IsOf c q.val R.val := by
  have h0 := before_le c hc q.val
  have h1 : q.val * 18432 ≤ 64 * 18432 := Nat.mul_le_mul_right _ (by omega)
  have h2 := hc q.val
  have hR := R.isLt
  have e1 : ∀ v : IVec S64 32, overRows v (ValueIdx.ix2 q R) = v (ValueIdx.ix1 q) := fun v => Routing.bcRows _ _ v q R
  have e2 : ∀ v : IVec S179712 32, overAll v (ValueIdx.ix2 q R) = v (ValueIdx.ix1 R) := fun v => Routing.bcCols _ _ v q R
  have e3 : iotaInDim S179712 32 0 (ValueIdx.ix1 R) = BitVec.ofNat 32 R.val := rfl
  unfold mineOf
  rw [WordCmp.andi_at, WordCmp.cmpi_at, WordCmp.cmpi_at, e1, e1, e2, e3, Routing.addi_ap, firstOf_apply x c hx hc, hx,
    BitVec.ofNat_add_ofNat]
  have both : ∀ a b : BitVec 1, IntOp.andi a b = 1#1 ↔ a = 1#1 ∧ b = 1#1 := by decide
  rw [both, WordCmp.cmpi_sge_ofNat_eq_one_iff (w := 32) (by norm_num; omega) (by norm_num; omega),
    WordCmp.cmpi_slt_ofNat_eq_one_iff (w := 32) (by norm_num; omega) (by norm_num; omega)]
  rfl

end Mine

/-! ## What an expert gives a row -/

/-- The rows, unpacked: the words' high halves, then their low halves, each as a float. -/
def unpacked (x : Vec Ideal S2x179712x256 .i32) : FVec Ideal S179712x1024 .f32 :=
  shapeCast S179712x1024 (transpose S179712x2x2x256 [2, 0, 1, 3] (bitcastToFloat .f32
    (concatenate S2x2x179712x256 0
      [⟨S1x2x179712x256, broadcastInDim S1x2x179712x256 ![1, 2, 3] bcast_S2x179712x256_S1x2x179712x256_1_2_3
          (andi (id x) (broadcastInDim S2x179712x256 ![] bcast_S_S2x179712x256 (constantI S_ 32 4294901760#32)))⟩,
        ⟨S1x2x179712x256, broadcastInDim S1x2x179712x256 ![1, 2, 3] bcast_S2x179712x256_S1x2x179712x256_1_2_3
          (Host.shli (id x) (broadcastInDim S2x179712x256 ![] bcast_S_S2x179712x256 (constantI S_ 32 16#32)))⟩]
      concatenates_S1x2x179712x256_S1x2x179712x256_S2x2x179712x256_d0))
    transposes_S2x2x179712x256_S179712x2x2x256_2_0_1_3) shapeCasts_S179712x2x2x256_S179712x1024

/-- The layer's gate and up weights, and its down weights. -/
def gateUpOf (w : Vec Ideal S4x64x1024x512 .f32) : FVec Ideal S64x1024x512 .f32 :=
  shapeCast S64x1024x512 (extractStridedSlice S1x64x1024x512 ![0, 0, 0, 0] w slices_S4x64x1024x512_S1x64x1024x512_0_0_0_0)
    shapeCasts_S1x64x1024x512_S64x1024x512

def downOf (w : Vec Ideal S4x64x256x1024 .f32) : FVec Ideal S64x256x1024 .f32 :=
  shapeCast S64x256x1024 (extractStridedSlice S1x64x256x1024 ![0, 0, 0, 0] w slices_S4x64x256x1024_S1x64x256x1024_0_0_0_0)
    shapeCasts_S1x64x256x1024_S64x256x1024

/-- The hidden values from the gate and up products. -/
def hiddenOf (z : FVec Ideal S64x179712x512 .f32) : FVec Ideal S64x179712x256 .f32 :=
  mulf (mulf (extractStridedSlice S64x179712x256 ![0, 0, 0] z slices_S64x179712x512_S64x179712x256_0_0_0)
      (Host.divf (broadcastInDim S64x179712x256 ![] bcast_S_S64x179712x256 (constant S_ .f32 0x3F800000#32))
        (addf (broadcastInDim S64x179712x256 ![] bcast_S_S64x179712x256 (constant S_ .f32 0x3F800000#32))
          (Host.exp (Host.negf (extractStridedSlice S64x179712x256 ![0, 0, 0] z slices_S64x179712x512_S64x179712x256_0_0_0))))))
    (extractStridedSlice S64x179712x256 ![0, 0, 256] z slices_S64x179712x512_S64x179712x256_0_0_256)

/-- Every expert on every row. -/
def expertsOf (X : FVec Ideal S179712x1024 .f32) (G : FVec Ideal S64x1024x512 .f32) (D : FVec Ideal S64x256x1024 .f32) :
    FVec Ideal S64x179712x1024 .f32 :=
  Host.dotGeneral dot_S64x179712x256_S64x256x1024_S64x179712x1024_2_1_1_2_0_0 none
    (hiddenOf (Host.dotGeneral dot_S64x179712x1024_S64x1024x512_S64x179712x512_2_1_1_2_0_0 none
      (broadcastInDim S64x179712x1024 ![1, 2] bcast_S179712x1024_S64x179712x1024_1_2 X) G)) D

/-- The result from the rows' owners and what every expert gives every row. -/
def resultOf (k : IVec S64x179712 1) (Y : FVec Ideal S64x179712x1024 .f32) : FVec Ideal S4x179712x256 .bf16 :=
  transpose S4x179712x256 [1, 0, 2] (shapeCast S179712x4x256 (truncf .bf16
    (Host.reduceAdd
      (select (broadcastInDim S64x179712x1024 ![0, 1, 2] bcast_S64x179712x1_S64x179712x1024_0_1_2
          (broadcastInDim S64x179712x1 ![0, 1] bcast_S64x179712_S64x179712x1_0_1 k)) Y
        (broadcastInDim S64x179712x1024 ![] bcast_S_S64x179712x1024 (id (constant S_ .f32 0x00000000#32))))
      (constant S_ .f32 0x00000000#32) reducesTo_S64x179712x1024_S179712x1024_d0 h_S_) bitsLt_bf16_f32)
    shapeCasts_S179712x1024_S179712x4x256) transposes_S179712x4x256_S4x179712x256_1_0_2

theorem res_eq (m : (ℓ : Loc nD τ sig) → Buf (Elt Ideal) ℓ) (c : Dev nD) :
    res_main_v49 m c = resultOf (mineOf (wordsOf (F := Ideal) (m ((c.tc : Thread nD τ).loc main_arg0))))
      (expertsOf (unpacked (m ((c.tc : Thread nD τ).loc main_arg1))) (gateUpOf (m ((c.tc : Thread nD τ).loc main_arg2)))
        (downOf (m ((c.tc : Thread nD τ).loc main_arg3)))) := by
  unfold res_main_v49
  rfl

theorem select_one (a : BitVec 1) (x y : EReal) : Scalar.select a x y = if a = 1#1 then x else y := rfl

theorem expertsOf_apply (X : FVec Ideal S179712x1024 .f32) (G : FVec Ideal S64x1024x512 .f32) (D : FVec Ideal S64x256x1024 .f32)
    (q : Fin 64) (R : Fin 179712) (n : Fin 1024) :
    expertsOf X G D (ix3 q R n) = expertAt (fun k => X (ix2 R k)) (fun k f => G (ix3 q k f)) (fun f n => D (ix3 q f n)) n := by
  unfold expertsOf hiddenOf
  pointwise
  unfold expertAt gated
  rfl

theorem resultOf_apply (k : IVec S64x179712 1) (Y : FVec Ideal S64x179712x1024 .f32) (p : Fin 4) (R : Fin 179712) (j : Fin 256) :
    resultOf k Y (ix3 p R j) = ∑ q : Fin 64, if k (ix2 q R) = 1#1 then Y (ix3 q R ⟨256 * p.val + j.val, by omega⟩) else 0 := by
  have hn : (⟨p.val * 256 + j.val, by omega⟩ : Fin 1024) = ⟨256 * p.val + j.val, by omega⟩ := Fin.ext (by show p.val * 256 + j.val = 256 * p.val + j.val; omega)
  unfold resultOf
  pointwise
  simp only [hn, select_one, Ideal.ofBits_zero_f32, zero_add]
  exact Finset.sum_congr rfl fun q _ => if_congr Iff.rfl rfl Ideal.ofBits_zero_f32

theorem unpacked_apply (x : Vec Ideal S2x179712x256 .i32) (R : Fin 179712) (k : Fin 1024) :
    unpacked x (ix2 R k) = column (fun h q => x (ix3 h R q)) k := by
  unfold unpacked
  generalize hS : concatenate S2x2x179712x256 0 _ _ = S
  have high : ∀ (p : Fin 2) (R : Fin 179712) (q : Fin 256), Ideal.ofBits .f32 (S (ix4 0 p R q)) = half 0 (x (ix3 p R q)) := fun p R q => by
    have h := congrFun hS (ix4 0 p R q)
    pointwise at h
    rw [← h]
    exact half_high _
  have low : ∀ (p : Fin 2) (R : Fin 179712) (q : Fin 256), Ideal.ofBits .f32 (S (ix4 1 p R q)) = half 1 (x (ix3 p R q)) := fun p R q => by
    have h := congrFun hS (ix4 1 p R q)
    pointwise at h
    rw [← h]
    exact half_low _ _
  clear hS
  pointwise
  have hk : k.val < 1024 := k.isLt
  by_cases h0 : k.val < 512
  · have e0 : (⟨k.val / 512, by omega⟩ : Fin 2) = 0 := Fin.ext (by show k.val / 512 = 0; omega)
    rw [e0, high, column_eq _ k 0 ⟨k.val / 256 % 2, by omega⟩ ⟨k.val % 256, by omega⟩]
    show k.val = 512 * 0 + (256 * (k.val / 256 % 2) + k.val % 256)
    omega
  · have e1 : (⟨k.val / 512, by omega⟩ : Fin 2) = 1 := Fin.ext (by show k.val / 512 = 1; omega)
    rw [e1, low, column_eq _ k 1 ⟨k.val / 256 % 2, by omega⟩ ⟨k.val % 256, by omega⟩]
    show k.val = 512 * 1 + (256 * (k.val / 256 % 2) + k.val % 256)
    omega

theorem gateUpOf_apply (w : Vec Ideal S4x64x1024x512 .f32) (b : Fin 64) (k : Fin 1024) (f : Fin 512) :
    gateUpOf w (ix3 b k f) = w (ix4 0 b k f) := by
  unfold gateUpOf
  pointwise

theorem downOf_apply (w : Vec Ideal S4x64x256x1024 .f32) (b : Fin 64) (f : Fin 256) (n : Fin 1024) :
    downOf w (ix3 b f n) = w (ix4 0 b f n) := by
  unfold downOf
  pointwise

/-- The reference's result at part `p`, row `R`, column `j`, where the counts are `n`, none above 18432. -/
theorem res_apply (m : (ℓ : Loc nD τ sig) → Buf (Elt Ideal) ℓ) (c : Dev nD) (p : Fin 4) (R : Fin 179712) (j : Fin 256) (n : ℕ → ℕ)
    (hx : ∀ i : Fin 64, wordsOf (F := Ideal) (m ((c.tc : Thread nD τ).loc main_arg0)) (ValueIdx.ix1 i) = BitVec.ofNat 32 (n i.val)) (hn : ∀ i, n i ≤ 18432) :
    res_main_v49 m c (ix3 p R j)
      = ∑ q : Fin 64, if IsOf n q.val R.val then
          expertAt (column fun h q => m ((c.tc : Thread nD τ).loc main_arg1) (ix3 h R q))
            (fun k f => m ((c.tc : Thread nD τ).loc main_arg2) (ix4 0 q k f))
            (fun f n => m ((c.tc : Thread nD τ).loc main_arg3) (ix4 0 q f n)) ⟨256 * p.val + j.val, by omega⟩
        else 0 := by
  rw [res_eq]
  refine (resultOf_apply _ _ p R j).trans (Finset.sum_congr rfl fun q _ => ?_)
  refine if_congr ?_ ?_ rfl
  · rw [ix2_eq_valueIdx]
    exact mineOf_apply _ n hx hn q R
  · rw [expertsOf_apply]
    simp only [unpacked_apply, gateUpOf_apply, downOf_apply]

end Cert.Proof.Moe

end
-- ==== Proof.ExpertsClaims.lean ====
/-
  The claims of the experts call: the frames of the two programs and of the reference, and that the results agree.
-/
module

public import proofs.«01_k».proof.Defs
public import proofs.«01_k».proof.Proof.ExpertsPre
public import proofs.«01_k».proof.Proof.ExpertsSame
public import proofs.«01_k».proof.Proof.ExpertsEnd
public import proofs.«01_k».proof.Proof.ExpertsValue
public import proofs.«01_k».proof.Proof.ExpertsReference

@[expose] public section

set_option maxRecDepth 16384

noncomputable section

namespace Cert.Proof.Moe

open Idealize.ShloMosaic Idealize.SL.Sem
open Cert.ExpertsIdeal.Moe (inRange run_end outArr outArr_apply expertOf start_arg1 start_arg2 start_arg3 experts_eq counts_eq
  expertTable_apply countTable_apply countTable_le)

/-- The kernel's program at the ideal instance leaves its arguments and every counter as they were, whatever the counts. -/
theorem frame_expertsIdeal : Cert.quiescent_ExpertsIdeal := fun m ρ _ =>
  (θ_run Cert.ExpertsIdeal.defs _ _).mono (fun _ h => ⟨fun c => (h.1 c).2, h.2⟩) (run_end (F := Ideal) m ρ)

theorem frame_expertsIdeal_fit : Cert.quiescent_ExpertsIdeal_pre_counts_fit := fun m ρ _ => frame_expertsIdeal m ρ trivial

/-- And so does the original program: it is the same one, at bits. -/
theorem frame_experts : Cert.quiescent_Experts := fun m ρ _ => by
  rw [defs_eq, main_eq]
  exact (θ_run Cert.ExpertsIdeal.defs _ _).mono (fun _ h => ⟨fun c => (h.1 c).2, h.2⟩) (run_end (F := Bits) m ρ)

/-- The reference leaves its arguments as they were; it has no counter. -/
theorem frame_expertsReference : Cert.quiescent_ExpertsReferenceIdeal := fun m ρ _ =>
  (θ_run Cert.ExpertsReferenceIdeal.defs _ _).mono
    (fun r h => ⟨fun c => (h c).2, sem_eq_zero_of_no_sems (by decide) r.2⟩) (Cert.ExpertsReferenceIdeal.Value.run (F := Ideal) m ρ)

theorem frame_expertsReference_fit : Cert.quiescent_ExpertsReferenceIdeal_pre_counts_fit := fun m ρ _ => frame_expertsReference m ρ trivial

/-- A place in a tile is below a small count as words when it is as numbers. -/
theorem slt_count (a b : ℕ) (ha : a < 512) (hb : b ≤ 32768) : (BitVec.ofNat 32 a).slt (BitVec.ofNat 32 b) = true ↔ a < b := by
  rw [Routing.slt_ofNat32 (by omega) (by omega), decide_eq_true_eq]

/-- From the same arguments, with no count above 18432, the reference's result is the kernel's. -/
theorem values_eq (m : (ℓ : Loc Cert.ExpertsIdeal.nD Cert.ExpertsIdeal.τ Cert.ExpertsIdeal.sig) → Buf (Elt Ideal) ℓ)
    (m' : (ℓ : Loc Cert.ExpertsReferenceIdeal.nD Cert.ExpertsReferenceIdeal.τ Cert.ExpertsReferenceIdeal.sig) → Buf (Elt Ideal) ℓ)
    (n : ℕ → ℕ) (hn : ∀ i, n i ≤ 18432) (c : Dev Cert.ExpertsIdeal.nD)
    (hx : ∀ i : Fin 64, wordsOf (F := Ideal) (m ((c.tc : Thread Cert.ExpertsIdeal.nD Cert.ExpertsIdeal.τ).loc Cert.ExpertsIdeal.main_arg0)) (ValueIdx.ix1 i)
      = BitVec.ofNat 32 (n i.val))
    (h0 : m' ((c.tc : Thread Cert.ExpertsReferenceIdeal.nD Cert.ExpertsReferenceIdeal.τ).loc Cert.ExpertsReferenceIdeal.main_arg0)
      = m ((c.tc : Thread Cert.ExpertsIdeal.nD Cert.ExpertsIdeal.τ).loc Cert.ExpertsIdeal.main_arg0))
    (h1 : m' ((c.tc : Thread Cert.ExpertsReferenceIdeal.nD Cert.ExpertsReferenceIdeal.τ).loc Cert.ExpertsReferenceIdeal.main_arg1)
      = m ((c.tc : Thread Cert.ExpertsIdeal.nD Cert.ExpertsIdeal.τ).loc Cert.ExpertsIdeal.main_arg1))
    (h2 : m' ((c.tc : Thread Cert.ExpertsReferenceIdeal.nD Cert.ExpertsReferenceIdeal.τ).loc Cert.ExpertsReferenceIdeal.main_arg2)
      = m ((c.tc : Thread Cert.ExpertsIdeal.nD Cert.ExpertsIdeal.τ).loc Cert.ExpertsIdeal.main_arg2))
    (h3 : m' ((c.tc : Thread Cert.ExpertsReferenceIdeal.nD Cert.ExpertsReferenceIdeal.τ).loc Cert.ExpertsReferenceIdeal.main_arg3)
      = m ((c.tc : Thread Cert.ExpertsIdeal.nD Cert.ExpertsIdeal.τ).loc Cert.ExpertsIdeal.main_arg3)) :
    Cert.ExpertsReferenceIdeal.Value.res_main_v49 m' c = outArr m (inRange m) c := by
  obtain rfl : c = 0 := Subsingleton.elim _ _
  funext (y : Cert.ExpertsIdeal.S4x179712x256.Idx)
  obtain ⟨p, R, j, rfl⟩ : ∃ (p : Fin 4) (R : Fin 179712) (j : Fin 256), y = ix3 p R j := ⟨y 0, y 1, y 2, eq_ix3 y⟩
  have he := expertTable_apply _ n hx hn (Cert.ExpertsIdeal.Moe.tileNo R)
  have hc := countTable_apply _ n hx hn (Cert.ExpertsIdeal.Moe.tileNo R)
  have hle := countTable_le (wordsOf (F := Ideal) (m (((0 : Dev Cert.ExpertsIdeal.nD).tc : Thread Cert.ExpertsIdeal.nD Cert.ExpertsIdeal.τ).loc
    Cert.ExpertsIdeal.main_arg0))) (Cert.ExpertsIdeal.Moe.tileNo R)
  have hlive : live n (R.val / 512) ≤ 32768 := by
    refine (Finset.sum_le_card_nsmul _ _ 512 fun q _ => ?_).trans (by rw [Finset.card_univ, Fintype.card_fin]; norm_num)
    unfold left
    split <;> omega
  have hexp : (expertOf m (inRange m) (Cert.ExpertsIdeal.Moe.tileNo R)).val = min 63 (Nat.count (Over n (R.val / 512)) 64) := by
    show (Cert.ExpertsIdeal.Moe.experts m _).toNat = _
    rw [experts_eq]
    refine (congrArg BitVec.toNat he).trans ?_
    rw [BitVec.toNat_ofNat, Nat.mod_eq_of_lt (by omega)]
    rfl
  refine (res_apply m' 0 p R j n (fun i => (congrFun (congrArg (wordsOf (F := Ideal)) h0) _).trans (hx i)) hn).trans ?_
  refine (sum_isOf (M := EReal) n _ R.val (expertOf m (inRange m) (Cert.ExpertsIdeal.Moe.tileNo R)) hexp).trans ?_
  refine ((outArr_apply m (inRange m) 0 p R j).trans ?_).symm
  refine if_congr ?_ ?_ rfl
  · rw [counts_eq, ix1_eq_valueIdx]
    refine Iff.trans ?_ (slt_count (R.val % 512) (live n (R.val / 512)) (by omega) hlive)
    exact Eq.to_iff (congrArg (fun w => (BitVec.ofNat 32 (R.val % 512)).slt w = true) hc)
  · rw [h1, h2, h3, start_arg1, start_arg2, start_arg3]

theorem algebraic_experts : Cert.algebraic_ExpertsIdeal_ExpertsReferenceIdeal_pre_counts_fit := by
  intro m g m' g' hp hargs
  refine ⟨fun c => outArr m (inRange m) c, ?_, ?_⟩
  · exact (θ_run Cert.ExpertsIdeal.defs _ _).mono (fun _ h c => h.1 c) (run_end (F := Ideal) m g)
  · refine (θ_run Cert.ExpertsReferenceIdeal.defs _ _).mono (fun _ h c => ⟨(h c).1.trans ?_, (h c).2⟩)
      (Cert.ExpertsReferenceIdeal.Value.run (F := Ideal) m' g')
    refine values_eq m m' (countsOf (wordsOf (F := Ideal) (m ((c.tc : Thread Cert.ExpertsIdeal.nD Cert.ExpertsIdeal.τ).loc Cert.ExpertsIdeal.main_arg0))))
      (countsOf_le _ _ _ _ (hp c)) c (fun i => ?_) (hargs c).1 (hargs c).2.1 (hargs c).2.2.1 (hargs c).2.2.2
    rw [← ix1_eq_valueIdx]
    exact countsOf_apply _ i

end Cert.Proof.Moe

end
-- ==== Proof.MainValue.lean ====
/-
  The value over the extended reals of the projection of the gates and the recurrent inputs: each entry of a result's row is the row times the weights'
  column. One trip of the kernel's loop is a block of rows; nine of them fill the staged block, and the blocks of the
  grid fill the result.
-/
module

public import proofs.«01_k».proof.Proof.Gen.MainIdeal.Value
public import Idealize.ShloMosaic.Lib.Pointwise
public import Idealize.ShloMosaic.Lib.Pipeline.ValueKit.Geometry
public import Idealize.ShloMosaic.Lib.WordCmp

@[expose] public section

set_option maxRecDepth 16384

noncomputable section

namespace Cert.MainIdeal.Proj

open Idealize.ShloMosaic Idealize.ShloMosaic.TcCoe Idealize.SL.Sem
open Cert.MainIdeal.Gen

/-- A trip's payload: its rows times the staged weights. -/
theorem rows_times (a : Vec Ideal S1x256x1024 .bf16) (b : Vec Ideal S1x1024x1024 .bf16) (u : Fin 1) (r : Fin 256) (n : Fin 1024) :
    k0_pay1 a b (ix3 u r n) = ∑ k : Fin 1024, a (ix3 0 r k) * b (ix3 0 k n) := by
  unfold k0_pay1
  pointwise

/-- The staged block the kernel is to leave: the staged rows times the staged weights. -/
def block (x : Vec Ideal S1x2304x1024 .bf16) (w : Vec Ideal S1x1024x1024 .bf16) : Vec Ideal S1x2304x1024 .bf16 :=
  fun y => ∑ k : Fin 1024, x (ix3 0 (y 1) k) * w (ix3 0 k (y 2))

section
variable (𝒱 : Variants) (c : Dev nD) (bd : Option 𝒱.V) (i : grid0.Coords)
  (arg2 : Memref sig .tc .vmem S1x2304x1024 .bf16) (harg2 : arg2.IsWhole)
  (arg3 : Memref sig .tc .vmem S1x1024x1024 .bf16) (harg3 : arg3.IsWhole)
  (arg4 : Memref sig .tc .vmem S1x2304x1024 .bf16) (harg4 : arg4.IsWhole)
  (x : Vec Ideal S1x2304x1024 .bf16) (w : Vec Ideal S1x1024x1024 .bf16)

/-- What a trip loads of the staged rows. -/
theorem trip_rows (k : Fin k0_t1_loop.trips) (inb) (u : Fin 1) (r : Fin 256) (j : Fin 1024) (R : Fin 2304) (hR : R.val = 256 * k.val + r.val) :
    View.readAt (Elt Ideal) arg2.view (Rect.unit (s := S1x2304x1024) (k0_off1 k) S1x256x1024.size inb).toLoadRect (harg2.unread x) (ix3 u r j)
      = x (ix3 0 R j) := by
  rw [View.readAt_eq_ld, Memref.IsWhole.read_unread]
  show x ((Rect.unit (s := S1x2304x1024) (k0_off1 k) S1x256x1024.size inb).emb (ix3 u r j)) = _
  refine congrArg x (Rect.emb_eq_of_coords _ _ _ fun a => ?_)
  show (ix3 (0 : Fin 1) R j a).val = k0_off1 k a + 1 * (ix3 u r j a).val
  rw [k0_off1_eq]
  have hu : u.val < 1 := u.isLt
  match a with
  | ⟨0, _⟩ => show 0 = 0 + 1 * u.val; omega
  | ⟨1, _⟩ => show R.val = 256 * k.val + 1 * r.val; omega
  | ⟨2, _⟩ => show j.val = 0 + 1 * j.val; omega

/-- What a trip loads of the staged weights: all of them. -/
theorem trip_weights (inb) (u : Fin 1) (j : Fin 1024) (n : Fin 1024) :
    View.readAt (Elt Ideal) arg3.view (Rect.unit (s := S1x1024x1024) ![0, 0, 0] S1x1024x1024.size inb).toLoadRect (harg3.unread w) (ix3 u j n)
      = w (ix3 0 j n) := by
  rw [View.readAt_eq_ld, Memref.IsWhole.read_unread]
  show w ((Rect.unit (s := S1x1024x1024) ![0, 0, 0] S1x1024x1024.size inb).emb (ix3 u j n)) = _
  refine congrArg w (Rect.emb_eq_of_coords _ _ _ fun a => ?_)
  have hu : u.val < 1 := u.isLt
  match a with
  | ⟨0, _⟩ => show 0 = 0 + 1 * u.val; omega
  | ⟨1, _⟩ => show j.val = 0 + 1 * j.val; omega
  | ⟨2, _⟩ => show n.val = 0 + 1 * n.val; omega

/-- Everything a trip writes agrees with the block, -/
theorem trip_agrees (k : Fin k0_t1_loop.trips) :
    ∀ p ∈ tripL_k0_t1 𝒱 c bd i arg2 harg2 arg3 harg3 arg4 harg4 (harg2.unread x) (harg3.unread w) k,
      ∀ y : p.1.shape.Idx, p.2 y = block x w (p.1.emb y) := by
  unfold tripL_k0_t1 trip_k0_t1
  intro p hp
  obtain rfl := List.mem_singleton.mp hp
  intro (y : S1x256x1024.Idx)
  obtain ⟨u, r, n, rfl⟩ : ∃ (u : Fin 1) (r : Fin 256) (n : Fin 1024), y = ix3 u r n := ⟨y 0, y 1, y 2, eq_ix3 y⟩
  have hk : k.val < 9 := Nat.lt_of_lt_of_le k.isLt k0_t1_abs.2.1
  have he : (Rect.unit (s := S1x2304x1024) (k0_off1 k) S1x256x1024.size (k0_off1_inb k)).emb (ix3 u r n)
      = ix3 0 ⟨256 * k.val + r.val, by omega⟩ n := by
    refine Rect.emb_eq_of_coords _ _ _ fun a => ?_
    show (ix3 (0 : Fin 1) (⟨256 * k.val + r.val, _⟩ : Fin 2304) n a).val = k0_off1 k a + 1 * (ix3 u r n a).val
    rw [k0_off1_eq]
    have hu : u.val < 1 := u.isLt
    match a with
    | ⟨0, _⟩ => show 0 = 0 + 1 * u.val; omega
    | ⟨1, _⟩ => show 256 * k.val + r.val = 256 * k.val + 1 * r.val; omega
    | ⟨2, _⟩ => show n.val = 0 + 1 * n.val; omega
  refine (rows_times _ _ u r n).trans ((Finset.sum_congr rfl fun j _ => ?_).trans (congrArg (block x w) he).symm)
  exact congrArg₂ (· * ·) (trip_rows arg2 harg2 x k _ 0 r j _ rfl) (trip_weights arg3 harg3 w _ 0 j n)

/-- and so does everything that any number of trips write. -/
theorem trips_agree : ∀ n : ℕ, ∀ p ∈ pb_k0_t1 𝒱 c bd i arg2 harg2 arg3 harg3 arg4 harg4 (harg2.unread x) (harg3.unread w) n,
      ∀ y : p.1.shape.Idx, p.2 y = block x w (p.1.emb y)
  | 0, _, hp => absurd hp List.not_mem_nil
  | n + 1, p, hp => by
    rw [pb_k0_t1.eq_2] at hp
    unfold pb_k0_t1Step at hp
    split at hp
    · rcases List.mem_append.mp hp with h | h
      · exact trip_agrees 𝒱 c bd i arg2 harg2 arg3 harg3 arg4 harg4 x w _ p h
      · exact trips_agree n p h
    · exact trips_agree n p hp

/-- So the body leaves the block. -/
theorem body_leaves : out0_A_2 c i arg2 harg2 arg3 harg3 arg4 harg4 x w = block x w := by
  funext y
  unfold out0_A_2
  refine View.read_writes_apply_of_pieces _ _ (block x w) _ ?_ y (cover0_A_2 c i arg2 harg2 arg3 harg3 arg4 harg4 x w y)
  unfold kernelRun0_A
  exact trips_agree Variants.none c none i arg2 harg2 arg3 harg3 arg4 harg4 x w _
end

variable (m : (ℓ : Loc nD τ sig) → Buf (Elt Ideal) ℓ)

/-- The whole product: row times column. -/
def product (h : Vec Ideal S8x2304x1024 .bf16) (w : Vec Ideal S4x1024x5120 .bf16) : Vec Ideal S8x2304x5120 .bf16 :=
  fun y => ∑ k : Fin 1024, h (ix3 (y 0) (y 1) k) * w (ix3 0 k (y 2))

/-- A point of the grid from its batch entry and its block of columns, and back. -/
def point (b : Fin 8) (q : Fin 5) : Fin grid0.N := ⟨b.val * 5 + q.val, by rw [N_0]; omega⟩

theorem index0 : ∀ t : Fin grid0.N, win0_0.index t = ![t.val / 5, 0, 0] := by decide +kernel
theorem index1 : ∀ t : Fin grid0.N, win0_1.index t = ![0, 0, t.val % 5] := by decide +kernel
theorem index2 : ∀ t : Fin grid0.N, win0_2.index t = ![t.val / 5, 0, t.val % 5] := by decide +kernel

theorem t_lt (t : Fin grid0.N) : t.val < 40 := N_0 ▸ t.isLt

theorem rows_at (c : Dev nD) (t : Fin grid0.N) (u : Fin 1) (r : Fin 2304) (k : Fin 1024) :
    iblk m c 0 t (ix3 u r k) = m ((c : Thread nD τ).loc main_arg0) (ix3 (⟨t.val / 5, by have := t_lt t; omega⟩ : Fin 8) r k) := by
  show m ((c : Thread nD τ).loc main_arg0) ((win0_0.rect t).emb (ix3 u r k)) = _
  refine congrArg (m ((c : Thread nD τ).loc main_arg0)) (funext fun a => Fin.ext ?_)
  refine (Pipeline.Window.rect_emb_val win0_0 t (ix3 u r k) a).trans ?_
  rw [index0]
  have hu : u.val < 1 := u.isLt
  match a with
  | ⟨0, _⟩ => show t.val / 5 * 1 + u.val = t.val / 5; omega
  | ⟨1, _⟩ => show 0 * 2304 + r.val = r.val; omega
  | ⟨2, _⟩ => show 0 * 1024 + k.val = k.val; omega

theorem weights_at (c : Dev nD) (t : Fin grid0.N) (u : Fin 1) (k : Fin 1024) (n : Fin 1024) :
    iblk m c 1 t (ix3 u k n) = m ((c : Thread nD τ).loc main_arg1)
      (ix3 (0 : Fin 4) k (⟨1024 * (t.val % 5) + n.val, by omega⟩ : Fin 5120)) := by
  show m ((c : Thread nD τ).loc main_arg1) ((win0_1.rect t).emb (ix3 u k n)) = _
  refine congrArg (m ((c : Thread nD τ).loc main_arg1)) (funext fun a => Fin.ext ?_)
  refine (Pipeline.Window.rect_emb_val win0_1 t (ix3 u k n) a).trans ?_
  rw [index1]
  have hu : u.val < 1 := u.isLt
  match a with
  | ⟨0, _⟩ => show 0 * 1 + u.val = 0; omega
  | ⟨1, _⟩ => show 0 * 1024 + k.val = k.val; omega
  | ⟨2, _⟩ => show t.val % 5 * 1024 + n.val = 1024 * (t.val % 5) + n.val; omega

theorem place_at (t : Fin grid0.N) (u : Fin 1) (r : Fin 2304) (n : Fin 1024) :
    ((win0_2.rect t).emb (ix3 u r n) : S8x2304x5120.Idx)
      = ix3 (⟨t.val / 5, by have := t_lt t; omega⟩ : Fin 8) r (⟨1024 * (t.val % 5) + n.val, by omega⟩ : Fin 5120) := by
  refine funext fun a => Fin.ext ?_
  refine (Pipeline.Window.rect_emb_val win0_2 t (ix3 u r n) a).trans ?_
  rw [index2]
  have hu : u.val < 1 := u.isLt
  match a with
  | ⟨0, _⟩ => show t.val / 5 * 1 + u.val = t.val / 5; omega
  | ⟨1, _⟩ => show 0 * 2304 + r.val = r.val; omega
  | ⟨2, _⟩ => show t.val % 5 * 1024 + n.val = 1024 * (t.val % 5) + n.val; omega

theorem after_eq (c : Dev nD) (t : Fin grid0.N) : (dats m 0 c).after 2 t = block (iblk m c 0 t) (iblk m c 1 t) := by
  rw [after0_2]
  unfold outsAt0
  exact body_leaves c _ _ _ _ _ _ _ _ _

theorem block_at (c : Dev nD) (t : Fin grid0.N) (u : Fin 1) (r : Fin 2304) (n : Fin 1024) :
    block (iblk m c 0 t) (iblk m c 1 t) (ix3 u r n)
      = product (m ((c : Thread nD τ).loc main_arg0)) (m ((c : Thread nD τ).loc main_arg1)) ((win0_2.rect t).emb (ix3 u r n)) := by
  rw [place_at]
  exact Finset.sum_congr rfl fun k _ => congrArg₂ (· * ·) (rows_at m c t 0 r k) (weights_at m c t 0 k n)

/-- A view's set holds what it places. -/
theorem held {sp : Space} {s : Shape} {e : EltTy} (v : View sig .tc sp s e) (y : s.Idx) (i : v.ty.Idx) (h : v.emb y = i) : i ∈ v.set :=
  h ▸ View.emb_mem_set v y

/-- The call's result is the product. -/
theorem result_eq (c : Dev nD) :
    (dats m 0 c).arrAt 2 cfg0.N = product (m ((c : Thread nD τ).loc main_arg0)) (m ((c : Thread nD τ).loc main_arg1)) := by
  refine (dats m 0 c).arrAt_eq_of_emb 2 (product _ _) (fun t _ (y : S1x2304x1024.Idx) => ?_) (fun (i : S8x2304x5120.Idx) => ?_)
  · rw [after_eq]
    obtain ⟨u, r, n, rfl⟩ : ∃ (u : Fin 1) (r : Fin 2304) (n : Fin 1024), y = ix3 u r n := ⟨y 0, y 1, y 2, eq_ix3 y⟩
    exact block_at m c t u r n
  · obtain ⟨b, r, n, rfl⟩ : ∃ (b : Fin 8) (r : Fin 2304) (n : Fin 5120), i = ix3 b r n := ⟨i 0, i 1, i 2, eq_ix3 i⟩
    refine ⟨point b ⟨n.val / 1024, by omega⟩, flush0_2 _, ?_⟩
    refine held ((cfg0.win 2).blk (point b ⟨n.val / 1024, by omega⟩)).view (ix3 (0 : Fin 1) r (⟨n.val % 1024, by omega⟩ : Fin 1024)) _ ?_
    refine (place_at (point b ⟨n.val / 1024, by omega⟩) 0 r ⟨n.val % 1024, by omega⟩).trans ?_
    have hb : b.val < 8 := b.isLt
    have hn : n.val < 5120 := n.isLt
    have hq : n.val / 1024 < 5 := by omega
    have e0 : (⟨(point b ⟨n.val / 1024, hq⟩).val / 5, by have := t_lt (point b ⟨n.val / 1024, hq⟩); omega⟩ : Fin 8) = b :=
      Fin.ext (by show (b.val * 5 + n.val / 1024) / 5 = b.val; omega)
    have e2 : (⟨1024 * ((point b ⟨n.val / 1024, hq⟩).val % 5) + n.val % 1024, by omega⟩ : Fin 5120) = n :=
      Fin.ext (by show 1024 * ((b.val * 5 + n.val / 1024) % 5) + n.val % 1024 = n.val; omega)
    rw [e0, e2]

end Cert.MainIdeal.Proj

end
-- ==== Proof.MainClaims.lean ====
/-
  The projection of the gates and the recurrent inputs: the frames of its programs, and that its reference computes the same products.
-/
module

public import proofs.«01_k».proof.Defs
public import proofs.«01_k».proof.Proof.MainValue
public import proofs.«01_k».proof.Proof.Gen.MainReferenceIdeal.Run
public import Idealize.ShloMosaic.Lib.Claim
public import Idealize.ShloMosaic.Lib.Quiescent

@[expose] public section

set_option maxRecDepth 16384

noncomputable section

namespace Cert.Proof.Main

open Idealize.ShloMosaic Idealize.ShloMosaic.TcCoe Idealize.SL.Sem

/-- What the program states of its shapes and windows: the same as its ideal reading. -/
instance proj_facts₀ : Cert.Main.Facts₀ := { Cert.MainIdeal.Gen.facts₀ with }

instance proj_facts : Cert.Main.Facts := { proj_facts₀ with }

/-- The same body, and so the same definitions, at bits. -/
theorem body_table_eq : Cert.Main.defs₀ (F := Bits) = Cert.MainIdeal.defs₀ := by
  unfold Cert.Main.defs₀ Cert.MainIdeal.defs₀
  refine congrArg Defs.onTc (funext fun ℓ => funext fun a => ?_)
  match ℓ, a with
  | 0, (t, s) => rfl

theorem defs_eq : Cert.Main.defs (F := Bits) = Cert.MainIdeal.defs := by
  unfold Cert.Main.defs
  rw [body_table_eq]
  rfl

theorem frame_ideal : Cert.quiescent_MainIdeal := fun m ρ _ => Cert.MainIdeal.Gen.frame (F := Ideal) m ρ

theorem frame_bits : Cert.quiescent_Main := fun m ρ _ => by
  rw [defs_eq]
  exact Cert.MainIdeal.Gen.frame (F := Bits) m ρ

theorem frame_reference : Cert.quiescent_MainReferenceIdeal := fun m ρ _ =>
  (θ_run Cert.MainReferenceIdeal.defs _ _).mono
    (fun r h => ⟨fun c => (h c).2, sem_eq_zero_of_no_sems (by decide) r.2⟩) (Cert.MainReferenceIdeal.Value.run (F := Ideal) m ρ)

section
open Cert.MainReferenceIdeal Cert.MainReferenceIdeal.Gen

/-- The reference's product, read at an entry. -/
theorem reference_eq (h : FVec Ideal S8x2304x1024 .bf16) (w : FVec Ideal S4x1024x5120 .bf16) :
    (truncf .bf16 (Host.dotGeneral dot_S8x2304x1024_S1024x5120_S8x2304x5120_2_0_01_1_n_n none (extf .f32 h bitsLt_bf16_f32) (extf .f32 (shapeCast _ (extractStridedSlice S1x1024x5120 ![0, 0, 0] w slices_S4x1024x5120_S1x1024x5120_0_0_0) shapeCasts_S1x1024x5120_S1024x5120) bitsLt_bf16_f32)) bitsLt_bf16_f32 : FVec Ideal S8x2304x5120 .bf16) = Cert.MainIdeal.Proj.product h w := by
  funext (y : S8x2304x5120.Idx)
  obtain ⟨b, r, n, rfl⟩ : ∃ (b : Fin 8) (r : Fin 2304) (n : Fin 5120), y = ix3 b r n := ⟨y 0, y 1, y 2, eq_ix3 y⟩
  pointwise
  rfl
end

/-- Over the extended reals kernel and reference compute the same products. -/
theorem algebraic : Cert.algebraic_MainIdeal_MainReferenceIdeal := by
  intro m g m' g' _ hargs
  refine ⟨fun c => Cert.MainIdeal.Proj.product (m ((c.tc : Thread Cert.MainIdeal.nD Cert.MainIdeal.τ).loc Cert.MainIdeal.main_arg0))
    (m ((c.tc : Thread Cert.MainIdeal.nD Cert.MainIdeal.τ).loc Cert.MainIdeal.main_arg1)), ?_, ?_⟩
  · exact (θ_run Cert.MainIdeal.defs _ _).mono (fun _ h c => ⟨(h c).1.trans (Cert.MainIdeal.Proj.result_eq m c), (h c).2⟩)
      (Cert.MainIdeal.Value.run_blocks (F := Ideal) m g)
  · refine (θ_run Cert.MainReferenceIdeal.defs _ _).mono (fun _ h c => ⟨(h c).1.trans ?_, (h c).2⟩)
      (Cert.MainReferenceIdeal.Value.run (F := Ideal) m' g')
    rw [(hargs c).1, (hargs c).2]
    exact reference_eq _ _

end Cert.Proof.Main

end
-- ==== Proof.SideValue.lean ====
/-
  The value over the extended reals of the projection of the latents and the remaining inputs: each entry of a result's row is the row times the weights'
  column. One trip of the kernel's loop is a block of rows; nine of them fill the staged block, and the blocks of the
  grid fill the result.
-/
module

public import proofs.«01_k».proof.Proof.Gen.SideIdeal.Value
public import Idealize.ShloMosaic.Lib.Pointwise
public import Idealize.ShloMosaic.Lib.Pipeline.ValueKit.Geometry
public import Idealize.ShloMosaic.Lib.WordCmp

@[expose] public section

set_option maxRecDepth 16384

noncomputable section

namespace Cert.SideIdeal.Proj

open Idealize.ShloMosaic Idealize.ShloMosaic.TcCoe Idealize.SL.Sem
open Cert.SideIdeal.Gen

/-- A trip's payload: its rows times the staged weights. -/
theorem rows_times (a : Vec Ideal S1x256x1024 .bf16) (b : Vec Ideal S1x1024x1280 .bf16) (u : Fin 1) (r : Fin 256) (n : Fin 1280) :
    k0_pay1 a b (ix3 u r n) = ∑ k : Fin 1024, a (ix3 0 r k) * b (ix3 0 k n) := by
  unfold k0_pay1
  pointwise

/-- The staged block the kernel is to leave: the staged rows times the staged weights. -/
def block (x : Vec Ideal S1x2304x1024 .bf16) (w : Vec Ideal S1x1024x1280 .bf16) : Vec Ideal S1x2304x1280 .f32 :=
  fun y => ∑ k : Fin 1024, x (ix3 0 (y 1) k) * w (ix3 0 k (y 2))

section
variable (𝒱 : Variants) (c : Dev nD) (bd : Option 𝒱.V) (i : grid0.Coords)
  (arg2 : Memref sig .tc .vmem S1x2304x1024 .bf16) (harg2 : arg2.IsWhole)
  (arg3 : Memref sig .tc .vmem S1x1024x1280 .bf16) (harg3 : arg3.IsWhole)
  (arg4 : Memref sig .tc .vmem S1x2304x1280 .f32) (harg4 : arg4.IsWhole)
  (x : Vec Ideal S1x2304x1024 .bf16) (w : Vec Ideal S1x1024x1280 .bf16)

/-- What a trip loads of the staged rows. -/
theorem trip_rows (k : Fin k0_t1_loop.trips) (inb) (u : Fin 1) (r : Fin 256) (j : Fin 1024) (R : Fin 2304) (hR : R.val = 256 * k.val + r.val) :
    View.readAt (Elt Ideal) arg2.view (Rect.unit (s := S1x2304x1024) (k0_off1 k) S1x256x1024.size inb).toLoadRect (harg2.unread x) (ix3 u r j)
      = x (ix3 0 R j) := by
  rw [View.readAt_eq_ld, Memref.IsWhole.read_unread]
  show x ((Rect.unit (s := S1x2304x1024) (k0_off1 k) S1x256x1024.size inb).emb (ix3 u r j)) = _
  refine congrArg x (Rect.emb_eq_of_coords _ _ _ fun a => ?_)
  show (ix3 (0 : Fin 1) R j a).val = k0_off1 k a + 1 * (ix3 u r j a).val
  rw [k0_off1_eq]
  have hu : u.val < 1 := u.isLt
  match a with
  | ⟨0, _⟩ => show 0 = 0 + 1 * u.val; omega
  | ⟨1, _⟩ => show R.val = 256 * k.val + 1 * r.val; omega
  | ⟨2, _⟩ => show j.val = 0 + 1 * j.val; omega

/-- What a trip loads of the staged weights: all of them. -/
theorem trip_weights (inb) (u : Fin 1) (j : Fin 1024) (n : Fin 1280) :
    View.readAt (Elt Ideal) arg3.view (Rect.unit (s := S1x1024x1280) ![0, 0, 0] S1x1024x1280.size inb).toLoadRect (harg3.unread w) (ix3 u j n)
      = w (ix3 0 j n) := by
  rw [View.readAt_eq_ld, Memref.IsWhole.read_unread]
  show w ((Rect.unit (s := S1x1024x1280) ![0, 0, 0] S1x1024x1280.size inb).emb (ix3 u j n)) = _
  refine congrArg w (Rect.emb_eq_of_coords _ _ _ fun a => ?_)
  have hu : u.val < 1 := u.isLt
  match a with
  | ⟨0, _⟩ => show 0 = 0 + 1 * u.val; omega
  | ⟨1, _⟩ => show j.val = 0 + 1 * j.val; omega
  | ⟨2, _⟩ => show n.val = 0 + 1 * n.val; omega

/-- Everything a trip writes agrees with the block, -/
theorem trip_agrees (k : Fin k0_t1_loop.trips) :
    ∀ p ∈ tripL_k0_t1 𝒱 c bd i arg2 harg2 arg3 harg3 arg4 harg4 (harg2.unread x) (harg3.unread w) k,
      ∀ y : p.1.shape.Idx, p.2 y = block x w (p.1.emb y) := by
  unfold tripL_k0_t1 trip_k0_t1
  intro p hp
  obtain rfl := List.mem_singleton.mp hp
  intro (y : S1x256x1280.Idx)
  obtain ⟨u, r, n, rfl⟩ : ∃ (u : Fin 1) (r : Fin 256) (n : Fin 1280), y = ix3 u r n := ⟨y 0, y 1, y 2, eq_ix3 y⟩
  have hk : k.val < 9 := Nat.lt_of_lt_of_le k.isLt k0_t1_abs.2.1
  have he : (Rect.unit (s := S1x2304x1280) (k0_off2 k) S1x256x1280.size (k0_off2_inb k)).emb (ix3 u r n)
      = ix3 0 ⟨256 * k.val + r.val, by omega⟩ n := by
    refine Rect.emb_eq_of_coords _ _ _ fun a => ?_
    show (ix3 (0 : Fin 1) (⟨256 * k.val + r.val, _⟩ : Fin 2304) n a).val = k0_off2 k a + 1 * (ix3 u r n a).val
    rw [k0_off2_eq]
    have hu : u.val < 1 := u.isLt
    match a with
    | ⟨0, _⟩ => show 0 = 0 + 1 * u.val; omega
    | ⟨1, _⟩ => show 256 * k.val + r.val = 256 * k.val + 1 * r.val; omega
    | ⟨2, _⟩ => show n.val = 0 + 1 * n.val; omega
  refine (rows_times _ _ u r n).trans ((Finset.sum_congr rfl fun j _ => ?_).trans (congrArg (block x w) he).symm)
  exact congrArg₂ (· * ·) (trip_rows arg2 harg2 x k _ 0 r j _ rfl) (trip_weights arg3 harg3 w _ 0 j n)

/-- and so does everything that any number of trips write. -/
theorem trips_agree : ∀ n : ℕ, ∀ p ∈ pb_k0_t1 𝒱 c bd i arg2 harg2 arg3 harg3 arg4 harg4 (harg2.unread x) (harg3.unread w) n,
      ∀ y : p.1.shape.Idx, p.2 y = block x w (p.1.emb y)
  | 0, _, hp => absurd hp List.not_mem_nil
  | n + 1, p, hp => by
    rw [pb_k0_t1.eq_2] at hp
    unfold pb_k0_t1Step at hp
    split at hp
    · rcases List.mem_append.mp hp with h | h
      · exact trip_agrees 𝒱 c bd i arg2 harg2 arg3 harg3 arg4 harg4 x w _ p h
      · exact trips_agree n p h
    · exact trips_agree n p hp

/-- So the body leaves the block. -/
theorem body_leaves : out0_A_2 c i arg2 harg2 arg3 harg3 arg4 harg4 x w = block x w := by
  funext y
  unfold out0_A_2
  refine View.read_writes_apply_of_pieces _ _ (block x w) _ ?_ y (cover0_A_2 c i arg2 harg2 arg3 harg3 arg4 harg4 x w y)
  unfold kernelRun0_A
  exact trips_agree Variants.none c none i arg2 harg2 arg3 harg3 arg4 harg4 x w _
end

variable (m : (ℓ : Loc nD τ sig) → Buf (Elt Ideal) ℓ)

/-- The whole product: row times column. -/
def product (h : Vec Ideal S8x2304x1024 .bf16) (w : Vec Ideal S4x1024x3840 .bf16) : Vec Ideal S8x2304x3840 .f32 :=
  fun y => ∑ k : Fin 1024, h (ix3 (y 0) (y 1) k) * w (ix3 0 k (y 2))

/-- A point of the grid from its batch entry and its block of columns, and back. -/
def point (b : Fin 8) (q : Fin 3) : Fin grid0.N := ⟨b.val * 3 + q.val, by rw [N_0]; omega⟩

theorem index0 : ∀ t : Fin grid0.N, win0_0.index t = ![t.val / 3, 0, 0] := by decide +kernel
theorem index1 : ∀ t : Fin grid0.N, win0_1.index t = ![0, 0, t.val % 3] := by decide +kernel
theorem index2 : ∀ t : Fin grid0.N, win0_2.index t = ![t.val / 3, 0, t.val % 3] := by decide +kernel

theorem t_lt (t : Fin grid0.N) : t.val < 24 := N_0 ▸ t.isLt

theorem rows_at (c : Dev nD) (t : Fin grid0.N) (u : Fin 1) (r : Fin 2304) (k : Fin 1024) :
    iblk m c 0 t (ix3 u r k) = m ((c : Thread nD τ).loc main_arg0) (ix3 (⟨t.val / 3, by have := t_lt t; omega⟩ : Fin 8) r k) := by
  show m ((c : Thread nD τ).loc main_arg0) ((win0_0.rect t).emb (ix3 u r k)) = _
  refine congrArg (m ((c : Thread nD τ).loc main_arg0)) (funext fun a => Fin.ext ?_)
  refine (Pipeline.Window.rect_emb_val win0_0 t (ix3 u r k) a).trans ?_
  rw [index0]
  have hu : u.val < 1 := u.isLt
  match a with
  | ⟨0, _⟩ => show t.val / 3 * 1 + u.val = t.val / 3; omega
  | ⟨1, _⟩ => show 0 * 2304 + r.val = r.val; omega
  | ⟨2, _⟩ => show 0 * 1024 + k.val = k.val; omega

theorem weights_at (c : Dev nD) (t : Fin grid0.N) (u : Fin 1) (k : Fin 1024) (n : Fin 1280) :
    iblk m c 1 t (ix3 u k n) = m ((c : Thread nD τ).loc main_arg1)
      (ix3 (0 : Fin 4) k (⟨1280 * (t.val % 3) + n.val, by omega⟩ : Fin 3840)) := by
  show m ((c : Thread nD τ).loc main_arg1) ((win0_1.rect t).emb (ix3 u k n)) = _
  refine congrArg (m ((c : Thread nD τ).loc main_arg1)) (funext fun a => Fin.ext ?_)
  refine (Pipeline.Window.rect_emb_val win0_1 t (ix3 u k n) a).trans ?_
  rw [index1]
  have hu : u.val < 1 := u.isLt
  match a with
  | ⟨0, _⟩ => show 0 * 1 + u.val = 0; omega
  | ⟨1, _⟩ => show 0 * 1024 + k.val = k.val; omega
  | ⟨2, _⟩ => show t.val % 3 * 1280 + n.val = 1280 * (t.val % 3) + n.val; omega

theorem place_at (t : Fin grid0.N) (u : Fin 1) (r : Fin 2304) (n : Fin 1280) :
    ((win0_2.rect t).emb (ix3 u r n) : S8x2304x3840.Idx)
      = ix3 (⟨t.val / 3, by have := t_lt t; omega⟩ : Fin 8) r (⟨1280 * (t.val % 3) + n.val, by omega⟩ : Fin 3840) := by
  refine funext fun a => Fin.ext ?_
  refine (Pipeline.Window.rect_emb_val win0_2 t (ix3 u r n) a).trans ?_
  rw [index2]
  have hu : u.val < 1 := u.isLt
  match a with
  | ⟨0, _⟩ => show t.val / 3 * 1 + u.val = t.val / 3; omega
  | ⟨1, _⟩ => show 0 * 2304 + r.val = r.val; omega
  | ⟨2, _⟩ => show t.val % 3 * 1280 + n.val = 1280 * (t.val % 3) + n.val; omega

theorem after_eq (c : Dev nD) (t : Fin grid0.N) : (dats m 0 c).after 2 t = block (iblk m c 0 t) (iblk m c 1 t) := by
  rw [after0_2]
  unfold outsAt0
  exact body_leaves c _ _ _ _ _ _ _ _ _

theorem block_at (c : Dev nD) (t : Fin grid0.N) (u : Fin 1) (r : Fin 2304) (n : Fin 1280) :
    block (iblk m c 0 t) (iblk m c 1 t) (ix3 u r n)
      = product (m ((c : Thread nD τ).loc main_arg0)) (m ((c : Thread nD τ).loc main_arg1)) ((win0_2.rect t).emb (ix3 u r n)) := by
  rw [place_at]
  exact Finset.sum_congr rfl fun k _ => congrArg₂ (· * ·) (rows_at m c t 0 r k) (weights_at m c t 0 k n)

/-- A view's set holds what it places. -/
theorem held {sp : Space} {s : Shape} {e : EltTy} (v : View sig .tc sp s e) (y : s.Idx) (i : v.ty.Idx) (h : v.emb y = i) : i ∈ v.set :=
  h ▸ View.emb_mem_set v y

/-- The call's result is the product. -/
theorem result_eq (c : Dev nD) :
    (dats m 0 c).arrAt 2 cfg0.N = product (m ((c : Thread nD τ).loc main_arg0)) (m ((c : Thread nD τ).loc main_arg1)) := by
  refine (dats m 0 c).arrAt_eq_of_emb 2 (product _ _) (fun t _ (y : S1x2304x1280.Idx) => ?_) (fun (i : S8x2304x3840.Idx) => ?_)
  · rw [after_eq]
    obtain ⟨u, r, n, rfl⟩ : ∃ (u : Fin 1) (r : Fin 2304) (n : Fin 1280), y = ix3 u r n := ⟨y 0, y 1, y 2, eq_ix3 y⟩
    exact block_at m c t u r n
  · obtain ⟨b, r, n, rfl⟩ : ∃ (b : Fin 8) (r : Fin 2304) (n : Fin 3840), i = ix3 b r n := ⟨i 0, i 1, i 2, eq_ix3 i⟩
    refine ⟨point b ⟨n.val / 1280, by omega⟩, flush0_2 _, ?_⟩
    refine held ((cfg0.win 2).blk (point b ⟨n.val / 1280, by omega⟩)).view (ix3 (0 : Fin 1) r (⟨n.val % 1280, by omega⟩ : Fin 1280)) _ ?_
    refine (place_at (point b ⟨n.val / 1280, by omega⟩) 0 r ⟨n.val % 1280, by omega⟩).trans ?_
    have hb : b.val < 8 := b.isLt
    have hn : n.val < 3840 := n.isLt
    have hq : n.val / 1280 < 3 := by omega
    have e0 : (⟨(point b ⟨n.val / 1280, hq⟩).val / 3, by have := t_lt (point b ⟨n.val / 1280, hq⟩); omega⟩ : Fin 8) = b :=
      Fin.ext (by show (b.val * 3 + n.val / 1280) / 3 = b.val; omega)
    have e2 : (⟨1280 * ((point b ⟨n.val / 1280, hq⟩).val % 3) + n.val % 1280, by omega⟩ : Fin 3840) = n :=
      Fin.ext (by show 1280 * ((b.val * 3 + n.val / 1280) % 3) + n.val % 1280 = n.val; omega)
    rw [e0, e2]

end Cert.SideIdeal.Proj

end
-- ==== Proof.SideClaims.lean ====
/-
  The projection of the latents and the remaining inputs: the frames of its programs, and that its reference computes the same products.
-/
module

public import proofs.«01_k».proof.Defs
public import proofs.«01_k».proof.Proof.SideValue
public import proofs.«01_k».proof.Proof.Gen.SideReferenceIdeal.Run
public import Idealize.ShloMosaic.Lib.Claim
public import Idealize.ShloMosaic.Lib.Quiescent

@[expose] public section

set_option maxRecDepth 16384

noncomputable section

namespace Cert.Proof.Side

open Idealize.ShloMosaic Idealize.ShloMosaic.TcCoe Idealize.SL.Sem

/-- What the program states of its shapes and windows: the same as its ideal reading. -/
instance proj_facts₀ : Cert.Side.Facts₀ := { Cert.SideIdeal.Gen.facts₀ with }

instance proj_facts : Cert.Side.Facts := { proj_facts₀ with }

/-- The same body, and so the same definitions, at bits. -/
theorem body_table_eq : Cert.Side.defs₀ (F := Bits) = Cert.SideIdeal.defs₀ := by
  unfold Cert.Side.defs₀ Cert.SideIdeal.defs₀
  refine congrArg Defs.onTc (funext fun ℓ => funext fun a => ?_)
  match ℓ, a with
  | 0, (t, s) => rfl

theorem defs_eq : Cert.Side.defs (F := Bits) = Cert.SideIdeal.defs := by
  unfold Cert.Side.defs
  rw [body_table_eq]
  rfl

theorem frame_ideal : Cert.quiescent_SideIdeal := fun m ρ _ => Cert.SideIdeal.Gen.frame (F := Ideal) m ρ

theorem frame_bits : Cert.quiescent_Side := fun m ρ _ => by
  rw [defs_eq]
  exact Cert.SideIdeal.Gen.frame (F := Bits) m ρ

theorem frame_reference : Cert.quiescent_SideReferenceIdeal := fun m ρ _ =>
  (θ_run Cert.SideReferenceIdeal.defs _ _).mono
    (fun r h => ⟨fun c => (h c).2, sem_eq_zero_of_no_sems (by decide) r.2⟩) (Cert.SideReferenceIdeal.Value.run (F := Ideal) m ρ)

section
open Cert.SideReferenceIdeal Cert.SideReferenceIdeal.Gen

/-- The reference's product, read at an entry. -/
theorem reference_eq (h : FVec Ideal S8x2304x1024 .bf16) (w : FVec Ideal S4x1024x3840 .bf16) :
    (Host.dotGeneral dot_S8x2304x1024_S1024x3840_S8x2304x3840_2_0_01_1_n_n none (extf .f32 h bitsLt_bf16_f32) (extf .f32 (shapeCast _ (extractStridedSlice S1x1024x3840 ![0, 0, 0] w slices_S4x1024x3840_S1x1024x3840_0_0_0) shapeCasts_S1x1024x3840_S1024x3840) bitsLt_bf16_f32) : FVec Ideal S8x2304x3840 .f32) = Cert.SideIdeal.Proj.product h w := by
  funext (y : S8x2304x3840.Idx)
  obtain ⟨b, r, n, rfl⟩ : ∃ (b : Fin 8) (r : Fin 2304) (n : Fin 3840), y = ix3 b r n := ⟨y 0, y 1, y 2, eq_ix3 y⟩
  pointwise
  rfl
end

/-- Over the extended reals kernel and reference compute the same products. -/
theorem algebraic : Cert.algebraic_SideIdeal_SideReferenceIdeal := by
  intro m g m' g' _ hargs
  refine ⟨fun c => Cert.SideIdeal.Proj.product (m ((c.tc : Thread Cert.SideIdeal.nD Cert.SideIdeal.τ).loc Cert.SideIdeal.main_arg0))
    (m ((c.tc : Thread Cert.SideIdeal.nD Cert.SideIdeal.τ).loc Cert.SideIdeal.main_arg1)), ?_, ?_⟩
  · exact (θ_run Cert.SideIdeal.defs _ _).mono (fun _ h c => ⟨(h c).1.trans (Cert.SideIdeal.Proj.result_eq m c), (h c).2⟩)
      (Cert.SideIdeal.Value.run_blocks (F := Ideal) m g)
  · refine (θ_run Cert.SideReferenceIdeal.defs _ _).mono (fun _ h c => ⟨(h c).1.trans ?_, (h c).2⟩)
      (Cert.SideReferenceIdeal.Value.run (F := Ideal) m' g')
    rw [(hargs c).1, (hargs c).2]
    exact reference_eq _ _

end Cert.Proof.Side

end
-- ==== Proof.CombineMath.lean ====
/-
  One token's combination over the extended reals: the routed experts' rows times their weights and the shared expert's
  row, added to the scaled residual row, and the layer norm of the sum.
-/
module

public import proofs.«01_k».proof.Proof.ExpertsMath
public import Idealize.ShloMosaic.Lib.ValueLayout

@[expose] public section

noncomputable section

namespace Cert.Proof.Combine

open Idealize.ShloMosaic Cert.Proof.Moe

/-- The routed rows `G` times their weights `w`, and the shared row `s`, at column `n`. -/
def mixed (w : Fin 8 → EReal) (G : Fin 8 → Fin 1024 → EReal) (s : Fin 1024 → EReal) (n : Fin 1024) : EReal :=
  (∑ k : Fin 8, w k * G k n) + s n

/-- The residual row `x` scaled, and the modulation `c` times the mixed row `f`. -/
def stepped (x c f : Fin 1024 → EReal) (n : Fin 1024) : EReal := Ideal.ofBits .f32 0x3FD744FD#32 * x n + c n * f n

/-- The mean of a row. -/
def mean (y : Fin 1024 → EReal) : EReal := Ideal.div (∑ n, y n) (Ideal.ofBits .f32 0x44800000#32)

/-- The layer norm of the row `y`, with gain `g` and offset `b`. -/
def normed (y g b : Fin 1024 → EReal) (n : Fin 1024) : EReal :=
  (y n - mean y) * Ideal.rsqrt (mean (fun j => (y j - mean y) * (y j - mean y)) + Ideal.ofBits .f32 0x358637BD#32) * g n + b n

/-- The shared row first, then the routed rows one by one: the same sum. -/
theorem mixed_eq (w : Fin 8 → EReal) (G : Fin 8 → Fin 1024 → EReal) (s : Fin 1024 → EReal) (n : Fin 1024) :
    s n + w 0 * G 0 n + w 1 * G 1 n + w 2 * G 2 n + w 3 * G 3 n + w 4 * G 4 n + w 5 * G 5 n + w 6 * G 6 n + w 7 * G 7 n
      = mixed w G s n := by
  unfold mixed
  rw [Fin.sum_univ_eight]
  ac_rfl

/-- Token `s` of batch entry `b`, among all the tokens; and the modulation row it takes. -/
def tokenOf (b : Fin 8) (s : Fin 2304) : Fin 18432 := ⟨2304 * b.val + s.val, by omega⟩
def modRow (b : Fin 8) (s : Fin 2304) : Fin 16 := if s.val < 256 then 8 else ⟨b.val, by omega⟩

/-- Where expert slot `k`'s part `p` of a token's row stands among the gathered rows. -/
def gatheredRow (p : Fin 2) (k : Fin 8) (s : Fin 18432) : Fin 294912 := ⟨(p.val * 8 + k.val) * 18432 + s.val, by omega⟩

/-- The gathered rows by part, slot and token. -/
theorem gathered_apply {α : Type} (x : (⟨2, ![294912, 256]⟩ : Shape).Idx → α) (h : (⟨2, ![294912, 256]⟩ : Shape).ShapeCasts ⟨4, ![2, 8, 18432, 256]⟩)
    (p : Fin 2) (k : Fin 8) (s : Fin 18432) (j : Fin 256) :
    shapeCast ⟨4, ![2, 8, 18432, 256]⟩ x h (ValueIdx.ix4 p k s j) = x (ValueIdx.ix2 (gatheredRow p k s) j) :=
  shapeCast_apply x h _ _ (by
    rw [Shape.rowMajor_val_four, Shape.rowMajor_val_two]
    rfl)

end Cert.Proof.Combine

end
-- ==== Proof.CombineBlock.lean ====
/-
  What the combination kernel leaves of a tile of tokens, read at a row and a column: each routed expert's packed row is
  unpacked, times its weight, and added; then the residual and the layer norm.
-/
module

public import proofs.«01_k».proof.Proof.Gen.CombineIdeal.Value
public import proofs.«01_k».proof.Proof.CombineMath
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.CombineIdeal.Combine

open Idealize.ShloMosaic Idealize.ShloMosaic.TcCoe
open Cert.CombineIdeal.Gen Cert.Proof.Moe Cert.Proof.Combine

/-- The words of row `r` of a tile's two parts. -/
def wordsRow (a b : Vec Ideal S1x1x256x256 .i32) (r : Fin 256) (p : Fin 2) (j : Fin 256) : BitVec 32 :=
  if p = 0 then a (ix4 0 0 r j) else b (ix4 0 0 r j)

/-- The high and the low halves of a part's words. -/
def high (a : Vec Ideal S1x1x256x256 .i32) : FVec Ideal S256x256 .bf16 :=
  truncf .bf16 (bitcastToFloat .f32 (andi (shapeCast S256x256 a shapeCasts_S1x1x256x256_S256x256 : IVec S256x256 32)
    (broadcast S256x256 4294901760#32)) : FVec Ideal S256x256 .f32) bitsLt_bf16_f32

def low (a : Vec Ideal S1x1x256x256 .i32) : FVec Ideal S256x256 .bf16 :=
  truncf .bf16 (bitcastToFloat .f32 (shli (shapeCast S256x256 a shapeCasts_S1x1x256x256_S256x256 : IVec S256x256 32)
    (broadcast S256x256 16#32)) : FVec Ideal S256x256 .f32) bitsLt_bf16_f32

/-- A tile's rows, unpacked. -/
def tile (a b : Vec Ideal S1x1x256x256 .i32) : FVec Ideal S256x1024 .bf16 :=
  concatenate S256x1024 1 [⟨S256x256, high a⟩, ⟨S256x256, high b⟩, ⟨S256x256, low a⟩, ⟨S256x256, low b⟩]
    concatenates_S256x256_S256x256_S256x256_S256x256_S256x1024_d1

theorem high_apply (a : Vec Ideal S1x1x256x256 .i32) (r j : Fin 256) : high a (ix2 r j) = half 0 (a (ix4 0 0 r j)) := by
  unfold high
  pointwise
  exact half_high _

theorem low_apply (a : Vec Ideal S1x1x256x256 .i32) (r j : Fin 256) : low a (ix2 r j) = half 1 (a (ix4 0 0 r j)) := by
  unfold low
  pointwise
  exact half_low _ _

theorem tile_apply (a b : Vec Ideal S1x1x256x256 .i32) (r : Fin 256) (k : Fin 1024) : tile a b (ix2 r k) = column (wordsRow a b r) k := by
  unfold tile
  generalize hA : high a = A
  generalize hB : high b = B
  generalize hC : low a = C
  generalize hD : low b = D
  pointwise
  subst hA hB hC hD
  have hk : k.val < 1024 := k.isLt
  split
  · rw [high_apply]
    exact (column_eq (wordsRow a b r) k 0 0 ⟨k.val, by omega⟩ (by simp)).symm
  split
  · rw [high_apply]
    exact (column_eq (wordsRow a b r) k 0 1 ⟨k.val - 256, by omega⟩ (by simp; omega)).symm
  split
  · rw [low_apply]
    exact (column_eq (wordsRow a b r) k 1 0 ⟨k.val - 256 - 256, by omega⟩ (by simp; omega)).symm
  · rw [low_apply]
    exact (column_eq (wordsRow a b r) k 1 1 ⟨k.val - 256 - 256 - 256, by omega⟩ (by simp; omega)).symm

/-- One routed expert's rows times their weights, added. -/
def addRows (f : FVec Ideal S256x1024 .f32) (w : FVec Ideal S256x1 .f32) (a b : Vec Ideal S1x1x256x256 .i32) : FVec Ideal S256x1024 .f32 :=
  addf f (mulf (broadcastTo S256x1024 w broadcasts_S256x1_S256x1024) (extf .f32 (tile a b) bitsLt_bf16_f32))

theorem addRows_apply (f : FVec Ideal S256x1024 .f32) (w : FVec Ideal S256x1 .f32) (a b : Vec Ideal S1x1x256x256 .i32) (r : Fin 256) (n : Fin 1024) :
    addRows f w a b (ix2 r n) = f (ix2 r n) + w (ix2 r 0) * column (wordsRow a b r) n := by
  unfold addRows
  generalize hT : tile a b = T
  pointwise
  subst hT
  rw [tile_apply]

/-- The shared expert's hidden values of a tile, and its rows. -/
theorem hidden_apply (a b : Vec Ideal S1x1x256x256 .i32) (g : Vec Ideal S1024x512 .bf16) (r : Fin 256) (f : Fin 256) :
    k0_pay2 a b g (ix2 r f)
      = gated (∑ k : Fin 1024, column (wordsRow a b r) k * g (ix2 k ⟨f.val, by omega⟩))
          (∑ k : Fin 1024, column (wordsRow a b r) k * g (ix2 k ⟨256 + f.val, by omega⟩)) := by
  have e : ∀ T : FVec Ideal S256x1024 .bf16, T = tile a b → ∀ k, T (ix2 r k) = column (wordsRow a b r) k := fun T h k => by
    rw [h, tile_apply]
  unfold k0_pay2
  generalize hX : concatenate S256x1024 1 _ _ = X
  have hcol := e X (hX.symm.trans rfl)
  pointwise
  simp only [hcol]
  unfold gated
  rw [zero_sub]

/-- The rows of the shared expert. -/
def sharedRows (a b : Vec Ideal S1x1x256x256 .i32) (g : Vec Ideal S1024x512 .bf16) (d : Vec Ideal S256x1024 .bf16) : FVec Ideal S256x1024 .f32 :=
  matmul dot_S256x256_S256x1024_S256x1024_1_0_0_1_n_n none (k0_pay2 a b g) (k0_pay3 d) (constant S256x1024 .f32 0x00000000#32)

theorem sharedRows_apply (a b : Vec Ideal S1x1x256x256 .i32) (g : Vec Ideal S1024x512 .bf16) (d : Vec Ideal S256x1024 .bf16) (r : Fin 256) (n : Fin 1024) :
    sharedRows a b g d (ix2 r n) = expertAt (column (wordsRow a b r)) (fun k f => g (ix2 k f)) (fun f n => d (ix2 f n)) n := by
  unfold sharedRows k0_pay3
  generalize hH : k0_pay2 a b g = H
  pointwise
  subst hH
  simp only [hidden_apply]
  rfl

/-- The residual step and the layer norm of a tile whose mixed rows are `f`. -/
def normTile (f : FVec Ideal S256x1024 .f32) (x : Vec Ideal S1x256x1024 .f32) (c : Vec Ideal S1x1x1024 .f32) (g b : Vec Ideal S1x1024 .f32) :
    FVec Ideal S256x1024 .f32 :=
  have v249 : FVec Ideal S256x1024 .f32 := shapeCast S256x1024 x shapeCasts_S1x256x1024_S256x1024
  have v250 : FVec Ideal S256x1024 .f32 := broadcast S256x1024 (Scalar.ofBits .f32 0x3FD744FD#32)
  have v251 : FVec Ideal S256x1024 .f32 := mulf v250 v249
  have v253 : FVec Ideal S1x1024 .f32 := shapeCast S1x1024 c shapeCasts_S1x1x1024_S1x1024
  have v254 : FVec Ideal S256x1024 .f32 := broadcastTo S256x1024 v253 broadcasts_S1x1024_S256x1024
  have v256 : FVec Ideal S256x1024 .f32 := addf v251 (mulf v254 f)
  have v258 : FVec Ideal S1x1024 .f32 := shapeCast S1x1024 g shapeCasts_S1x1024_S1x1024
  have v260 : FVec Ideal S1x1024 .f32 := shapeCast S1x1024 b shapeCasts_S1x1024_S1x1024
  have v261 : FVec Ideal S256 .f32 := multiReduction .add [1] S256 v256 0x00000000#32 reduces_S256x1024_S256 (.inl rfl) rfl
  have v262 : FVec Ideal S256x1 .f32 := shapeCast S256x1 v261 shapeCasts_S256_S256x1
  have v264 : FVec Ideal S256x1 .f32 := divf v262 (broadcast S256x1 (Scalar.ofBits .f32 0x44800000#32))
  have v266 : FVec Ideal S256x1024 .f32 := subf v256 (broadcastTo S256x1024 v264 broadcasts_S256x1_S256x1024)
  have v267 : FVec Ideal S256x1024 .f32 := mulf v266 v266
  have v268 : FVec Ideal S256 .f32 := multiReduction .add [1] S256 v267 0x00000000#32 reduces_S256x1024_S256 (.inl rfl) rfl
  have v269 : FVec Ideal S256x1 .f32 := shapeCast S256x1 v268 shapeCasts_S256_S256x1
  have v271 : FVec Ideal S256x1 .f32 := divf v269 (broadcast S256x1 (Scalar.ofBits .f32 0x44800000#32))
  have v274 : FVec Ideal S256x1 .f32 := rsqrt (addf v271 (broadcast S256x1 (Scalar.ofBits .f32 0x358637BD#32)))
  have v276 : FVec Ideal S256x1024 .f32 := mulf v266 (broadcastTo S256x1024 v274 broadcasts_S256x1_S256x1024)
  have v278 : FVec Ideal S256x1024 .f32 := mulf v276 (broadcastTo S256x1024 v258 broadcasts_S1x1024_S256x1024)
  addf v278 (broadcastTo S256x1024 v260 broadcasts_S1x1024_S256x1024)

theorem normTile_apply (f : FVec Ideal S256x1024 .f32) (x : Vec Ideal S1x256x1024 .f32) (c : Vec Ideal S1x1x1024 .f32) (g b : Vec Ideal S1x1024 .f32)
    (r : Fin 256) (n : Fin 1024) :
    normTile f x c g b (ix2 r n)
      = normed (stepped (fun j => x (ix3 0 r j)) (fun j => c (ix3 0 0 j)) (fun j => f (ix2 r j))) (fun j => g (ix2 0 j)) (fun j => b (ix2 0 j)) n := by
  unfold normTile
  pointwise
  unfold normed mean stepped
  rfl

/-! ## The whole tile -/

/-- A load of one expert's part of the staged rows, and of a part of the staged token rows. -/
theorem ld_rows (x : Vec Ideal S2x8x256x256 .i32) (p : Fin 2) (k : Fin 8) (inb) (r j : Fin 256) :
    View.ld x (Rect.unit (s := S2x8x256x256) ![p.val, k.val, 0, 0] S1x1x256x256.size inb) (ix4 0 0 r j) = x (ix4 p k r j) := by
  refine View.ld_unit_apply_of x _ _ inb (ix4 0 0 r j) (ix4 p k r j) fun a => ?_
  match a with
  | ⟨0, _⟩ => show p.val = p.val + 0; omega
  | ⟨1, _⟩ => show k.val = k.val + 0; omega
  | ⟨2, _⟩ => show r.val = 0 + r.val; omega
  | ⟨3, _⟩ => show j.val = 0 + j.val; omega

theorem ld_token (x : Vec Ideal S2x1x256x256 .i32) (p : Fin 2) (inb) (r j : Fin 256) :
    View.ld x (Rect.unit (s := S2x1x256x256) ![p.val, 0, 0, 0] S1x1x256x256.size inb) (ix4 0 0 r j) = x (ix4 p 0 r j) := by
  refine View.ld_unit_apply_of x _ _ inb (ix4 0 0 r j) (ix4 p 0 r j) fun a => ?_
  match a with
  | ⟨0, _⟩ => show p.val = p.val + 0; omega
  | ⟨1, _⟩ => show 0 = 0 + 0; omega
  | ⟨2, _⟩ => show r.val = 0 + r.val; omega
  | ⟨3, _⟩ => show j.val = 0 + j.val; omega

theorem wordsRow_eq (a b : Vec Ideal S1x1x256x256 .i32) (r : Fin 256) (X : Fin 2 → Fin 256 → BitVec 32)
    (ha : ∀ j, a (ix4 0 0 r j) = X 0 j) (hb : ∀ j, b (ix4 0 0 r j) = X 1 j) : wordsRow a b r = X := by
  funext p j
  unfold wordsRow
  match p with
  | 0 => exact (if_pos rfl).trans (ha j)
  | 1 => exact (if_neg (by decide)).trans (hb j)

theorem weight0_apply (w : Vec Ideal S256x8 .f32) (r : Fin 256) : (extractStridedSlice S256x1 ![0, 0] w slices_S256x8_o0_0_S256x1 : FVec Ideal S256x1 .f32) (ix2 r 0) = w (ix2 r 0) := by
  pointwise

theorem weight1_apply (w : Vec Ideal S256x8 .f32) (r : Fin 256) : k0_pay5 w (ix2 r 0) = w (ix2 r 1) := by
  unfold k0_pay5
  pointwise

theorem weight2_apply (w : Vec Ideal S256x8 .f32) (r : Fin 256) : (extractStridedSlice S256x1 ![0, 2] w slices_S256x8_o0_2_S256x1 : FVec Ideal S256x1 .f32) (ix2 r 0) = w (ix2 r 2) := by
  pointwise

theorem weight3_apply (w : Vec Ideal S256x8 .f32) (r : Fin 256) : k0_pay10 w (ix2 r 0) = w (ix2 r 3) := by
  unfold k0_pay10
  pointwise

theorem weight4_apply (w : Vec Ideal S256x8 .f32) (r : Fin 256) : k0_pay12 w (ix2 r 0) = w (ix2 r 4) := by
  unfold k0_pay12
  pointwise

theorem weight5_apply (w : Vec Ideal S256x8 .f32) (r : Fin 256) : (extractStridedSlice S256x1 ![0, 5] w slices_S256x8_o0_5_S256x1 : FVec Ideal S256x1 .f32) (ix2 r 0) = w (ix2 r 5) := by
  pointwise

theorem weight6_apply (w : Vec Ideal S256x8 .f32) (r : Fin 256) : k0_pay18 w (ix2 r 0) = w (ix2 r 6) := by
  unfold k0_pay18
  pointwise

theorem weight7_apply (w : Vec Ideal S256x8 .f32) (r : Fin 256) : k0_pay21 w (ix2 r 0) = w (ix2 r 7) := by
  unfold k0_pay21
  pointwise

/-- The mixed rows of a tile, as the kernel adds them up. -/
def mixedTile (g : Vec Ideal S2x8x256x256 .i32) (w : Vec Ideal S256x8 .f32) (h : Vec Ideal S2x1x256x256 .i32)
    (gu : Vec Ideal S1024x512 .bf16) (d : Vec Ideal S256x1024 .bf16) : FVec Ideal S256x1024 .f32 :=
  addRows (addRows (addRows (addRows (addRows (addRows (addRows (addRows (sharedRows (View.ld h r0_0) (View.ld h r0_1) gu d)
      (extractStridedSlice S256x1 ![0, 0] w slices_S256x8_o0_0_S256x1) (View.ld g r0_5) (View.ld g r0_6))
      (k0_pay5 w) (View.ld g r0_7) (View.ld g r0_8))
      (extractStridedSlice S256x1 ![0, 2] w slices_S256x8_o0_2_S256x1) (View.ld g r0_9) (View.ld g r0_10))
      (k0_pay10 w) (View.ld g r0_11) (View.ld g r0_12))
      (k0_pay12 w) (View.ld g r0_13) (View.ld g r0_14))
      (extractStridedSlice S256x1 ![0, 5] w slices_S256x8_o0_5_S256x1) (View.ld g r0_15) (View.ld g r0_16))
      (k0_pay18 w) (View.ld g r0_17) (View.ld g r0_18))
      (k0_pay21 w) (View.ld g r0_19) (View.ld g r0_20)

theorem mixedTile_apply (g : Vec Ideal S2x8x256x256 .i32) (w : Vec Ideal S256x8 .f32) (h : Vec Ideal S2x1x256x256 .i32)
    (gu : Vec Ideal S1024x512 .bf16) (d : Vec Ideal S256x1024 .bf16) (r : Fin 256) (n : Fin 1024) :
    mixedTile g w h gu d (ix2 r n)
      = mixed (fun k => w (ix2 r k)) (fun k => column fun p j => g (ix4 p k r j))
          (expertAt (column fun p j => h (ix4 p 0 r j)) (fun k f => gu (ix2 k f)) (fun f n => d (ix2 f n))) n := by
  have eh : wordsRow (View.ld h r0_0) (View.ld h r0_1) r = fun p j => h (ix4 p 0 r j) :=
    wordsRow_eq _ _ r _ (fun j => ld_token h 0 _ r j) (fun j => ld_token h 1 _ r j)
  have e0 : wordsRow (View.ld g r0_5) (View.ld g r0_6) r = fun p j => g (ix4 p 0 r j) :=
    wordsRow_eq _ _ r _ (fun j => ld_rows g 0 0 _ r j) (fun j => ld_rows g 1 0 _ r j)
  have e1 : wordsRow (View.ld g r0_7) (View.ld g r0_8) r = fun p j => g (ix4 p 1 r j) :=
    wordsRow_eq _ _ r _ (fun j => ld_rows g 0 1 _ r j) (fun j => ld_rows g 1 1 _ r j)
  have e2 : wordsRow (View.ld g r0_9) (View.ld g r0_10) r = fun p j => g (ix4 p 2 r j) :=
    wordsRow_eq _ _ r _ (fun j => ld_rows g 0 2 _ r j) (fun j => ld_rows g 1 2 _ r j)
  have e3 : wordsRow (View.ld g r0_11) (View.ld g r0_12) r = fun p j => g (ix4 p 3 r j) :=
    wordsRow_eq _ _ r _ (fun j => ld_rows g 0 3 _ r j) (fun j => ld_rows g 1 3 _ r j)
  have e4 : wordsRow (View.ld g r0_13) (View.ld g r0_14) r = fun p j => g (ix4 p 4 r j) :=
    wordsRow_eq _ _ r _ (fun j => ld_rows g 0 4 _ r j) (fun j => ld_rows g 1 4 _ r j)
  have e5 : wordsRow (View.ld g r0_15) (View.ld g r0_16) r = fun p j => g (ix4 p 5 r j) :=
    wordsRow_eq _ _ r _ (fun j => ld_rows g 0 5 _ r j) (fun j => ld_rows g 1 5 _ r j)
  have e6 : wordsRow (View.ld g r0_17) (View.ld g r0_18) r = fun p j => g (ix4 p 6 r j) :=
    wordsRow_eq _ _ r _ (fun j => ld_rows g 0 6 _ r j) (fun j => ld_rows g 1 6 _ r j)
  have e7 : wordsRow (View.ld g r0_19) (View.ld g r0_20) r = fun p j => g (ix4 p 7 r j) :=
    wordsRow_eq _ _ r _ (fun j => ld_rows g 0 7 _ r j) (fun j => ld_rows g 1 7 _ r j)
  unfold mixedTile
  simp only [addRows_apply, sharedRows_apply, eh, e0, e1, e2, e3, e4, e5, e6, e7, weight0_apply, weight1_apply, weight2_apply,
    weight3_apply, weight4_apply, weight5_apply, weight6_apply, weight7_apply]
  exact mixed_eq (fun k => w (ix2 r k)) (fun k => column fun p j => g (ix4 p k r j)) _ n

/-- What the body leaves of its blocks is the layer norm of the tile. -/
theorem out_eq (g : Vec Ideal S2x8x256x256 .i32) (w : Vec Ideal S256x8 .f32) (h : Vec Ideal S2x1x256x256 .i32) (x : Vec Ideal S1x256x1024 .f32)
    (c : Vec Ideal S1x1x1024 .f32) (gu : Vec Ideal S1024x512 .bf16) (d : Vec Ideal S256x1024 .bf16) (lg lb : Vec Ideal S1x1024 .f32) :
    out0_9 g w h x c gu d lg lb = k0_pay1 (normTile (mixedTile g w h gu d) x c lg lb) := by
  have e1 : View.ld w r0_4 = w := View.ld_unit_lit _ w (by decide)
  have e2 : View.ld gu r0_2 = gu := View.ld_unit_lit _ gu (by decide)
  have e3 : View.ld d r0_3 = d := View.ld_unit_lit _ d (by decide)
  have e4 : View.ld x r0_21 = x := View.ld_unit_lit _ x (by decide)
  have e5 : View.ld c r0_22 = c := View.ld_unit_lit _ c (by decide)
  have e6 : View.ld lg r0_23 = lg := View.ld_unit_lit _ lg (by decide)
  have e7 : View.ld lb r0_23 = lb := View.ld_unit_lit _ lb (by decide)
  unfold out0_9
  rw [e1, e2, e3, e4, e5, e6, e7]
  refine (View.canon_cons_unit_lit (S := S1x256x1024) _ _ [] (by decide)).trans ?_
  rfl

theorem out_apply (g : Vec Ideal S2x8x256x256 .i32) (w : Vec Ideal S256x8 .f32) (h : Vec Ideal S2x1x256x256 .i32) (x : Vec Ideal S1x256x1024 .f32)
    (c : Vec Ideal S1x1x1024 .f32) (gu : Vec Ideal S1024x512 .bf16) (d : Vec Ideal S256x1024 .bf16) (lg lb : Vec Ideal S1x1024 .f32)
    (u : Fin 1) (r : Fin 256) (n : Fin 1024) :
    out0_9 g w h x c gu d lg lb (ix3 u r n)
      = normed (stepped (fun j => x (ix3 0 r j)) (fun j => c (ix3 0 0 j))
          (mixed (fun k => w (ix2 r k)) (fun k => column fun p j => g (ix4 p k r j))
            (expertAt (column fun p j => h (ix4 p 0 r j)) (fun k f => gu (ix2 k f)) (fun f n => d (ix2 f n)))))
          (fun j => lg (ix2 0 j)) (fun j => lb (ix2 0 j)) n := by
  rw [out_eq]
  have e : ∀ T : FVec Ideal S256x1024 .f32, k0_pay1 T (ix3 u r n) = T (ix2 r n) := fun T => by
    unfold k0_pay1
    pointwise
  rw [e, normTile_apply]
  simp only [mixedTile_apply]

end Cert.CombineIdeal.Combine

end
-- ==== Proof.CombineValue.lean ====
/-
  The combination's result over the extended reals, array by array: what the host prepares, what each grid point stages,
  and each token's row of the result.
-/
module

public import proofs.«01_k».proof.Proof.CombineBlock
public import Idealize.ShloMosaic.Lib.StableHlo.Run

@[expose] public section

set_option maxRecDepth 16384

noncomputable section

namespace Cert.CombineIdeal.Combine

open Idealize.ShloMosaic Idealize.ShloMosaic.TcCoe Idealize.SL.Sem
open Cert.CombineIdeal.Gen Cert.Proof.Moe Cert.Proof.Combine

/-- The combination of token `s` of batch entry `b`. -/
def tokenRow (g : Vec Ideal S294912x256 .i32) (w : Vec Ideal S18432x8 .f32) (h : Vec Ideal S2x8x2304x256 .i32) (x : Vec Ideal S8x2304x1024 .f32)
    (c : Vec Ideal S16x1x6144 .f32) (gu : Vec Ideal S4x1024x512 .f32) (d : Vec Ideal S4x256x1024 .f32) (lg lb : Vec Ideal S4x1024 .f32)
    (b : Fin 8) (s : Fin 2304) (n : Fin 1024) : EReal :=
  normed (stepped (fun j => x (ix3 b s j)) (fun j => c (ix3 (modRow b s) 0 (⟨5120 + j.val, by omega⟩ : Fin 6144)))
    (mixed (fun k => w (ix2 (tokenOf b s) k)) (fun k => column fun p j => g (ix2 (gatheredRow p k (tokenOf b s)) j))
      (expertAt (column fun p j => h (ix4 p b s j)) (fun k f => gu (ix3 3 k f)) (fun f n => d (ix3 3 f n)))))
    (fun j => lg (ix2 3 j)) (fun j => lb (ix2 3 j)) n

/-- The whole result. -/
def combined (g : Vec Ideal S294912x256 .i32) (w : Vec Ideal S18432x8 .f32) (h : Vec Ideal S2x8x2304x256 .i32) (x : Vec Ideal S8x2304x1024 .f32)
    (c : Vec Ideal S16x1x6144 .f32) (gu : Vec Ideal S4x1024x512 .f32) (d : Vec Ideal S4x256x1024 .f32) (lg lb : Vec Ideal S4x1024 .f32) :
    Vec Ideal S8x2304x1024 .f32 := fun y => tokenRow g w h x c gu d lg lb (y 0) (y 1) (y 2)

variable (m : (ℓ : Loc nD τ sig) → Buf (Elt Ideal) ℓ)

/-! ## What the host prepares -/

theorem V_rows (c : Dev nD) : V m c main_v0
    = shapeCast S2x8x18432x256 (m ((c : Thread nD τ).loc main_arg0) : Vec Ideal S294912x256 .i32) shapeCasts_S294912x256_S2x8x18432x256 := by
  dsimp only [V]
  simp only [hostOps0, List.flatten_cons, List.flatten_nil, List.append_nil, List.cons_append, List.nil_append]
  after_results_simp <;> rfl

theorem V_gateUp (c : Dev nD) : V m c main_v3
    = (truncf .bf16 (shapeCast S1024x512 (extractStridedSlice S1x1024x512 ![3, 0, 0] (m ((c : Thread nD τ).loc main_arg5))
        slices_S4x1024x512_S1x1024x512_3_0_0) shapeCasts_S1x1024x512_S1024x512 : FVec Ideal S1024x512 .f32) bitsLt_bf16_f32 : FVec Ideal S1024x512 .bf16) := by
  dsimp only [V]
  simp only [hostOps0, List.flatten_cons, List.flatten_nil, List.append_nil, List.cons_append, List.nil_append]
  after_results_simp <;> rfl

theorem V_down (c : Dev nD) : V m c main_v6
    = (truncf .bf16 (shapeCast S256x1024 (extractStridedSlice S1x256x1024 ![3, 0, 0] (m ((c : Thread nD τ).loc main_arg6))
        slices_S4x256x1024_S1x256x1024_3_0_0) shapeCasts_S1x256x1024_S256x1024 : FVec Ideal S256x1024 .f32) bitsLt_bf16_f32 : FVec Ideal S256x1024 .bf16) := by
  dsimp only [V]
  simp only [hostOps0, List.flatten_cons, List.flatten_nil, List.append_nil, List.cons_append, List.nil_append]
  after_results_simp <;> rfl

theorem V_gain (c : Dev nD) : V m c main_v9
    = shapeCast S1x1024 (shapeCast S1024 (extractStridedSlice S1x1024 ![3, 0] (m ((c : Thread nD τ).loc main_arg7))
        slices_S4x1024_S1x1024_3_0) shapeCasts_S1x1024_S1024 : FVec Ideal S1024 .f32) shapeCasts_S1024_S1x1024 := by
  dsimp only [V]
  simp only [hostOps0, List.flatten_cons, List.flatten_nil, List.append_nil, List.cons_append, List.nil_append]
  after_results_simp <;> rfl

theorem V_offset (c : Dev nD) : V m c main_v12
    = shapeCast S1x1024 (shapeCast S1024 (extractStridedSlice S1x1024 ![3, 0] (m ((c : Thread nD τ).loc main_arg8))
        slices_S4x1024_S1x1024_3_0) shapeCasts_S1x1024_S1024 : FVec Ideal S1024 .f32) shapeCasts_S1024_S1x1024 := by
  dsimp only [V]
  simp only [hostOps0, List.flatten_cons, List.flatten_nil, List.append_nil, List.cons_append, List.nil_append]
  after_results_simp <;> rfl

theorem rows_apply (c : Dev nD) (p : Fin 2) (k : Fin 8) (s : Fin 18432) (j : Fin 256) :
    V m c main_v0 (ix4 p k s j) = m ((c : Thread nD τ).loc main_arg0) (ix2 (gatheredRow p k s) j) := by
  rw [V_rows]
  rw [ix4_eq_valueIdx, ix2_eq_valueIdx]
  exact gathered_apply _ _ p k s j

theorem gateUp_apply (c : Dev nD) (k : Fin 1024) (f : Fin 512) :
    V m c main_v3 (ix2 k f) = m ((c : Thread nD τ).loc main_arg5) (ix3 (3 : Fin 4) k f) := by
  rw [V_gateUp]
  pointwise

theorem down_apply (c : Dev nD) (f : Fin 256) (n : Fin 1024) :
    V m c main_v6 (ix2 f n) = m ((c : Thread nD τ).loc main_arg6) (ix3 (3 : Fin 4) f n) := by
  rw [V_down]
  pointwise

theorem gain_apply (c : Dev nD) (u : Fin 1) (n : Fin 1024) :
    V m c main_v9 (ix2 u n) = m ((c : Thread nD τ).loc main_arg7) (ix2 (3 : Fin 4) n) := by
  rw [V_gain]
  pointwise

theorem offset_apply (c : Dev nD) (u : Fin 1) (n : Fin 1024) :
    V m c main_v12 (ix2 u n) = m ((c : Thread nD τ).loc main_arg8) (ix2 (3 : Fin 4) n) := by
  rw [V_offset]
  pointwise

/-! ## What a point of the grid stages -/

theorem index0 : ∀ t : Fin grid0.N, win0_0.index t = ![0, 0, t.val, 0] := by decide +kernel
theorem index1 : ∀ t : Fin grid0.N, win0_1.index t = ![t.val, 0] := by decide +kernel
theorem index2 : ∀ t : Fin grid0.N, win0_2.index t = ![0, t.val / 9, t.val % 9, 0] := by decide +kernel
theorem index3 : ∀ t : Fin grid0.N, win0_3.index t = ![t.val / 9, t.val % 9, 0] := by decide +kernel
theorem index4 : ∀ t : Fin grid0.N, win0_4.index t = ![if t.val % 9 = 0 then 8 else t.val / 9, 0, 5] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![t.val / 9, t.val % 9, 0] := by decide +kernel

theorem t_lt (t : Fin grid0.N) : t.val < 72 := N_0 ▸ t.isLt

/-- The batch entry of a point of the grid, and the position of row `r` of its tile. -/
def entryAt (t : Fin grid0.N) : Fin 8 := ⟨t.val / 9, by have := t_lt t; omega⟩
def posAt (t : Fin grid0.N) (r : Fin 256) : Fin 2304 := ⟨256 * (t.val % 9) + r.val, by omega⟩

theorem rows_at (c : Dev nD) (t : Fin grid0.N) (p : Fin 2) (k : Fin 8) (r j : Fin 256) :
    iblk m c 0 t (ix4 p k r j) = m ((c : Thread nD τ).loc main_arg0) (ix2 (gatheredRow p k (tokenOf (entryAt t) (posAt t r))) j) := by
  show V m c main_v0 ((win0_0.rect t).emb (ix4 p k r j)) = _
  refine Eq.trans (congrArg (V m c main_v0) (funext fun a => Fin.ext ?_)) (rows_apply m c p k (tokenOf (entryAt t) (posAt t r)) j)
  refine (Pipeline.Window.rect_emb_val win0_0 t (ix4 p k r j) a).trans ?_
  rw [index0]
  match a with
  | ⟨0, _⟩ => show 0 * 2 + p.val = p.val; omega
  | ⟨1, _⟩ => show 0 * 8 + k.val = k.val; omega
  | ⟨2, _⟩ => show t.val * 256 + r.val = 2304 * (t.val / 9) + (256 * (t.val % 9) + r.val); omega
  | ⟨3, _⟩ => show 0 * 256 + j.val = j.val; omega

theorem weights_at (c : Dev nD) (t : Fin grid0.N) (r : Fin 256) (k : Fin 8) :
    iblk m c 1 t (ix2 r k) = m ((c : Thread nD τ).loc main_arg1) (ix2 (tokenOf (entryAt t) (posAt t r)) k) := by
  show V m c main_arg1 ((win0_1.rect t).emb (ix2 r k)) = _
  rw [V_main_arg1]
  refine congrArg (m ((c : Thread nD τ).loc main_arg1)) (funext fun a => Fin.ext ?_)
  refine (Pipeline.Window.rect_emb_val win0_1 t (ix2 r k) a).trans ?_
  rw [index1]
  match a with
  | ⟨0, _⟩ => show t.val * 256 + r.val = 2304 * (t.val / 9) + (256 * (t.val % 9) + r.val); omega
  | ⟨1, _⟩ => show 0 * 8 + k.val = k.val; omega

theorem tokens_at (c : Dev nD) (t : Fin grid0.N) (p : Fin 2) (u : Fin 1) (r j : Fin 256) :
    iblk m c 2 t (ix4 p u r j) = m ((c : Thread nD τ).loc main_arg2) (ix4 p (entryAt t) (posAt t r) j) := by
  show V m c main_arg2 ((win0_2.rect t).emb (ix4 p u r j)) = _
  rw [V_main_arg2]
  refine congrArg (m ((c : Thread nD τ).loc main_arg2)) (funext fun a => Fin.ext ?_)
  refine (Pipeline.Window.rect_emb_val win0_2 t (ix4 p u r j) a).trans ?_
  rw [index2]
  have hu : u.val < 1 := u.isLt
  match a with
  | ⟨0, _⟩ => show 0 * 2 + p.val = p.val; omega
  | ⟨1, _⟩ => show t.val / 9 * 1 + u.val = t.val / 9; omega
  | ⟨2, _⟩ => show t.val % 9 * 256 + r.val = 256 * (t.val % 9) + r.val; omega
  | ⟨3, _⟩ => show 0 * 256 + j.val = j.val; omega

theorem residual_at (c : Dev nD) (t : Fin grid0.N) (u : Fin 1) (r : Fin 256) (n : Fin 1024) :
    iblk m c 3 t (ix3 u r n) = m ((c : Thread nD τ).loc main_arg3) (ix3 (entryAt t) (posAt t r) n) := by
  show V m c main_arg3 ((win0_3.rect t).emb (ix3 u r n)) = _
  rw [V_main_arg3]
  refine congrArg (m ((c : Thread nD τ).loc main_arg3)) (funext fun a => Fin.ext ?_)
  refine (Pipeline.Window.rect_emb_val win0_3 t (ix3 u r n) a).trans ?_
  rw [index3]
  have hu : u.val < 1 := u.isLt
  match a with
  | ⟨0, _⟩ => show t.val / 9 * 1 + u.val = t.val / 9; omega
  | ⟨1, _⟩ => show t.val % 9 * 256 + r.val = 256 * (t.val % 9) + r.val; omega
  | ⟨2, _⟩ => show 0 * 1024 + n.val = n.val; omega

/-- A tile of context tokens takes the context's modulation row, any other its entry's. -/
theorem modRow_at (t : Fin grid0.N) (r : Fin 256) : (modRow (entryAt t) (posAt t r)).val = if t.val % 9 = 0 then 8 else t.val / 9 := by
  unfold modRow
  by_cases h : t.val % 9 = 0
  · rw [if_pos h, if_pos (show (posAt t r).val < 256 by show 256 * (t.val % 9) + r.val < 256; omega)]
    rfl
  · rw [if_neg h, if_neg (show ¬ (posAt t r).val < 256 by show ¬ 256 * (t.val % 9) + r.val < 256; omega)]
    rfl

theorem modulation_at (c : Dev nD) (t : Fin grid0.N) (r : Fin 256) (u u' : Fin 1) (n : Fin 1024) :
    iblk m c 4 t (ix3 u u' n) = m ((c : Thread nD τ).loc main_arg4)
      (ix3 (modRow (entryAt t) (posAt t r)) (0 : Fin 1) (⟨5120 + n.val, by omega⟩ : Fin 6144)) := by
  show V m c main_arg4 ((win0_4.rect t).emb (ix3 u u' n)) = _
  rw [V_main_arg4]
  refine congrArg (m ((c : Thread nD τ).loc main_arg4)) (funext fun a => Fin.ext ?_)
  refine (Pipeline.Window.rect_emb_val win0_4 t (ix3 u u' n) a).trans ?_
  rw [index4]
  have hu : u.val < 1 := u.isLt
  have hu' : u'.val < 1 := u'.isLt
  match a with
  | ⟨0, _⟩ =>
    show (if t.val % 9 = 0 then 8 else t.val / 9) * 1 + u.val = (modRow (entryAt t) (posAt t r)).val
    rw [modRow_at]
    omega
  | ⟨1, _⟩ => show 0 * 1 + u'.val = 0; omega
  | ⟨2, _⟩ => show 5 * 1024 + n.val = 5120 + n.val; omega

theorem gateUp_at (c : Dev nD) (t : Fin grid0.N) (k : Fin 1024) (f : Fin 512) :
    iblk m c 5 t (ix2 k f) = m ((c : Thread nD τ).loc main_arg5) (ix3 (3 : Fin 4) k f) := by
  show V m c main_v3 ((win0_5.rect t).emb (ix2 k f)) = _
  refine Eq.trans (congrArg (V m c main_v3) (funext fun a => Fin.ext ?_)) (gateUp_apply m c k f)
  refine (Pipeline.Window.rect_emb_val win0_5 t (ix2 k f) a).trans ?_
  rw [index5]
  match a with
  | ⟨0, _⟩ => show 0 * 1024 + k.val = k.val; omega
  | ⟨1, _⟩ => show 0 * 512 + f.val = f.val; omega

theorem down_at (c : Dev nD) (t : Fin grid0.N) (f : Fin 256) (n : Fin 1024) :
    iblk m c 6 t (ix2 f n) = m ((c : Thread nD τ).loc main_arg6) (ix3 (3 : Fin 4) f n) := by
  show V m c main_v6 ((win0_6.rect t).emb (ix2 f n)) = _
  refine Eq.trans (congrArg (V m c main_v6) (funext fun a => Fin.ext ?_)) (down_apply m c f n)
  refine (Pipeline.Window.rect_emb_val win0_6 t (ix2 f n) a).trans ?_
  rw [index6]
  match a with
  | ⟨0, _⟩ => show 0 * 256 + f.val = f.val; omega
  | ⟨1, _⟩ => show 0 * 1024 + n.val = n.val; omega

theorem gain_at (c : Dev nD) (t : Fin grid0.N) (u : Fin 1) (n : Fin 1024) :
    iblk m c 7 t (ix2 u n) = m ((c : Thread nD τ).loc main_arg7) (ix2 (3 : Fin 4) n) := by
  show V m c main_v9 ((win0_7.rect t).emb (ix2 u n)) = _
  refine Eq.trans (congrArg (V m c main_v9) (funext fun a => Fin.ext ?_)) (gain_apply m c u n)
  refine (Pipeline.Window.rect_emb_val win0_7 t (ix2 u n) a).trans ?_
  rw [index7]
  match a with
  | ⟨0, _⟩ => show 0 * 1 + u.val = u.val; omega
  | ⟨1, _⟩ => show 0 * 1024 + n.val = n.val; omega

theorem offset_at (c : Dev nD) (t : Fin grid0.N) (u : Fin 1) (n : Fin 1024) :
    iblk m c 8 t (ix2 u n) = m ((c : Thread nD τ).loc main_arg8) (ix2 (3 : Fin 4) n) := by
  show V m c main_v12 ((win0_8.rect t).emb (ix2 u n)) = _
  refine Eq.trans (congrArg (V m c main_v12) (funext fun a => Fin.ext ?_)) (offset_apply m c u n)
  refine (Pipeline.Window.rect_emb_val win0_8 t (ix2 u n) a).trans ?_
  rw [index8]
  match a with
  | ⟨0, _⟩ => show 0 * 1 + u.val = u.val; omega
  | ⟨1, _⟩ => show 0 * 1024 + n.val = n.val; omega

theorem place_at (t : Fin grid0.N) (u : Fin 1) (r : Fin 256) (n : Fin 1024) :
    ((win0_9.rect t).emb (ix3 u r n) : S8x2304x1024.Idx) = ix3 (entryAt t) (posAt t r) n := by
  refine funext fun a => Fin.ext ?_
  refine (Pipeline.Window.rect_emb_val win0_9 t (ix3 u r n) a).trans ?_
  rw [index9]
  have hu : u.val < 1 := u.isLt
  match a with
  | ⟨0, _⟩ => show t.val / 9 * 1 + u.val = t.val / 9; omega
  | ⟨1, _⟩ => show t.val % 9 * 256 + r.val = 256 * (t.val % 9) + r.val; omega
  | ⟨2, _⟩ => show 0 * 1024 + n.val = n.val; omega

/-! ## The result -/

/-- The result as the launch's arrays give it. -/
abbrev resultOf (c : Dev nD) : Vec Ideal S8x2304x1024 .f32 :=
  combined (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What a point leaves, at row `r` and column `n` of its tile. -/
theorem after_apply (c : Dev nD) (t : Fin grid0.N) (u : Fin 1) (r : Fin 256) (n : Fin 1024) :
    (dats m 0 c).after 9 t (ix3 u r n) = resultOf m c (ix3 (entryAt t) (posAt t r) n) := by
  rw [after0_9]
  refine (out_apply _ _ _ _ _ _ _ _ _ u r n).trans ?_
  show _ = tokenRow _ _ _ _ _ _ _ _ _ (entryAt t) (posAt t r) n
  unfold tokenRow
  simp only [rows_at, weights_at, tokens_at, residual_at, modulation_at m c t r, gateUp_at, down_at, gain_at, offset_at]

/-- A view's set holds what it places. -/
theorem held {sp : Space} {s : Shape} {e : EltTy} (v : View sig .tc sp s e) (y : s.Idx) (i : v.ty.Idx) (h : v.emb y = i) : i ∈ v.set :=
  h ▸ View.emb_mem_set v y

/-- The point of the grid that holds position `s` of batch entry `b`. -/
def point (b : Fin 8) (s : Fin 2304) : Fin grid0.N := ⟨b.val * 9 + s.val / 256, by rw [N_0]; omega⟩

/-- The call's result is the combination. -/
theorem result_eq (c : Dev nD) : (dats m 0 c).arrAt 9 cfg0.N = resultOf m c := by
  refine (dats m 0 c).arrAt_eq_of_emb 9 (resultOf m c) (fun t _ (y : S1x256x1024.Idx) => ?_) (fun (i : S8x2304x1024.Idx) => ?_)
  · obtain ⟨u, r, n, rfl⟩ : ∃ (u : Fin 1) (r : Fin 256) (n : Fin 1024), y = ix3 u r n := ⟨y 0, y 1, y 2, eq_ix3 y⟩
    exact (after_apply m c t u r n).trans (congrArg (resultOf m c) (place_at t u r n).symm)
  · obtain ⟨b, s, n, rfl⟩ : ∃ (b : Fin 8) (s : Fin 2304) (n : Fin 1024), i = ix3 b s n := ⟨i 0, i 1, i 2, eq_ix3 i⟩
    refine ⟨point b s, flush0_9 _, ?_⟩
    refine held ((cfg0.win 9).blk (point b s)).view (ix3 (0 : Fin 1) (⟨s.val % 256, by omega⟩ : Fin 256) n) _ ?_
    refine (place_at (point b s) 0 ⟨s.val % 256, by omega⟩ n).trans ?_
    have hb : b.val < 8 := b.isLt
    have hs : s.val < 2304 := s.isLt
    have e0 : entryAt (point b s) = b := Fin.ext (by show (b.val * 9 + s.val / 256) / 9 = b.val; omega)
    have e1 : posAt (point b s) ⟨s.val % 256, by omega⟩ = s :=
      Fin.ext (by show 256 * ((b.val * 9 + s.val / 256) % 9) + s.val % 256 = s.val; omega)
    rw [e0, e1]

end Cert.CombineIdeal.Combine

end
-- ==== Proof.CombineReference.lean ====
/-
  The reference's combination over the extended reals, read at a token and a column: its stages are named, and each is
  read at an entry.
-/
module

public import proofs.«01_k».proof.Proof.Gen.CombineReferenceIdeal.Run
public import proofs.«01_k».proof.Proof.CombineValue
public import Idealize.ShloMosaic.Lib.Pointwise
public import Idealize.ShloMosaic.Lib.WordCmp
public import Idealize.ShloMosaic.Lib.StableHlo.Predicate

@[expose] public section

set_option maxRecDepth 16384

noncomputable section

namespace Cert.Proof.Combine

open Idealize.ShloMosaic Cert.Proof.Moe
open Cert.CombineReferenceIdeal Cert.CombineReferenceIdeal.Gen Cert.CombineReferenceIdeal.Value

/-! ## The stages -/

/-- The gathered rows by slot and token, the words of a row side by side. -/
def chosenWords (g : IVec S294912x256 32) : IVec S8x18432x512 32 :=
  shapeCast S8x18432x512 (transpose S8x18432x2x256 [1, 2, 0, 3] (shapeCast S2x8x18432x256 g shapeCasts_S294912x256_S2x8x18432x256)
    transposes_S2x8x18432x256_S8x18432x2x256_1_2_0_3) shapeCasts_S8x18432x2x256_S8x18432x512

/-- The rows they spell. -/
def chosenOf (v : IVec S8x18432x512 32) : FVec Ideal S8x18432x1024 .f32 :=
  bitcastToFloat (F := Ideal) .f32 (concatenate S8x18432x1024 2
    [⟨S8x18432x512, andi (id v) (broadcastInDim S8x18432x512 ![] bcast_S_S8x18432x512 (constantI S_ 32 4294901760#32))⟩,
      ⟨S8x18432x512, Host.shli (id v) (broadcastInDim S8x18432x512 ![] bcast_S_S8x18432x512 (constantI S_ 32 16#32))⟩]
    concatenates_S8x18432x512_S8x18432x512_S8x18432x1024_d2)

/-- The tokens' words, and the rows they spell. -/
def tokenWords (h : IVec S2x8x2304x256 32) : IVec S18432x512 32 :=
  shapeCast S18432x512 (transpose S18432x2x256 [1, 0, 2] (shapeCast S2x18432x256 h shapeCasts_S2x8x2304x256_S2x18432x256)
    transposes_S2x18432x256_S18432x2x256_1_0_2) shapeCasts_S18432x2x256_S18432x512

def tokensOf (v : IVec S18432x512 32) : FVec Ideal S18432x1024 .f32 :=
  bitcastToFloat (F := Ideal) .f32 (concatenate S18432x1024 1
    [⟨S18432x512, andi (id v) (broadcastInDim S18432x512 ![] bcast_S_S18432x512 (constantI S_ 32 4294901760#32))⟩,
      ⟨S18432x512, Host.shli (id v) (broadcastInDim S18432x512 ![] bcast_S_S18432x512 (constantI S_ 32 16#32))⟩]
    concatenates_S18432x512_S18432x512_S18432x1024_d1)

/-- The routed rows, weighted and added. -/
def routedOf (w : FVec Ideal S18432x8 .f32) (X : FVec Ideal S8x18432x1024 .f32) : FVec Ideal S18432x1024 .f32 :=
  Host.reduceAdd (mulf (broadcastInDim S8x18432x1024 ![0, 1, 2] bcast_S8x18432x1_S8x18432x1024_0_1_2
      (broadcastInDim S8x18432x1 ![0, 1] bcast_S8x18432_S8x18432x1_0_1 (transpose S8x18432 [1, 0] w transposes_S18432x8_S8x18432_1_0))) X)
    (constant S_ .f32 0x00000000#32) reducesTo_S8x18432x1024_S18432x1024_d0 h_S_

/-- The shared expert's hidden values from the gate and up products, and its rows. -/
def hiddenOf (z : FVec Ideal S18432x512 .f32) : FVec Ideal S18432x256 .f32 :=
  mulf (mulf (extractStridedSlice S18432x256 ![0, 0] z slices_S18432x512_S18432x256_0_0)
      (Host.divf (broadcastInDim S18432x256 ![] bcast_S_S18432x256 (constant S_ .f32 0x3F800000#32))
        (addf (broadcastInDim S18432x256 ![] bcast_S_S18432x256 (constant S_ .f32 0x3F800000#32))
          (Host.exp (Host.negf (extractStridedSlice S18432x256 ![0, 0] z slices_S18432x512_S18432x256_0_0))))))
    (extractStridedSlice S18432x256 ![0, 256] z slices_S18432x512_S18432x256_0_256)

def sharedOf (X : FVec Ideal S18432x1024 .f32) (gu : FVec Ideal S4x1024x512 .f32) (d : FVec Ideal S4x256x1024 .f32) : FVec Ideal S18432x1024 .f32 :=
  Host.dotGeneral dot_S18432x256_S256x1024_S18432x1024_1_0_0_1_n_n none
    (hiddenOf (Host.dotGeneral dot_S18432x1024_S1024x512_S18432x512_1_0_0_1_n_n none X
      (shapeCast S1024x512 (extractStridedSlice S1x1024x512 ![3, 0, 0] gu slices_S4x1024x512_S1x1024x512_3_0_0) shapeCasts_S1x1024x512_S1024x512)))
    (shapeCast S256x1024 (extractStridedSlice S1x256x1024 ![3, 0, 0] d slices_S4x256x1024_S1x256x1024_3_0_0) shapeCasts_S1x256x1024_S256x1024)

/-- The modulation each token takes. -/
def scaleOf (c : FVec Ideal S16x1x1024 .f32) : FVec Ideal S8x2304x1024 .f32 :=
  select (broadcastInDim S8x2304x1024 ![0, 1, 2] bcast_S1x2304x1_S8x2304x1024_0_1_2
      (cmpi .slt (broadcastInDim S1x2304x1 ![1] bcast_S2304_S1x2304x1_1 (iotaInDim S2304 32 0))
        (broadcastInDim S1x2304x1 ![] bcast_S_S1x2304x1 (constantI S_ 32 256#32))))
    (broadcastInDim S8x2304x1024 ![1, 2] bcast_S1x1024_S8x2304x1024_1_2
      (shapeCast S1x1024 (extractStridedSlice S1x1x1024 ![8, 0, 0] c slices_S16x1x1024_S1x1x1024_8_0_0) shapeCasts_S1x1x1024_S1x1024))
    (broadcastInDim S8x2304x1024 ![0, 1, 2] bcast_S8x1x1024_S8x2304x1024_0_1_2
      (extractStridedSlice S8x1x1024 ![0, 0, 0] c slices_S16x1x1024_S8x1x1024_0_0_0))

/-- The residual step. -/
def steppedOf (x s f : FVec Ideal S8x2304x1024 .f32) : FVec Ideal S8x2304x1024 .f32 :=
  addf (mulf (broadcastInDim S8x2304x1024 ![] bcast_S_S8x2304x1024 (constant S_ .f32 0x3FD744FD#32)) x) (mulf s f)

/-- The mean of each row. -/
def meanOf (y : FVec Ideal S8x2304x1024 .f32) : FVec Ideal S8x2304x1 .f32 :=
  Host.divf (broadcastInDim S8x2304x1 ![0, 1] bcast_S8x2304_S8x2304x1_0_1
      (Host.reduceAdd y (constant S_ .f32 0x00000000#32) reducesTo_S8x2304x1024_S8x2304_d2 h_S_))
    (broadcastInDim S8x2304x1 ![] bcast_S_S8x2304x1 (constant S_ .f32 0x44800000#32))

/-- Each row less its mean. -/
def centredOf (y : FVec Ideal S8x2304x1024 .f32) : FVec Ideal S8x2304x1024 .f32 :=
  subf y (broadcastInDim S8x2304x1024 ![0, 1, 2] bcast_S8x2304x1_S8x2304x1024_0_1_2 (meanOf y))

/-- A gain or an offset, at every token. -/
def everywhere (g : FVec Ideal S4x1024 .f32) : FVec Ideal S8x2304x1024 .f32 :=
  broadcastInDim S8x2304x1024 ![0, 1, 2] bcast_S1x1x1024_S8x2304x1024_0_1_2 (broadcastInDim S1x1x1024 ![2] bcast_S1024_S1x1x1024_2
    (shapeCast S1024 (extractStridedSlice S1x1024 ![3, 0] g slices_S4x1024_S1x1024_3_0) shapeCasts_S1x1024_S1024))

/-- The layer norm. -/
def normedOf (y : FVec Ideal S8x2304x1024 .f32) (lg lb : FVec Ideal S4x1024 .f32) : FVec Ideal S8x2304x1024 .f32 :=
  addf (mulf (mulf (centredOf y) (broadcastInDim S8x2304x1024 ![0, 1, 2] bcast_S8x2304x1_S8x2304x1024_0_1_2
      (Host.rsqrt (addf (meanOf (mulf (centredOf y) (centredOf y))) (broadcastInDim S8x2304x1 ![] bcast_S_S8x2304x1 (constant S_ .f32 0x358637BD#32))))))
    (everywhere lg)) (everywhere lb)

theorem res_eq (m : (ℓ : Loc nD τ sig) → Buf (Elt Ideal) ℓ) (c : Dev nD) :
    res_main_v82 m c = normedOf (steppedOf (m ((c.tc : Thread nD τ).loc main_arg3))
      (scaleOf (extractStridedSlice S16x1x1024 ![0, 0, 5120] (m ((c.tc : Thread nD τ).loc main_arg4)) slices_S16x1x6144_S16x1x1024_0_0_5120))
      (shapeCast S8x2304x1024 (addf (routedOf (m ((c.tc : Thread nD τ).loc main_arg1)) (chosenOf (chosenWords (m ((c.tc : Thread nD τ).loc main_arg0)))))
        (sharedOf (tokensOf (tokenWords (m ((c.tc : Thread nD τ).loc main_arg2)))) (m ((c.tc : Thread nD τ).loc main_arg5))
          (m ((c.tc : Thread nD τ).loc main_arg6)))) shapeCasts_S18432x1024_S8x2304x1024))
      (m ((c.tc : Thread nD τ).loc main_arg7)) (m ((c.tc : Thread nD τ).loc main_arg8)) := by
  unfold res_main_v82
  rfl

/-! ## Each read at an entry -/

theorem chosenWords_apply (g : IVec S294912x256 32) (k : Fin 8) (s : Fin 18432) (q : Fin 512) :
    chosenWords g (ix3 k s q) = g (ix2 (gatheredRow ⟨q.val / 256, by omega⟩ k s) ⟨q.val % 256, by omega⟩) := by
  unfold chosenWords
  generalize hX : shapeCast S2x8x18432x256 g shapeCasts_S294912x256_S2x8x18432x256 = X
  have e : ∀ p k s j, X (ix4 p k s j) = g (ix2 (gatheredRow p k s) j) := fun p k s j => by
    rw [← hX, ix4_eq_valueIdx, ix2_eq_valueIdx]
    exact gathered_apply _ _ p k s j
  pointwise
  exact e _ _ _ _

theorem tokenWords_apply (h : IVec S2x8x2304x256 32) (b : Fin 8) (s : Fin 2304) (q : Fin 512) :
    tokenWords h (ix2 (tokenOf b s) q) = h (ix4 ⟨q.val / 256, by omega⟩ b s ⟨q.val % 256, by omega⟩) := by
  unfold tokenWords
  pointwise
  refine congrArg h (funext fun a => Fin.ext ?_)
  have hb : b.val < 8 := b.isLt
  have hs : s.val < 2304 := s.isLt
  match a with
  | ⟨0, _⟩ => rfl
  | ⟨1, _⟩ => show (2304 * b.val + s.val) / 2304 = b.val; omega
  | ⟨2, _⟩ => show (2304 * b.val + s.val) % 2304 = s.val; omega
  | ⟨3, _⟩ => rfl

theorem chosenOf_apply (v : IVec S8x18432x512 32) (k : Fin 8) (s : Fin 18432) (n : Fin 1024) :
    chosenOf v (ix3 k s n) = column (fun p j => v (ix3 k s (⟨256 * p.val + j.val, by omega⟩ : Fin 512))) n := by
  unfold chosenOf
  pointwise
  have hn : n.val < 1024 := n.isLt
  unfold column half
  by_cases h0 : n.val < 512
  · rw [dif_pos h0, if_pos (by omega : n.val / 512 = 0)]
    have e : (⟨n.val, h0⟩ : Fin 512) = ⟨256 * (n.val % 512 / 256) + n.val % 256, by omega⟩ := Fin.ext (by show n.val = 256 * (n.val % 512 / 256) + n.val % 256; omega)
    rw [e]
    rfl
  · rw [dif_neg h0, if_neg (by omega : ¬ n.val / 512 = 0)]
    have e : (⟨n.val - 512, by omega⟩ : Fin 512) = ⟨256 * (n.val % 512 / 256) + n.val % 256, by omega⟩ :=
      Fin.ext (by show n.val - 512 = 256 * (n.val % 512 / 256) + n.val % 256; omega)
    rw [e]
    exact half_low _ _

theorem tokensOf_apply (v : IVec S18432x512 32) (s : Fin 18432) (n : Fin 1024) :
    tokensOf v (ix2 s n) = column (fun p j => v (ix2 s (⟨256 * p.val + j.val, by omega⟩ : Fin 512))) n := by
  unfold tokensOf
  pointwise
  have hn : n.val < 1024 := n.isLt
  unfold column half
  by_cases h0 : n.val < 512
  · rw [dif_pos h0, if_pos (by omega : n.val / 512 = 0)]
    have e : (⟨n.val, h0⟩ : Fin 512) = ⟨256 * (n.val % 512 / 256) + n.val % 256, by omega⟩ := Fin.ext (by show n.val = 256 * (n.val % 512 / 256) + n.val % 256; omega)
    rw [e]
    rfl
  · rw [dif_neg h0, if_neg (by omega : ¬ n.val / 512 = 0)]
    have e : (⟨n.val - 512, by omega⟩ : Fin 512) = ⟨256 * (n.val % 512 / 256) + n.val % 256, by omega⟩ :=
      Fin.ext (by show n.val - 512 = 256 * (n.val % 512 / 256) + n.val % 256; omega)
    rw [e]
    exact half_low _ _

theorem routedOf_apply (w : FVec Ideal S18432x8 .f32) (X : FVec Ideal S8x18432x1024 .f32) (s : Fin 18432) (n : Fin 1024) :
    routedOf w X (ix2 s n) = ∑ k : Fin 8, w (ix2 s k) * X (ix3 k s n) := by
  unfold routedOf
  pointwise

theorem sharedOf_apply (X : FVec Ideal S18432x1024 .f32) (gu : FVec Ideal S4x1024x512 .f32) (d : FVec Ideal S4x256x1024 .f32) (s : Fin 18432) (n : Fin 1024) :
    sharedOf X gu d (ix2 s n) = expertAt (fun k => X (ix2 s k)) (fun k f => gu (ix3 3 k f)) (fun f n => d (ix3 3 f n)) n := by
  unfold sharedOf hiddenOf
  pointwise
  unfold expertAt gated
  rfl

theorem scaleOf_apply (c : FVec Ideal S16x1x1024 .f32) (b : Fin 8) (s : Fin 2304) (n : Fin 1024) :
    scaleOf c (ix3 b s n) = c (ix3 (modRow b s) 0 n) := by
  unfold scaleOf
  pointwise
  have hs : s.val < 2304 := s.isLt
  show (if IntOp.cmpi .slt (BitVec.ofNat 32 s.val) (BitVec.ofNat 32 256) = 1#1 then _ else _) = _
  simp only [WordCmp.cmpi_slt_ofNat_eq_one_iff (w := 32) (show s.val < 2 ^ 31 by omega) (show 256 < 2 ^ 31 by omega)]
  unfold modRow
  by_cases h : s.val < 256
  · rw [if_pos h, if_pos h]
  · rw [if_neg h, if_neg h]

theorem meanOf_apply (y : FVec Ideal S8x2304x1024 .f32) (b : Fin 8) (s : Fin 2304) (u : Fin 1) :
    meanOf y (ix3 b s u) = mean fun n => y (ix3 b s n) := by
  unfold meanOf
  pointwise
  rfl

theorem centredOf_apply (y : FVec Ideal S8x2304x1024 .f32) (b : Fin 8) (s : Fin 2304) (n : Fin 1024) :
    centredOf y (ix3 b s n) = y (ix3 b s n) - mean fun n => y (ix3 b s n) := by
  unfold centredOf
  generalize hM : meanOf y = M
  pointwise
  subst hM
  rw [meanOf_apply]

theorem everywhere_apply (g : FVec Ideal S4x1024 .f32) (b : Fin 8) (s : Fin 2304) (n : Fin 1024) :
    everywhere g (ix3 b s n) = g (ix2 3 n) := by
  unfold everywhere
  pointwise

theorem normedOf_apply (y : FVec Ideal S8x2304x1024 .f32) (lg lb : FVec Ideal S4x1024 .f32) (b : Fin 8) (s : Fin 2304) (n : Fin 1024) :
    normedOf y lg lb (ix3 b s n) = normed (fun j => y (ix3 b s j)) (fun j => lg (ix2 3 j)) (fun j => lb (ix2 3 j)) n := by
  have hM := meanOf_apply (mulf (centredOf y) (centredOf y)) b s
  have hC := centredOf_apply y b s
  unfold normedOf
  generalize meanOf (mulf (centredOf y) (centredOf y)) = M at hM ⊢
  generalize hc : centredOf y = C at hC hM ⊢
  generalize hG : everywhere lg = G
  generalize hB : everywhere lb = B
  pointwise
  subst hG hB
  have hS : ∀ j, mulf C C (ix3 b s j) = C (ix3 b s j) * C (ix3 b s j) := fun _ => rfl
  simp only [everywhere_apply, hM, hS, hC]
  rfl

theorem steppedOf_apply (x s f : FVec Ideal S8x2304x1024 .f32) (b : Fin 8) (r : Fin 2304) (n : Fin 1024) :
    steppedOf x s f (ix3 b r n) = stepped (fun j => x (ix3 b r j)) (fun j => s (ix3 b r j)) (fun j => f (ix3 b r j)) n := by
  unfold steppedOf
  pointwise
  rfl

/-- The rows of the tokens, and those of each batch entry's. -/
theorem byEntry_apply (f : FVec Ideal S18432x1024 .f32) (b : Fin 8) (s : Fin 2304) (n : Fin 1024) :
    shapeCast S8x2304x1024 f shapeCasts_S18432x1024_S8x2304x1024 (ix3 b s n) = f (ix2 (tokenOf b s) n) :=
  shapeCast_apply f _ _ _ (by
    rw [ix3_eq_valueIdx, ix2_eq_valueIdx, Shape.rowMajor_val_three, Shape.rowMajor_val_two]
    show (2304 * b.val + s.val) * 1024 + n.val = (b.val * 2304 + s.val) * 1024 + n.val
    omega)

/-- The modulation's last sixth. -/
theorem sixth_apply (c : FVec Ideal S16x1x6144 .f32) (q : Fin 16) (u : Fin 1) (n : Fin 1024) :
    extractStridedSlice S16x1x1024 ![0, 0, 5120] c slices_S16x1x6144_S16x1x1024_0_0_5120 (ix3 q u n) = c (ix3 q 0 (⟨5120 + n.val, by omega⟩ : Fin 6144)) := by
  pointwise

/-- The mixed rows of the reference, at a token. -/
theorem mixed_apply (g : IVec S294912x256 32) (w : FVec Ideal S18432x8 .f32) (h : IVec S2x8x2304x256 32) (gu : FVec Ideal S4x1024x512 .f32)
    (d : FVec Ideal S4x256x1024 .f32) (b : Fin 8) (s : Fin 2304) (n : Fin 1024) :
    addf (routedOf w (chosenOf (chosenWords g))) (sharedOf (tokensOf (tokenWords h)) gu d) (ix2 (tokenOf b s) n)
      = mixed (fun k => w (ix2 (tokenOf b s) k)) (fun k => column fun p j => g (ix2 (gatheredRow p k (tokenOf b s)) j))
        (expertAt (column fun p j => h (ix4 p b s j)) (fun k f => gu (ix3 3 k f)) (fun f n => d (ix3 3 f n))) n := by
  have e1 : ∀ (k : Fin 8) (t : Fin 18432) (n : Fin 1024),
      chosenOf (chosenWords g) (ix3 k t n) = column (fun p j => g (ix2 (gatheredRow p k t) j)) n := fun k t n => by
    rw [chosenOf_apply]
    refine congrArg (fun x => column x n) (funext fun p => funext fun j => ?_)
    rw [chosenWords_apply]
    exact congrArg₂ (fun q r => g (ix2 (gatheredRow q k t) r)) (Fin.ext (by show (256 * p.val + j.val) / 256 = p.val; omega))
      (Fin.ext (by show (256 * p.val + j.val) % 256 = j.val; omega))
  have e2 : ∀ n : Fin 1024, tokensOf (tokenWords h) (ix2 (tokenOf b s) n) = column (fun p j => h (ix4 p b s j)) n := fun n => by
    rw [tokensOf_apply]
    refine congrArg (fun x => column x n) (funext fun p => funext fun j => ?_)
    rw [tokenWords_apply]
    exact congrArg₂ (fun q r => h (ix4 q b s r)) (Fin.ext (by show (256 * p.val + j.val) / 256 = p.val; omega))
      (Fin.ext (by show (256 * p.val + j.val) % 256 = j.val; omega))
  generalize chosenOf (chosenWords g) = X at e1 ⊢
  generalize tokensOf (tokenWords h) = Y at e2 ⊢
  show routedOf w X (ix2 (tokenOf b s) n) + sharedOf Y gu d (ix2 (tokenOf b s) n) = _
  rw [routedOf_apply, sharedOf_apply]
  unfold mixed
  simp only [e1, e2]

/-- The reference's result at token `s` of batch entry `b`, column `n`. -/
theorem res_apply (m : (ℓ : Loc nD τ sig) → Buf (Elt Ideal) ℓ) (c : Dev nD) (b : Fin 8) (s : Fin 2304) (n : Fin 1024) :
    res_main_v82 m c (ix3 b s n) = Cert.CombineIdeal.Combine.tokenRow (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) b s n := by
  have hM := mixed_apply (m ((c.tc : Thread nD τ).loc main_arg0)) (m ((c.tc : Thread nD τ).loc main_arg1)) (m ((c.tc : Thread nD τ).loc main_arg2))
    (m ((c.tc : Thread nD τ).loc main_arg5)) (m ((c.tc : Thread nD τ).loc main_arg6)) b s
  rw [res_eq, normedOf_apply]
  unfold Cert.CombineIdeal.Combine.tokenRow
  generalize addf (routedOf _ _) (sharedOf _ _ _) = f at hM ⊢
  generalize hZ : shapeCast S8x2304x1024 f shapeCasts_S18432x1024_S8x2304x1024 = Z
  have hF : ∀ n, Z (ix3 b s n) = _ := fun n => (congrFun hZ.symm _).trans ((byEntry_apply f b s n).trans (hM n))
  clear hM hZ
  generalize hC : extractStridedSlice S16x1x1024 ![0, 0, 5120] (m ((c.tc : Thread nD τ).loc main_arg4)) slices_S16x1x6144_S16x1x1024_0_0_5120 = C
  have hc : ∀ (q : Fin 16) (u : Fin 1) (n : Fin 1024), C (ix3 q u n) = _ := fun q u n => (congrFun hC.symm _).trans (sixth_apply _ q u n)
  clear hC
  refine congrArg (fun y => normed y (fun j => m ((c.tc : Thread nD τ).loc main_arg7) (ix2 3 j)) (fun j => m ((c.tc : Thread nD τ).loc main_arg8) (ix2 3 j)) n)
    (funext fun j => (steppedOf_apply _ _ _ b s j).trans ?_)
  unfold stepped
  simp only [scaleOf_apply, hc, hF]

end Cert.Proof.Combine

end
-- ==== Proof.CombineClaims.lean ====
/-
  The combination of the experts' rows with the shared expert: the frames of its programs, and that its reference
  computes the same rows.
-/
module

public import proofs.«01_k».proof.Defs
public import proofs.«01_k».proof.Proof.CombineValue
public import proofs.«01_k».proof.Proof.CombineReference
public import proofs.«01_k».proof.Proof.Gen.CombineReferenceIdeal.Run
public import Idealize.ShloMosaic.Lib.Claim
public import Idealize.ShloMosaic.Lib.Quiescent

@[expose] public section

set_option maxRecDepth 16384

noncomputable section

namespace Cert.Proof.Combine

open Idealize.ShloMosaic Idealize.ShloMosaic.TcCoe Idealize.SL.Sem

/-- What the program states of its shapes and windows: the same as its ideal reading. -/
instance combine_facts₀ : Cert.Combine.Facts₀ := { Cert.CombineIdeal.Gen.facts₀ with }

instance combine_facts : Cert.Combine.Facts := { combine_facts₀ with }

/-- The same body, and so the same definitions, at bits. -/
theorem body_table_eq : Cert.Combine.defs₀ (F := Bits) = Cert.CombineIdeal.defs₀ := by
  unfold Cert.Combine.defs₀ Cert.CombineIdeal.defs₀
  refine congrArg Defs.onTc (funext fun ℓ => funext fun a => ?_)
  match ℓ, a with
  | 0, (t, s) => rfl

theorem defs_eq : Cert.Combine.defs (F := Bits) = Cert.CombineIdeal.defs := by
  unfold Cert.Combine.defs
  rw [body_table_eq]
  rfl

set_option maxHeartbeats 4000000 in
/-- So is its text: the host's operations, then the call. -/
theorem main_eq : Cert.Combine.main (F := Bits) = Cert.CombineIdeal.main := by
  unfold Cert.Combine.main Cert.CombineIdeal.main
  rfl

theorem frame_ideal : Cert.quiescent_CombineIdeal := fun m ρ _ => Cert.CombineIdeal.Gen.frame (F := Ideal) m ρ

theorem frame_bits : Cert.quiescent_Combine := fun m ρ _ => by
  rw [defs_eq, main_eq]
  exact Cert.CombineIdeal.Gen.frame (F := Bits) m ρ

theorem frame_reference : Cert.quiescent_CombineReferenceIdeal := fun m ρ _ =>
  (θ_run Cert.CombineReferenceIdeal.defs _ _).mono
    (fun r h => ⟨fun c => (h c).2, sem_eq_zero_of_no_sems (by decide) r.2⟩) (Cert.CombineReferenceIdeal.Value.run (F := Ideal) m ρ)

/-- The reference's result is the combination of its arguments. -/
theorem reference_eq (m : (ℓ : Loc Cert.CombineReferenceIdeal.nD Cert.CombineReferenceIdeal.τ Cert.CombineReferenceIdeal.sig) → Buf (Elt Ideal) ℓ)
    (c : Dev Cert.CombineReferenceIdeal.nD) :
    Cert.CombineReferenceIdeal.Value.res_main_v82 m c = Cert.CombineIdeal.Combine.combined
      (m ((c.tc : Thread Cert.CombineReferenceIdeal.nD Cert.CombineReferenceIdeal.τ).loc Cert.CombineReferenceIdeal.main_arg0))
      (m ((c.tc : Thread Cert.CombineReferenceIdeal.nD Cert.CombineReferenceIdeal.τ).loc Cert.CombineReferenceIdeal.main_arg1))
      (m ((c.tc : Thread Cert.CombineReferenceIdeal.nD Cert.CombineReferenceIdeal.τ).loc Cert.CombineReferenceIdeal.main_arg2))
      (m ((c.tc : Thread Cert.CombineReferenceIdeal.nD Cert.CombineReferenceIdeal.τ).loc Cert.CombineReferenceIdeal.main_arg3))
      (m ((c.tc : Thread Cert.CombineReferenceIdeal.nD Cert.CombineReferenceIdeal.τ).loc Cert.CombineReferenceIdeal.main_arg4))
      (m ((c.tc : Thread Cert.CombineReferenceIdeal.nD Cert.CombineReferenceIdeal.τ).loc Cert.CombineReferenceIdeal.main_arg5))
      (m ((c.tc : Thread Cert.CombineReferenceIdeal.nD Cert.CombineReferenceIdeal.τ).loc Cert.CombineReferenceIdeal.main_arg6))
      (m ((c.tc : Thread Cert.CombineReferenceIdeal.nD Cert.CombineReferenceIdeal.τ).loc Cert.CombineReferenceIdeal.main_arg7))
      (m ((c.tc : Thread Cert.CombineReferenceIdeal.nD Cert.CombineReferenceIdeal.τ).loc Cert.CombineReferenceIdeal.main_arg8)) := by
  funext (y : Cert.CombineReferenceIdeal.S8x2304x1024.Idx)
  obtain ⟨b, s, n, rfl⟩ : ∃ (b : Fin 8) (s : Fin 2304) (n : Fin 1024), y = ix3 b s n := ⟨y 0, y 1, y 2, eq_ix3 y⟩
  exact res_apply m c b s n

/-- Over the extended reals kernel and reference compute the same rows. -/
theorem algebraic : Cert.algebraic_CombineIdeal_CombineReferenceIdeal := by
  intro m g m' g' _ hargs
  refine ⟨fun c => Cert.CombineIdeal.Combine.resultOf m c, ?_, ?_⟩
  · exact (θ_run Cert.CombineIdeal.defs _ _).mono (fun _ h c => ⟨(h c).1.trans (Cert.CombineIdeal.Combine.result_eq m c), (h c).2⟩)
      (Cert.CombineIdeal.Value.run_blocks (F := Ideal) m g)
  · refine (θ_run Cert.CombineReferenceIdeal.defs _ _).mono (fun _ h c => ⟨(h c).1.trans ?_, (h c).2⟩)
      (Cert.CombineReferenceIdeal.Value.run (F := Ideal) m' g')
    obtain ⟨a0, a1, a2, a3, a4, a5, a6, a7, a8⟩ := hargs c
    refine (reference_eq m' c).trans ?_
    rw [a0, a1, a2, a3, a4, a5, a6, a7, a8]

end Cert.Proof.Combine

end
-- ==== Proof.AttendMath.lean ====
/-
  The attention of one query, as a sum over keys: every key's score less the greatest, two to that power, and the values
  averaged with those weights. Over 2304 keys the greatest score and the sums may be taken 768 keys at a time.
-/
module

public import Idealize.ShloMosaic.PureOps.Ideal
public import Idealize.ShloMosaic.Lib.Pointwise

@[expose] public section

noncomputable section

namespace Cert.Proof.Attend

open Idealize.ShloMosaic

/-- The greatest of some scores. -/
def top {N : ℕ} (s : Fin N → EReal) : EReal := Finset.univ.fold max (Ideal.ofBits .f32 0xFF800000#32) s

/-- Two to the power of a score less the greatest. -/
def weight {N : ℕ} (s : Fin N → EReal) (j : Fin N) : EReal := Ideal.exp2 (s j - top s)

/-- The weighted sum of values `v` over the weighted sum of `w`. -/
def blended {N : ℕ} (s v w : Fin N → EReal) : EReal := Ideal.div (∑ j, weight s j * v j) (∑ j, weight s j * w j)

/-- The average of values `v`, weighted by the scores `s`. -/
def attendAt {N : ℕ} (s v : Fin N → EReal) : EReal := Ideal.div (∑ j, weight s j * v j) (∑ j, weight s j)

theorem blended_ones {N : ℕ} (s v w : Fin N → EReal) (h : ∀ j, w j = 1) : blended s v w = attendAt s v := by
  unfold blended attendAt
  simp only [h, mul_one]

/-- Key `j` of chunk `q`. -/
def keyOf (q : Fin 3) (j : Fin 768) : Fin 2304 := ⟨768 * q.val + j.val, by omega⟩

/-- A sum over the keys is the sum of the chunks' sums. -/
theorem sum_keys (f : Fin 2304 → EReal) :
    ∑ k, f k = (∑ j, f (keyOf 0 j)) + (∑ j, f (keyOf 1 j)) + ∑ j, f (keyOf 2 j) := by
  have e : ∑ p : Fin 3 × Fin 768, f (keyOf p.1 p.2) = ∑ k, f k :=
    Fintype.sum_equiv (finProdFinEquiv (m := 3) (n := 768)) _ f fun p =>
      congrArg f (Fin.ext (by show 768 * p.1.val + p.2.val = p.2.val + 768 * p.1.val; omega))
  rw [← e, Fintype.sum_prod_type, Fin.sum_univ_three]

/-- The greatest score is the greatest of the chunks' greatest. -/
theorem top_keys (s : Fin 2304 → EReal) :
    top s = max (max (top fun j => s (keyOf 0 j)) (top fun j => s (keyOf 1 j))) (top fun j => s (keyOf 2 j)) := by
  unfold top
  refine eq_of_forall_ge_iff fun c => ?_
  simp only [max_le_iff, Finset.fold_max_le, Finset.mem_univ, true_implies]
  constructor
  · exact fun h => ⟨⟨⟨h.1, fun j => h.2 _⟩, h.1, fun j => h.2 _⟩, h.1, fun j => h.2 _⟩
  · rintro ⟨⟨⟨hb, h0⟩, -, h1⟩, -, h2⟩
    refine ⟨hb, fun k => ?_⟩
    have hk : k.val < 2304 := k.isLt
    by_cases a : k.val < 768
    · have e : keyOf 0 ⟨k.val, a⟩ = k := Fin.ext (by show 768 * 0 + k.val = k.val; omega)
      exact e ▸ h0 ⟨k.val, a⟩
    by_cases b : k.val < 1536
    · have e : keyOf 1 ⟨k.val - 768, by omega⟩ = k := Fin.ext (by show 768 * 1 + (k.val - 768) = k.val; omega)
      exact e ▸ h1 ⟨k.val - 768, by omega⟩
    · have e : keyOf 2 ⟨k.val - 1536, by omega⟩ = k := Fin.ext (by show 768 * 2 + (k.val - 1536) = k.val; omega)
      exact e ▸ h2 ⟨k.val - 1536, by omega⟩

theorem two_eq : Ideal.ofBits .f32 0x40000000#32 = ((2 : ℝ) : EReal) := by
  simp [Ideal.ofBits, Ideal.ieee, -EReal.coe_mul]; norm_num

theorem one_eq : Ideal.ofBits .f32 0x3F800000#32 = (1 : EReal) := by
  simp [Ideal.ofBits, Ideal.ieee, -EReal.coe_mul]; norm_num

/-- A power of two by the general power is that by the power of two. -/
theorem pow_two_eq (x : EReal) : Ideal.pow (Ideal.ofBits .f32 0x40000000#32) x = Ideal.exp2 x := by
  rw [two_eq]
  induction x with
  | bot => show (if (2 : ℝ) < 0 then (⊥ : EReal) else if (1 : ℝ) < 2 then 0 else _) = 0; norm_num
  | top => show (if (2 : ℝ) < 0 then (⊥ : EReal) else if (1 : ℝ) < 2 then ⊤ else _) = ⊤; norm_num
  | coe r => rfl

end Cert.Proof.Attend

end
-- ==== Proof.AttendBlock.lean ====
/-
  What the attention kernel leaves of a tile of 256 queries and two heads, read at a row and a column: each head's
  product of weights and values, over that product's column 64.
-/
module

public import proofs.«01_k».proof.Proof.Gen.AttendIdeal.Value
public import proofs.«01_k».proof.Proof.AttendMath
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.AttendIdeal.Attend

open Idealize.ShloMosaic Idealize.ShloMosaic.TcCoe
open Cert.AttendIdeal.Gen Cert.Proof.Attend

/-! ## The payloads -/

/-- The scores of a row, with 256 keys. -/
def scoreOf {N : ℕ} (q : Fin 128 → EReal) (k : Fin N → Fin 128 → EReal) (j : Fin N) : EReal := ∑ c, q c * k j c

theorem product256_apply (q k v : Vec Ideal S1x256x128 .bf16) (r : Fin 256) (n : Fin 128) :
    k0_pay3 q k v (ix2 r n)
      = ∑ j : Fin 256, weight (scoreOf (fun c => q (ix3 0 r c)) fun j c => k (ix3 0 j c)) j * v (ix3 0 j n) := by
  unfold k0_pay3
  pointwise
  rfl

theorem scores_apply (q : Vec Ideal S1x256x128 .bf16) (k : Vec Ideal S1x768x128 .bf16) (r : Fin 256) (j : Fin 768) :
    k0_pay7 q k (ix2 r j) = scoreOf (fun c => q (ix3 0 r c)) (fun j c => k (ix3 0 j c)) j := by
  unfold k0_pay7
  pointwise
  rfl

theorem tops_apply (a b c : FVec Ideal S256x768 .f32) (r : Fin 256) (u : Fin 1) :
    k0_pay13 a b c (ix2 r u)
      = max (max (top fun j => a (ix2 r j)) (top fun j => b (ix2 r j))) (top fun j => c (ix2 r j)) := by
  unfold k0_pay13
  pointwise
  rfl

/-- One chunk's product of weights and values. -/
def chunk (s : FVec Ideal S256x768 .f32) (m : FVec Ideal S256x1 .f32) (v : Vec Ideal S1x768x128 .bf16) : FVec Ideal S256x128 .f32 :=
  matmul dot_S256x768_S768x128_S256x128_1_0_0_1_n_n none
    (truncf .bf16 (exp2 (subf s (broadcastTo S256x768 m broadcasts_S256x1_S256x768))) bitsLt_bf16_f32 : FVec Ideal S256x768 .bf16)
    (shapeCast S768x128 v shapeCasts_S1x768x128_S768x128 : FVec Ideal S768x128 .bf16) (constant S256x128 .f32 0x00000000#32)

theorem chunk_apply (s : FVec Ideal S256x768 .f32) (m : FVec Ideal S256x1 .f32) (v : Vec Ideal S1x768x128 .bf16) (r : Fin 256) (n : Fin 128) :
    chunk s m v (ix2 r n) = ∑ j : Fin 768, Ideal.exp2 (s (ix2 r j) - m (ix2 r 0)) * v (ix3 0 j n) := by
  unfold chunk
  pointwise
  rfl

/-- The three chunks' products, added. -/
def product (a b c : FVec Ideal S256x768 .f32) (x y z : Vec Ideal S1x768x128 .bf16) : FVec Ideal S256x128 .f32 :=
  addf (addf (addf (broadcast S256x128 (Scalar.ofBits .f32 0x00000000#32)) (chunk a (k0_pay13 a b c) x)) (chunk b (k0_pay13 a b c) y))
    (chunk c (k0_pay13 a b c) z)

theorem product_apply (a b c : FVec Ideal S256x768 .f32) (x y z : Vec Ideal S1x768x128 .bf16) (r : Fin 256) (n : Fin 128)
    (s v : Fin 2304 → EReal) (ha : ∀ j, a (ix2 r j) = s (keyOf 0 j)) (hb : ∀ j, b (ix2 r j) = s (keyOf 1 j)) (hc : ∀ j, c (ix2 r j) = s (keyOf 2 j))
    (hx : ∀ j, x (ix3 0 j n) = v (keyOf 0 j)) (hy : ∀ j, y (ix3 0 j n) = v (keyOf 1 j)) (hz : ∀ j, z (ix3 0 j n) = v (keyOf 2 j)) :
    product a b c x y z (ix2 r n) = ∑ j, weight s j * v j := by
  have hm := tops_apply a b c r 0
  unfold product
  generalize k0_pay13 a b c = M at hm ⊢
  show (Ideal.ofBits .f32 0x00000000#32 + chunk a M x (ix2 r n)) + chunk b M y (ix2 r n) + chunk c M z (ix2 r n) = _
  simp only [ha, hb, hc] at hm
  rw [← top_keys] at hm
  rw [chunk_apply, chunk_apply, chunk_apply, sum_keys]
  simp only [ha, hb, hc, hx, hy, hz, hm]
  have e0 : Ideal.ofBits .f32 0x00000000#32 = (0 : EReal) := by norm_num [Ideal.ofBits, Ideal.ieee]
  rw [e0, zero_add]
  rfl

/-- Two heads' products, each over its column 64, side by side. -/
def joined (a b : FVec Ideal S256x128 .f32) : FVec Ideal S1x256x128 .bf16 :=
  shapeCast S1x256x128 (truncf .bf16 (concatenate S256x128 1
    [⟨S256x64, divf (extractStridedSlice S256x64 ![0, 0] a slices_S256x128_o0_0_S256x64)
        (broadcastTo S256x64 (extractStridedSlice S256x1 ![0, 64] a slices_S256x128_o0_64_S256x1) broadcasts_S256x1_S256x64)⟩,
      ⟨S256x64, divf (extractStridedSlice S256x64 ![0, 0] b slices_S256x128_o0_0_S256x64)
        (broadcastTo S256x64 (extractStridedSlice S256x1 ![0, 64] b slices_S256x128_o0_64_S256x1) broadcasts_S256x1_S256x64)⟩]
    concatenates_S256x64_S256x64_S256x128_d1 : FVec Ideal S256x128 .f32) bitsLt_bf16_f32 : FVec Ideal S256x128 .bf16) shapeCasts_S256x128_S1x256x128

theorem joined_apply (a b : FVec Ideal S256x128 .f32) (u : Fin 1) (r : Fin 256) (n : Fin 128) :
    joined a b (ix3 u r n) = if n.val / 64 = 0
      then Ideal.div (a (ix2 r (⟨n.val % 64, by omega⟩ : Fin 128))) (a (ix2 r 64))
      else Ideal.div (b (ix2 r (⟨n.val % 64, by omega⟩ : Fin 128))) (b (ix2 r 64)) := by
  unfold joined
  pointwise
  have hn : n.val < 128 := n.isLt
  have hd : ∀ (k : Fin 128), k.val = n.val % 64 → ∀ f : FVec Ideal S256x128 .f32,
      Ideal.div (f (ix2 r k)) (f (ix2 r 64)) = Ideal.div (f (ix2 r (⟨n.val % 64, by omega⟩ : Fin 128))) (f (ix2 r 64)) := fun k hk f =>
    congrArg (fun k => Ideal.div (f (ix2 r k)) (f (ix2 r 64))) (Fin.ext hk)
  by_cases h : n.val < 64
  · rw [dif_pos h]
    have h0 : n.val / 64 = 0 := by omega
    exact (hd _ (by show n.val = n.val % 64; omega) a).trans (if_pos h0).symm
  · rw [dif_neg h]
    have h0 : ¬ n.val / 64 = 0 := by omega
    exact (hd _ (by show n.val - 64 = n.val % 64; omega) b).trans (if_neg h0).symm

theorem context_eq (q0 q1 k0 k1 v0 v1 : Vec Ideal S1x256x128 .bf16) :
    k0_pay1 (k0_pay4 q1 k1 v1) (k0_pay5 q0 k0 v0) (k0_pay6 q0 k0 v0) = joined (k0_pay3 q0 k0 v0) (k0_pay3 q1 k1 v1) := rfl

theorem tokens_eq (q0 q1 q2 q3 q4 q5 : Vec Ideal S1x256x128 .bf16) (k0 k1 k2 k3 k4 k5 v0 v1 v2 v3 v4 v5 : Vec Ideal S1x768x128 .bf16) :
    k0_pay2 (k0_pay19 (k0_pay8 q1 k1) (k0_pay9 q2 k2) (k0_pay11 q4 k4) (k0_pay12 q5 k5)
      (k0_pay13 (k0_pay7 q0 k0) (k0_pay8 q1 k1) (k0_pay9 q2 k2)) (k0_pay14 (k0_pay10 q3 k3) (k0_pay11 q4 k4) q5 k5) k0_pay15
      (k0_pay16 (k0_pay7 q0 k0) (k0_pay8 q1 k1) (k0_pay9 q2 k2) v0) (k0_pay17 (k0_pay10 q3 k3) (k0_pay11 q4 k4) q5 k5) (k0_pay18 v3)
      (constant S256x128 .f32 0x00000000#32) v1 v4 v2 v5)
      = joined (product (k0_pay7 q0 k0) (k0_pay7 q1 k1) (k0_pay7 q2 k2) v0 v1 v2) (product (k0_pay7 q3 k3) (k0_pay7 q4 k4) (k0_pay7 q5 k5) v3 v4 v5) := rfl

/-! ## What is left of a tile -/

/-- Column `c` of head `h` of a block of two heads. -/
def col (h : Fin 2) (c : Fin 128) : Fin 256 := ⟨128 * h.val + c.val, by omega⟩

variable (x0 : Vec Ideal S1x256x256 .bf16) (x1 x2 : Vec Ideal S1x2304x256 .bf16)

/-- The scores of query `r` of head `h` against the first `N` keys, -/
def scoresAt {N : ℕ} (hN : N ≤ 2304) (h : Fin 2) (r : Fin 256) : Fin N → EReal :=
  scoreOf (fun c => x0 (ix3 0 r (col h c))) fun j c => x1 (ix3 0 (Fin.castLE hN j) (col h c))

/-- and those keys' values in a column. -/
def valuesAt {N : ℕ} (hN : N ≤ 2304) (h : Fin 2) (d : Fin 128) (j : Fin N) : EReal := x2 (ix3 0 (Fin.castLE hN j) (col h d))

/-- What is left at row `r` and column `n`. -/
def leftAt {N : ℕ} (hN : N ≤ 2304) (r : Fin 256) (n : Fin 128) : EReal :=
  blended (scoresAt x0 x1 hN ⟨n.val / 64, by omega⟩ r) (valuesAt x2 hN ⟨n.val / 64, by omega⟩ ⟨n.val % 64, by omega⟩)
    (valuesAt x2 hN ⟨n.val / 64, by omega⟩ 64)

theorem left_of {N : ℕ} (hN : N ≤ 2304) (a b : FVec Ideal S256x128 .f32) (u : Fin 1) (r : Fin 256) (n : Fin 128)
    (ha : ∀ d, a (ix2 r d) = ∑ j, weight (scoresAt x0 x1 hN 0 r) j * valuesAt x2 hN 0 d j)
    (hb : ∀ d, b (ix2 r d) = ∑ j, weight (scoresAt x0 x1 hN 1 r) j * valuesAt x2 hN 1 d j) :
    joined a b (ix3 u r n) = leftAt x0 x1 x2 hN r n := by
  rw [joined_apply, ha, ha, hb, hb]
  unfold leftAt blended
  have hn : n.val < 128 := n.isLt
  by_cases h : n.val / 64 = 0
  · rw [if_pos h]
    have e : (⟨n.val / 64, by omega⟩ : Fin 2) = 0 := Fin.ext h
    rw [e]
  · rw [if_neg h]
    have e : (⟨n.val / 64, by omega⟩ : Fin 2) = 1 := Fin.ext (by show n.val / 64 = 1; omega)
    rw [e]

theorem context_apply (q0 q1 k0 k1 v0 v1 : Vec Ideal S1x256x128 .bf16)
    (hq0 : ∀ r c, q0 (ix3 0 r c) = x0 (ix3 0 r (col 0 c))) (hq1 : ∀ r c, q1 (ix3 0 r c) = x0 (ix3 0 r (col 1 c)))
    (hk0 : ∀ j c, k0 (ix3 0 j c) = x1 (ix3 0 (Fin.castLE (by decide) j) (col 0 c)))
    (hk1 : ∀ j c, k1 (ix3 0 j c) = x1 (ix3 0 (Fin.castLE (by decide) j) (col 1 c)))
    (hv0 : ∀ j c, v0 (ix3 0 j c) = x2 (ix3 0 (Fin.castLE (by decide) j) (col 0 c)))
    (hv1 : ∀ j c, v1 (ix3 0 j c) = x2 (ix3 0 (Fin.castLE (by decide) j) (col 1 c))) (u : Fin 1) (r : Fin 256) (n : Fin 128) :
    k0_pay1 (k0_pay4 q1 k1 v1) (k0_pay5 q0 k0 v0) (k0_pay6 q0 k0 v0) (ix3 u r n)
      = leftAt x0 x1 x2 (N := 256) (by decide) r n := by
  rw [context_eq]
  refine left_of x0 x1 x2 (by decide) _ _ u r n (fun d => ?_) fun d => ?_
  · rw [product256_apply]
    simp only [hq0, hk0, hv0]
    rfl
  · rw [product256_apply]
    simp only [hq1, hk1, hv1]
    rfl

theorem tokens_apply (q0 q1 q2 q3 q4 q5 : Vec Ideal S1x256x128 .bf16) (k0 k1 k2 k3 k4 k5 v0 v1 v2 v3 v4 v5 : Vec Ideal S1x768x128 .bf16)
    (hq0 : ∀ r c, q0 (ix3 0 r c) = x0 (ix3 0 r (col 0 c))) (hq1 : ∀ r c, q1 (ix3 0 r c) = x0 (ix3 0 r (col 0 c)))
    (hq2 : ∀ r c, q2 (ix3 0 r c) = x0 (ix3 0 r (col 0 c))) (hq3 : ∀ r c, q3 (ix3 0 r c) = x0 (ix3 0 r (col 1 c)))
    (hq4 : ∀ r c, q4 (ix3 0 r c) = x0 (ix3 0 r (col 1 c))) (hq5 : ∀ r c, q5 (ix3 0 r c) = x0 (ix3 0 r (col 1 c)))
    (hk0 : ∀ j c, k0 (ix3 0 j c) = x1 (ix3 0 (keyOf 0 j) (col 0 c))) (hk1 : ∀ j c, k1 (ix3 0 j c) = x1 (ix3 0 (keyOf 1 j) (col 0 c)))
    (hk2 : ∀ j c, k2 (ix3 0 j c) = x1 (ix3 0 (keyOf 2 j) (col 0 c))) (hk3 : ∀ j c, k3 (ix3 0 j c) = x1 (ix3 0 (keyOf 0 j) (col 1 c)))
    (hk4 : ∀ j c, k4 (ix3 0 j c) = x1 (ix3 0 (keyOf 1 j) (col 1 c))) (hk5 : ∀ j c, k5 (ix3 0 j c) = x1 (ix3 0 (keyOf 2 j) (col 1 c)))
    (hv0 : ∀ j c, v0 (ix3 0 j c) = x2 (ix3 0 (keyOf 0 j) (col 0 c))) (hv1 : ∀ j c, v1 (ix3 0 j c) = x2 (ix3 0 (keyOf 1 j) (col 0 c)))
    (hv2 : ∀ j c, v2 (ix3 0 j c) = x2 (ix3 0 (keyOf 2 j) (col 0 c))) (hv3 : ∀ j c, v3 (ix3 0 j c) = x2 (ix3 0 (keyOf 0 j) (col 1 c)))
    (hv4 : ∀ j c, v4 (ix3 0 j c) = x2 (ix3 0 (keyOf 1 j) (col 1 c))) (hv5 : ∀ j c, v5 (ix3 0 j c) = x2 (ix3 0 (keyOf 2 j) (col 1 c)))
    (u : Fin 1) (r : Fin 256) (n : Fin 128) :
    k0_pay2 (k0_pay19 (k0_pay8 q1 k1) (k0_pay9 q2 k2) (k0_pay11 q4 k4) (k0_pay12 q5 k5)
      (k0_pay13 (k0_pay7 q0 k0) (k0_pay8 q1 k1) (k0_pay9 q2 k2)) (k0_pay14 (k0_pay10 q3 k3) (k0_pay11 q4 k4) q5 k5) k0_pay15
      (k0_pay16 (k0_pay7 q0 k0) (k0_pay8 q1 k1) (k0_pay9 q2 k2) v0) (k0_pay17 (k0_pay10 q3 k3) (k0_pay11 q4 k4) q5 k5) (k0_pay18 v3)
      (constant S256x128 .f32 0x00000000#32) v1 v4 v2 v5) (ix3 u r n)
      = leftAt x0 x1 x2 (N := 2304) (by decide) r n := by
  rw [tokens_eq]
  refine left_of x0 x1 x2 (by decide) _ _ u r n (fun d => ?_) fun d => ?_
  · refine product_apply _ _ _ _ _ _ r d _ _ ?_ ?_ ?_ (fun j => hv0 j d) (fun j => hv1 j d) (fun j => hv2 j d)
    · intro j; rw [scores_apply]; simp only [hq0, hk0]; rfl
    · intro j; rw [scores_apply]; simp only [hq1, hk1]; rfl
    · intro j; rw [scores_apply]; simp only [hq2, hk2]; rfl
  · refine product_apply _ _ _ _ _ _ r d _ _ ?_ ?_ ?_ (fun j => hv3 j d) (fun j => hv4 j d) (fun j => hv5 j d)
    · intro j; rw [scores_apply]; simp only [hq3, hk3]; rfl
    · intro j; rw [scores_apply]; simp only [hq4, hk4]; rfl
    · intro j; rw [scores_apply]; simp only [hq5, hk5]; rfl

end Cert.AttendIdeal.Attend

end
-- ==== Proof.AttendValue.lean ====
/-
  The value over the extended reals of the attention kernel's call: what a point of the grid reads of its blocks and
  leaves, and the result the points fill.
-/
module

public import proofs.«01_k».proof.Proof.Gen.AttendIdeal.Value
public import proofs.«01_k».proof.Proof.AttendBlock
public import Idealize.ShloMosaic.Lib.Pointwise
public import Idealize.ShloMosaic.Lib.Pipeline.ValueKit.Geometry

@[expose] public section

set_option maxRecDepth 16384

noncomputable section

namespace Cert.AttendIdeal.Attend

open Idealize.ShloMosaic Idealize.ShloMosaic.TcCoe Idealize.SL.Sem
open Cert.AttendIdeal.Gen Cert.Proof.Attend

/-! ## What the body reads and leaves -/

/-- The queries of one head. -/
theorem load_queries (a : Memref sig .tc .vmem S1x256x256 .bf16) (ha : a.IsWhole) (x : Vec Ideal S1x256x256 .bf16) (h : Fin 2) (o : Fin 3 → ℕ)
    (inb) (h0 : o 0 = 0) (h1 : o 1 = 0) (h2 : o 2 = 128 * h.val) (r : Fin 256) (c : Fin 128) :
    View.readAt (Elt Ideal) a.view (Rect.unit (s := S1x256x256) o S1x256x128.size inb).toLoadRect (ha.unread x) (ix3 0 r c)
      = x (ix3 0 r (col h c)) := by
  rw [View.readAt_eq_ld, Memref.IsWhole.read_unread]
  show x ((Rect.unit (s := S1x256x256) o S1x256x128.size inb).emb (ix3 0 r c)) = _
  refine congrArg x (Rect.emb_eq_of_coords _ _ _ fun a => ?_)
  match a with
  | ⟨0, _⟩ => show 0 = o 0 + 1 * 0; omega
  | ⟨1, _⟩ => show r.val = o 1 + 1 * r.val; omega
  | ⟨2, _⟩ => show 128 * h.val + c.val = o 2 + 1 * c.val; omega

/-- The first 256 keys or values of one head, -/
theorem load_context (a : Memref sig .tc .vmem S1x2304x256 .bf16) (ha : a.IsWhole) (x : Vec Ideal S1x2304x256 .bf16) (h : Fin 2) (o : Fin 3 → ℕ)
    (inb) (h0 : o 0 = 0) (h1 : o 1 = 0) (h2 : o 2 = 128 * h.val) (hN : 256 ≤ 2304) (j : Fin 256) (c : Fin 128) :
    View.readAt (Elt Ideal) a.view (Rect.unit (s := S1x2304x256) o S1x256x128.size inb).toLoadRect (ha.unread x) (ix3 0 j c)
      = x (ix3 0 (Fin.castLE hN j) (col h c)) := by
  rw [View.readAt_eq_ld, Memref.IsWhole.read_unread]
  show x ((Rect.unit (s := S1x2304x256) o S1x256x128.size inb).emb (ix3 0 j c)) = _
  refine congrArg x (Rect.emb_eq_of_coords _ _ _ fun a => ?_)
  match a with
  | ⟨0, _⟩ => show 0 = o 0 + 1 * 0; omega
  | ⟨1, _⟩ => show j.val = o 1 + 1 * j.val; omega
  | ⟨2, _⟩ => show 128 * h.val + c.val = o 2 + 1 * c.val; omega

/-- and those of a chunk of 768. -/
theorem load_chunk (a : Memref sig .tc .vmem S1x2304x256 .bf16) (ha : a.IsWhole) (x : Vec Ideal S1x2304x256 .bf16) (h : Fin 2) (q : Fin 3) (o : Fin 3 → ℕ)
    (inb) (h0 : o 0 = 0) (h1 : o 1 = 768 * q.val) (h2 : o 2 = 128 * h.val) (j : Fin 768) (c : Fin 128) :
    View.readAt (Elt Ideal) a.view (Rect.unit (s := S1x2304x256) o S1x768x128.size inb).toLoadRect (ha.unread x) (ix3 0 j c)
      = x (ix3 0 (keyOf q j) (col h c)) := by
  rw [View.readAt_eq_ld, Memref.IsWhole.read_unread]
  show x ((Rect.unit (s := S1x2304x256) o S1x768x128.size inb).emb (ix3 0 j c)) = _
  refine congrArg x (Rect.emb_eq_of_coords _ _ _ fun a => ?_)
  match a with
  | ⟨0, _⟩ => show 0 = o 0 + 1 * 0; omega
  | ⟨1, _⟩ => show 768 * q.val + j.val = o 1 + 1 * j.val; omega
  | ⟨2, _⟩ => show 128 * h.val + c.val = o 2 + 1 * c.val; omega

section
variable (c : Dev nD) (i : grid0.Coords)
  (arg3 : Memref sig .tc .vmem S1x256x256 .bf16) (harg3 : arg3.IsWhole) (arg4 : Memref sig .tc .vmem S1x2304x256 .bf16) (harg4 : arg4.IsWhole)
  (arg5 : Memref sig .tc .vmem S1x2304x256 .bf16) (harg5 : arg5.IsWhole) (arg6 : Memref sig .tc .vmem S1x256x128 .bf16) (harg6 : arg6.IsWhole)
  (x0 : Vec Ideal S1x256x256 .bf16) (x1 x2 : Vec Ideal S1x2304x256 .bf16)

/-- The whole block is written at once. -/
theorem whole (inb) (u : Fin 1) (r : Fin 256) (n : Fin 128) :
    (Rect.unit (s := S1x256x128) ![0, 0, 0] S1x256x128.size inb).emb (ix3 u r n) = ix3 u r n := by
  refine Rect.emb_eq_of_coords _ _ _ fun a => ?_
  match a with
  | ⟨0, _⟩ => show u.val = 0 + 1 * u.val; omega
  | ⟨1, _⟩ => show r.val = 0 + 1 * r.val; omega
  | ⟨2, _⟩ => show n.val = 0 + 1 * n.val; omega

theorem leaves_context (hc0 : cond0_0 i) (hc1 : ¬cond0_1 i) :
    out0_A_3 c i arg3 harg3 arg4 harg4 arg5 harg5 arg6 harg6 hc0 hc1 x0 x1 x2 = fun y => leftAt x0 x1 x2 (N := 256) (by decide) (y 1) (y 2) := by
  funext y
  unfold out0_A_3
  refine View.read_writes_apply_of_pieces VO0_3 _ (fun y => leftAt x0 x1 x2 (N := 256) (by decide) (y 1) (y 2)) _ ?_ y
    (cover0_A_3 c i arg3 harg3 arg4 harg4 arg5 harg5 arg6 harg6 hc0 hc1 x0 x1 x2 y)
  unfold kernelRun0_A
  intro p hp
  obtain rfl := List.mem_singleton.mp hp
  intro (y : S1x256x128.Idx)
  obtain ⟨u, r, n, rfl⟩ : ∃ (u : Fin 1) (r : Fin 256) (n : Fin 128), y = ix3 u r n := ⟨y 0, y 1, y 2, eq_ix3 y⟩
  refine Eq.trans (b := leftAt x0 x1 x2 (N := 256) (by decide) r n) ?_
    (congrArg (fun y : S1x256x128.Idx => leftAt x0 x1 x2 (N := 256) (by decide) (y 1) (y 2)) (whole inb_S1x256x128_S1x256x128_0_0_0 u r n)).symm
  exact context_apply x0 x1 x2 _ _ _ _ _ _
    (load_queries arg3 harg3 x0 0 _ _ rfl rfl rfl) (load_queries arg3 harg3 x0 1 _ _ rfl rfl rfl)
    (load_context arg4 harg4 x1 0 _ _ rfl rfl rfl _) (load_context arg4 harg4 x1 1 _ _ rfl rfl rfl _)
    (load_context arg5 harg5 x2 0 _ _ rfl rfl rfl _) (load_context arg5 harg5 x2 1 _ _ rfl rfl rfl _) u r n

theorem leaves_tokens (hc0 : ¬cond0_0 i) (hc1 : cond0_1 i) :
    out0_B_3 c i arg3 harg3 arg4 harg4 arg5 harg5 arg6 harg6 hc0 hc1 x0 x1 x2 = fun y => leftAt x0 x1 x2 (N := 2304) (by decide) (y 1) (y 2) := by
  funext y
  unfold out0_B_3
  refine View.read_writes_apply_of_pieces VO0_3 _ (fun y => leftAt x0 x1 x2 (N := 2304) (by decide) (y 1) (y 2)) _ ?_ y
    (cover0_B_3 c i arg3 harg3 arg4 harg4 arg5 harg5 arg6 harg6 hc0 hc1 x0 x1 x2 y)
  unfold kernelRun0_B
  intro p hp
  obtain rfl := List.mem_singleton.mp hp
  intro (y : S1x256x128.Idx)
  obtain ⟨u, r, n, rfl⟩ : ∃ (u : Fin 1) (r : Fin 256) (n : Fin 128), y = ix3 u r n := ⟨y 0, y 1, y 2, eq_ix3 y⟩
  refine Eq.trans (b := leftAt x0 x1 x2 (N := 2304) (by decide) r n) ?_
    (congrArg (fun y : S1x256x128.Idx => leftAt x0 x1 x2 (N := 2304) (by decide) (y 1) (y 2)) (whole inb_S1x256x128_S1x256x128_0_0_0 u r n)).symm
  exact tokens_apply x0 x1 x2 _ _ _ _ _ _ _ _ _ _ _ _ _ _ _ _ _ _
    (load_queries arg3 harg3 x0 0 _ _ rfl rfl rfl) (load_queries arg3 harg3 x0 0 _ _ rfl rfl rfl) (load_queries arg3 harg3 x0 0 _ _ rfl rfl rfl)
    (load_queries arg3 harg3 x0 1 _ _ rfl rfl rfl) (load_queries arg3 harg3 x0 1 _ _ rfl rfl rfl) (load_queries arg3 harg3 x0 1 _ _ rfl rfl rfl)
    (load_chunk arg4 harg4 x1 0 0 _ _ rfl rfl rfl) (load_chunk arg4 harg4 x1 0 1 _ _ rfl rfl rfl) (load_chunk arg4 harg4 x1 0 2 _ _ rfl rfl rfl)
    (load_chunk arg4 harg4 x1 1 0 _ _ rfl rfl rfl) (load_chunk arg4 harg4 x1 1 1 _ _ rfl rfl rfl) (load_chunk arg4 harg4 x1 1 2 _ _ rfl rfl rfl)
    (load_chunk arg5 harg5 x2 0 0 _ _ rfl rfl rfl) (load_chunk arg5 harg5 x2 0 1 _ _ rfl rfl rfl) (load_chunk arg5 harg5 x2 0 2 _ _ rfl rfl rfl)
    (load_chunk arg5 harg5 x2 1 0 _ _ rfl rfl rfl) (load_chunk arg5 harg5 x2 1 1 _ _ rfl rfl rfl) (load_chunk arg5 harg5 x2 1 2 _ _ rfl rfl rfl) u r n
end

/-! ## The result of the whole -/

/-- Column `c` of head `h`. -/
def wide (h : Fin 8) (c : Fin 128) : Fin 1024 := ⟨128 * h.val + c.val, by omega⟩

/-- The scores of query `s` of head `h` against the first `N` keys, -/
def scores (q k : Vec Ideal S8x2304x1024 .bf16) {N : ℕ} (hN : N ≤ 2304) (b h : Fin 8) (s : Fin 2304) : Fin N → EReal :=
  scoreOf (fun c => q (ix3 b s (wide h c))) fun j c => k (ix3 b (Fin.castLE hN j) (wide h c))

/-- and those keys' values in a column. -/
def values (v : Vec Ideal S8x2304x1024 .bf16) {N : ℕ} (hN : N ≤ 2304) (b h : Fin 8) (d : Fin 128) (j : Fin N) : EReal :=
  v (ix3 b (Fin.castLE hN j) (wide h d))

/-- A query's attention to the first `N` keys, as the kernel takes it: over the product's column 64. -/
def row (q k v : Vec Ideal S8x2304x1024 .bf16) {N : ℕ} (hN : N ≤ 2304) (b : Fin 8) (s : Fin 2304) (n : Fin 512) : EReal :=
  blended (scores q k hN b ⟨n.val / 64, by omega⟩ s) (values v hN b ⟨n.val / 64, by omega⟩ ⟨n.val % 64, by omega⟩)
    (values v hN b ⟨n.val / 64, by omega⟩ 64)

/-- The whole result: the context's queries see the context, the others all tokens. -/
def attended (q k v : Vec Ideal S8x2304x1024 .bf16) : Vec Ideal S8x2304x512 .bf16 := fun y =>
  if (y 1).val < 256 then row q k v (N := 256) (by decide) (y 0) (y 1) (y 2) else row q k v (N := 2304) (by decide) (y 0) (y 1) (y 2)

variable (m : (ℓ : Loc nD τ sig) → Buf (Elt Ideal) ℓ)

theorem index0 : ∀ t : Fin grid0.N, win0_0.index t = ![t.val / 36, t.val % 9, t.val / 9 % 4] := by decide +kernel
theorem index1 : ∀ t : Fin grid0.N, win0_1.index t = ![t.val / 36, 0, t.val / 9 % 4] := by decide +kernel
theorem index2 : ∀ t : Fin grid0.N, win0_2.index t = ![t.val / 36, 0, t.val / 9 % 4] := by decide +kernel
theorem index3 : ∀ t : Fin grid0.N, win0_3.index t = ![t.val / 36, t.val % 9, t.val / 9 % 4] := by decide +kernel

theorem t_lt (t : Fin grid0.N) : t.val < 288 := N_0 ▸ t.isLt

/-- The batch entry and the heads of a point of the grid, and the position of row `r` of its tile. -/
def entryAt (t : Fin grid0.N) : Fin 8 := ⟨t.val / 36, by have := t_lt t; omega⟩
def headAt (t : Fin grid0.N) (h : Fin 2) : Fin 8 := ⟨2 * (t.val / 9 % 4) + h.val, by omega⟩
def posAt (t : Fin grid0.N) (r : Fin 256) : Fin 2304 := ⟨256 * (t.val % 9) + r.val, by omega⟩
def placeOf (t : Fin grid0.N) (n : Fin 128) : Fin 512 := ⟨128 * (t.val / 9 % 4) + n.val, by omega⟩

theorem queries_at (c : Dev nD) (t : Fin grid0.N) (r : Fin 256) (h : Fin 2) (d : Fin 128) :
    iblk m c 0 t (ix3 0 r (col h d)) = m ((c : Thread nD τ).loc main_arg0) (ix3 (entryAt t) (posAt t r) (wide (headAt t h) d)) := by
  show m ((c : Thread nD τ).loc main_arg0) ((win0_0.rect t).emb (ix3 0 r (col h d))) = _
  refine congrArg (m ((c : Thread nD τ).loc main_arg0)) (funext fun a => Fin.ext ?_)
  refine (Pipeline.Window.rect_emb_val win0_0 t (ix3 0 r (col h d)) a).trans ?_
  rw [index0]
  match a with
  | ⟨0, _⟩ => show t.val / 36 * 1 + 0 = t.val / 36; omega
  | ⟨1, _⟩ => show t.val % 9 * 256 + r.val = 256 * (t.val % 9) + r.val; omega
  | ⟨2, _⟩ => show t.val / 9 % 4 * 256 + (128 * h.val + d.val) = 128 * (2 * (t.val / 9 % 4) + h.val) + d.val; omega

theorem keys_at (c : Dev nD) (t : Fin grid0.N) (j : Fin 2304) (h : Fin 2) (d : Fin 128) :
    iblk m c 1 t (ix3 0 j (col h d)) = m ((c : Thread nD τ).loc main_arg1) (ix3 (entryAt t) j (wide (headAt t h) d)) := by
  show m ((c : Thread nD τ).loc main_arg1) ((win0_1.rect t).emb (ix3 0 j (col h d))) = _
  refine congrArg (m ((c : Thread nD τ).loc main_arg1)) (funext fun a => Fin.ext ?_)
  refine (Pipeline.Window.rect_emb_val win0_1 t (ix3 0 j (col h d)) a).trans ?_
  rw [index1]
  match a with
  | ⟨0, _⟩ => show t.val / 36 * 1 + 0 = t.val / 36; omega
  | ⟨1, _⟩ => show 0 * 2304 + j.val = j.val; omega
  | ⟨2, _⟩ => show t.val / 9 % 4 * 256 + (128 * h.val + d.val) = 128 * (2 * (t.val / 9 % 4) + h.val) + d.val; omega

theorem values_at (c : Dev nD) (t : Fin grid0.N) (j : Fin 2304) (h : Fin 2) (d : Fin 128) :
    iblk m c 2 t (ix3 0 j (col h d)) = m ((c : Thread nD τ).loc main_arg2) (ix3 (entryAt t) j (wide (headAt t h) d)) := by
  show m ((c : Thread nD τ).loc main_arg2) ((win0_2.rect t).emb (ix3 0 j (col h d))) = _
  refine congrArg (m ((c : Thread nD τ).loc main_arg2)) (funext fun a => Fin.ext ?_)
  refine (Pipeline.Window.rect_emb_val win0_2 t (ix3 0 j (col h d)) a).trans ?_
  rw [index2]
  match a with
  | ⟨0, _⟩ => show t.val / 36 * 1 + 0 = t.val / 36; omega
  | ⟨1, _⟩ => show 0 * 2304 + j.val = j.val; omega
  | ⟨2, _⟩ => show t.val / 9 % 4 * 256 + (128 * h.val + d.val) = 128 * (2 * (t.val / 9 % 4) + h.val) + d.val; omega

theorem place_at (t : Fin grid0.N) (u : Fin 1) (r : Fin 256) (n : Fin 128) :
    ((win0_3.rect t).emb (ix3 u r n) : S8x2304x512.Idx) = ix3 (entryAt t) (posAt t r) (placeOf t n) := by
  refine funext fun a => Fin.ext ?_
  refine (Pipeline.Window.rect_emb_val win0_3 t (ix3 u r n) a).trans ?_
  rw [index3]
  have hu : u.val < 1 := u.isLt
  match a with
  | ⟨0, _⟩ => show t.val / 36 * 1 + u.val = t.val / 36; omega
  | ⟨1, _⟩ => show t.val % 9 * 256 + r.val = 256 * (t.val % 9) + r.val; omega
  | ⟨2, _⟩ => show t.val / 9 % 4 * 128 + n.val = 128 * (t.val / 9 % 4) + n.val; omega

/-- The result as the launch's arrays give it. -/
abbrev resultOf (c : Dev nD) : Vec Ideal S8x2304x512 .bf16 :=
  attended (m ((c : Thread nD τ).loc main_arg0)) (m ((c : Thread nD τ).loc main_arg1)) (m ((c : Thread nD τ).loc main_arg2))

theorem left_at (c : Dev nD) (t : Fin grid0.N) {N : ℕ} (hN : N ≤ 2304) (r : Fin 256) (n : Fin 128) :
    leftAt (iblk m c 0 t) (iblk m c 1 t) (iblk m c 2 t) hN r n
      = row (m ((c : Thread nD τ).loc main_arg0)) (m ((c : Thread nD τ).loc main_arg1)) (m ((c : Thread nD τ).loc main_arg2)) hN
          (entryAt t) (posAt t r) (placeOf t n) := by
  have hn : n.val < 128 := n.isLt
  have eh : (⟨(placeOf t n).val / 64, by omega⟩ : Fin 8) = headAt t ⟨n.val / 64, by omega⟩ :=
    Fin.ext (by show (128 * (t.val / 9 % 4) + n.val) / 64 = 2 * (t.val / 9 % 4) + n.val / 64; omega)
  have ed : (⟨(placeOf t n).val % 64, by omega⟩ : Fin 128) = ⟨n.val % 64, by omega⟩ :=
    Fin.ext (by show (128 * (t.val / 9 % 4) + n.val) % 64 = n.val % 64; omega)
  unfold leftAt row
  rw [eh, ed]
  unfold scoresAt valuesAt scores values
  simp only [queries_at, keys_at, values_at]

/-- What a point leaves, at row `r` and column `n` of its tile. -/
theorem after_apply (c : Dev nD) (t : Fin grid0.N) (u : Fin 1) (r : Fin 256) (n : Fin 128) :
    (dats m 0 c).after 3 t (ix3 u r n) = resultOf m c (ix3 (entryAt t) (posAt t r) (placeOf t n)) := by
  rw [after0_3]
  by_cases h : t.val % 9 = 0
  · rw [outsAt0_A m c t h (by omega)]
    refine (congrFun (leaves_context c _ _ _ _ _ _ _ _ _ _ _ _ _ _) (ix3 u r n)).trans ((left_at m c t _ r n).trans ?_)
    exact (if_pos (show (posAt t r).val < 256 by show 256 * (t.val % 9) + r.val < 256; omega)).symm
  · rw [outsAt0_B m c t h (by omega)]
    refine (congrFun (leaves_tokens c _ _ _ _ _ _ _ _ _ _ _ _ _ _) (ix3 u r n)).trans ((left_at m c t _ r n).trans ?_)
    exact (if_neg (show ¬ (posAt t r).val < 256 by show ¬ 256 * (t.val % 9) + r.val < 256; omega)).symm

/-- A view's set holds what it places. -/
theorem held {sp : Space} {s : Shape} {e : EltTy} (v : View sig .tc sp s e) (y : s.Idx) (i : v.ty.Idx) (h : v.emb y = i) : i ∈ v.set :=
  h ▸ View.emb_mem_set v y

/-- The point of the grid that holds position `s` of batch entry `b` and column `n`. -/
def point (b : Fin 8) (s : Fin 2304) (n : Fin 512) : Fin grid0.N := ⟨b.val * 36 + n.val / 128 * 9 + s.val / 256, by rw [N_0]; omega⟩

/-- The call's result is the attention. -/
theorem result_eq (c : Dev nD) : (dats m 0 c).arrAt 3 cfg0.N = resultOf m c := by
  refine (dats m 0 c).arrAt_eq_of_emb 3 (resultOf m c) (fun t _ (y : S1x256x128.Idx) => ?_) (fun (i : S8x2304x512.Idx) => ?_)
  · obtain ⟨u, r, n, rfl⟩ : ∃ (u : Fin 1) (r : Fin 256) (n : Fin 128), y = ix3 u r n := ⟨y 0, y 1, y 2, eq_ix3 y⟩
    exact (after_apply m c t u r n).trans (congrArg (resultOf m c) (place_at t u r n).symm)
  · obtain ⟨b, s, n, rfl⟩ : ∃ (b : Fin 8) (s : Fin 2304) (n : Fin 512), i = ix3 b s n := ⟨i 0, i 1, i 2, eq_ix3 i⟩
    refine ⟨point b s n, flush0_3 _, ?_⟩
    refine held ((cfg0.win 3).blk (point b s n)).view (ix3 (0 : Fin 1) (⟨s.val % 256, by omega⟩ : Fin 256) (⟨n.val % 128, by omega⟩ : Fin 128)) _ ?_
    refine (place_at (point b s n) 0 ⟨s.val % 256, by omega⟩ ⟨n.val % 128, by omega⟩).trans ?_
    have hb : b.val < 8 := b.isLt
    have hs : s.val < 2304 := s.isLt
    have hn : n.val < 512 := n.isLt
    have e0 : entryAt (point b s n) = b := Fin.ext (by show (b.val * 36 + n.val / 128 * 9 + s.val / 256) / 36 = b.val; omega)
    have e1 : posAt (point b s n) ⟨s.val % 256, by omega⟩ = s :=
      Fin.ext (by show 256 * ((b.val * 36 + n.val / 128 * 9 + s.val / 256) % 9) + s.val % 256 = s.val; omega)
    have e2 : placeOf (point b s n) ⟨n.val % 128, by omega⟩ = n :=
      Fin.ext (by show 128 * ((b.val * 36 + n.val / 128 * 9 + s.val / 256) / 9 % 4) + n.val % 128 = n.val; omega)
    rw [e0, e1, e2]

end Cert.AttendIdeal.Attend

end
-- ==== Proof.AttendPre.lean ====
/-
  What the attention's precondition says: column 64 of every head's value is one.
-/
module

public import proofs.«01_k».proof.Pre_ones_beside_values
public import proofs.«01_k».proof.Proof.AttendValue
public import Idealize.ShloMosaic.Lib.Pointwise
public import Idealize.ShloMosaic.Lib.ReduceAll

@[expose] public section

set_option maxRecDepth 16384

noncomputable section

namespace Cert.Proof.Attend

open Idealize.ShloMosaic

instance ones_facts : Cert.Pre_ones_beside_values.Facts where
  shapeCasts_S8x2304x1024_S8x2304x8x128 := by decide
  slices_S8x2304x8x128_S8x2304x8x1_0_0_0_64 := by decide
  shapeCasts_S8x2304x8x1_S8x2304x8 := by decide
  bitsLt_bf16_f32 := by decide
  bcast_S_S8x2304x8 := by decide
  reducesTo_S8x2304x8_S_d0_1_2 := by decide
  h_S_ := by decide

instance : Subsingleton Cert.Pre_ones_beside_values.S_.Idx := ⟨fun a b => funext fun i => i.elim0⟩

/-- A token's columns by head. -/
theorem byHead_apply {α : Type} (v : Cert.Pre_ones_beside_values.S8x2304x1024.Idx → α) (hc) (b : Fin 8) (s : Fin 2304) (h : Fin 8) (d : Fin 128) :
    shapeCast Cert.Pre_ones_beside_values.S8x2304x8x128 v hc (ix4 b s h d) = v (ix3 b s (Cert.AttendIdeal.Attend.wide h d)) :=
  shapeCast_apply v _ _ _ (by
    rw [ix3_eq_valueIdx, ix4_eq_valueIdx, Shape.rowMajor_val_three, Shape.rowMajor_val_four]
    show (b.val * 2304 + s.val) * 1024 + (128 * h.val + d.val) = ((b.val * 2304 + s.val) * 8 + h.val) * 128 + d.val
    omega)

/-- Column 64 of every head's value is one. -/
theorem ones_of_pre (q k v : FVec Ideal Cert.Pre_ones_beside_values.S8x2304x1024 .bf16)
    (h : Cert.Pre_ones_beside_values.fn q k v = fun _ => 1#1) (b : Fin 8) (s : Fin 2304) (a : Fin 8) :
    v (ix3 b s (Cert.AttendIdeal.Attend.wide a 64)) = (1 : EReal) := by
  have e := Host.reduce_andi_all _ _ _ _ _ (congrFun h (fun i => i.elim0)) (ix3 b s a)
  rw [← byHead_apply v Cert.Pre_ones_beside_values.Facts.shapeCasts_S8x2304x1024_S8x2304x8x128]
  generalize shapeCast _ v _ = V at e ⊢
  revert e
  pointwise
  intro e
  by_contra hne
  rw [decide_eq_false hne] at e
  exact absurd e (by decide)

end Cert.Proof.Attend

end
-- ==== Proof.AttendReference.lean ====
/-
  The reference's attention over the extended reals, read at a token and a column: its stages are named, and each is read
  at an entry.
-/
module

public import proofs.«01_k».proof.Proof.Gen.AttendReferenceIdeal.Run
public import proofs.«01_k».proof.Proof.AttendPre
public import Idealize.ShloMosaic.Lib.Pointwise

@[expose] public section

set_option maxRecDepth 16384

noncomputable section

namespace Cert.Proof.Attend

open Idealize.ShloMosaic

open Cert.AttendReferenceIdeal Cert.AttendReferenceIdeal.Gen Cert.AttendReferenceIdeal.Value

/-! ## The stages -/

/-- The context's scores, weights and attention. -/
def scores0 (q k : FVec Ideal S8x2304x8x128 .f32) : FVec Ideal S8x8x256x256 .f32 :=
  Host.dotGeneral dot_S8x256x8x128_S8x256x8x128_S8x8x256x256_3_3_1_1_02_02 none
    (extractStridedSlice S8x256x8x128 ![0, 0, 0, 0] q slices_S8x2304x8x128_S8x256x8x128_0_0_0_0)
    (extractStridedSlice S8x256x8x128 ![0, 0, 0, 0] k slices_S8x2304x8x128_S8x256x8x128_0_0_0_0)

def weights0 (s : FVec Ideal S8x8x256x256 .f32) : FVec Ideal S8x8x256x256 .f32 :=
  Host.powf (broadcastInDim S8x8x256x256 ![] bcast_S_S8x8x256x256 (constant S_ .f32 0x40000000#32))
    (subf s (broadcastInDim S8x8x256x256 ![0, 1, 2, 3] bcast_S8x8x256x1_S8x8x256x256_0_1_2_3
      (broadcastInDim S8x8x256x1 ![0, 1, 2] bcast_S8x8x256_S8x8x256x1_0_1_2
        (Host.reduce FloatOps.maximumf s (constant S_ .f32 0xFF800000#32) reducesTo_S8x8x256x256_S8x8x256_d3 h_S_))))

def attention0 (e : FVec Ideal S8x8x256x256 .f32) (v : FVec Ideal S8x2304x8x64 .f32) : FVec Ideal S8x8x256x64 .f32 :=
  Host.divf (Host.dotGeneral dot_S8x8x256x256_S8x256x8x64_S8x8x256x64_3_1_2_3_01_02 none e
      (extractStridedSlice S8x256x8x64 ![0, 0, 0, 0] v slices_S8x2304x8x64_S8x256x8x64_0_0_0_0))
    (broadcastInDim S8x8x256x64 ![0, 1, 2, 3] bcast_S8x8x256x1_S8x8x256x64_0_1_2_3 (broadcastInDim S8x8x256x1 ![0, 1, 2] bcast_S8x8x256_S8x8x256x1_0_1_2
      (Host.reduceAdd e (constant S_ .f32 0x00000000#32) reducesTo_S8x8x256x256_S8x8x256_d3 h_S_)))

/-- The other tokens'. -/
def scores1 (q k : FVec Ideal S8x2304x8x128 .f32) : FVec Ideal S8x8x2048x2304 .f32 :=
  Host.dotGeneral dot_S8x2048x8x128_S8x2304x8x128_S8x8x2048x2304_3_3_1_1_02_02 none
    (extractStridedSlice S8x2048x8x128 ![0, 256, 0, 0] q slices_S8x2304x8x128_S8x2048x8x128_0_256_0_0) k

def weights1 (s : FVec Ideal S8x8x2048x2304 .f32) : FVec Ideal S8x8x2048x2304 .f32 :=
  Host.powf (broadcastInDim S8x8x2048x2304 ![] bcast_S_S8x8x2048x2304 (constant S_ .f32 0x40000000#32))
    (subf s (broadcastInDim S8x8x2048x2304 ![0, 1, 2, 3] bcast_S8x8x2048x1_S8x8x2048x2304_0_1_2_3
      (broadcastInDim S8x8x2048x1 ![0, 1, 2] bcast_S8x8x2048_S8x8x2048x1_0_1_2
        (Host.reduce FloatOps.maximumf s (constant S_ .f32 0xFF800000#32) reducesTo_S8x8x2048x2304_S8x8x2048_d3 h_S_))))

def attention1 (e : FVec Ideal S8x8x2048x2304 .f32) (v : FVec Ideal S8x2304x8x64 .f32) : FVec Ideal S8x8x2048x64 .f32 :=
  Host.divf (Host.dotGeneral dot_S8x8x2048x2304_S8x2304x8x64_S8x8x2048x64_3_1_2_3_01_02 none e v)
    (broadcastInDim S8x8x2048x64 ![0, 1, 2, 3] bcast_S8x8x2048x1_S8x8x2048x64_0_1_2_3 (broadcastInDim S8x8x2048x1 ![0, 1, 2] bcast_S8x8x2048_S8x8x2048x1_0_1_2
      (Host.reduceAdd e (constant S_ .f32 0x00000000#32) reducesTo_S8x8x2048x2304_S8x8x2048_d3 h_S_)))

/-- A head's columns, and the first 64 of them. -/
def headsOf (a : FVec Ideal S8x2304x1024 .bf16) : FVec Ideal S8x2304x8x128 .f32 :=
  shapeCast S8x2304x8x128 (extf .f32 a bitsLt_bf16_f32 : FVec Ideal S8x2304x1024 .f32) shapeCasts_S8x2304x1024_S8x2304x8x128

def valuesOf (a : FVec Ideal S8x2304x8x128 .f32) : FVec Ideal S8x2304x8x64 .f32 :=
  extractStridedSlice S8x2304x8x64 ![0, 0, 0, 0] a slices_S8x2304x8x128_S8x2304x8x64_0_0_0_0

/-- Both in one row of tokens, the heads side by side. -/
def gatheredOf (a : FVec Ideal S8x8x256x64 .f32) (b : FVec Ideal S8x8x2048x64 .f32) : FVec Ideal S8x2304x512 .bf16 :=
  truncf .bf16 (shapeCast S8x2304x512 (transpose S8x2304x8x64 [0, 2, 1, 3]
    (concatenate S8x8x2304x64 2 [⟨S8x8x256x64, a⟩, ⟨S8x8x2048x64, b⟩] concatenates_S8x8x256x64_S8x8x2048x64_S8x8x2304x64_d2)
    transposes_S8x8x2304x64_S8x2304x8x64_0_2_1_3) shapeCasts_S8x2304x8x64_S8x2304x512 : FVec Ideal S8x2304x512 .f32) bitsLt_bf16_f32

theorem res_eq (m : (ℓ : Loc nD τ sig) → Buf (Elt Ideal) ℓ) (c : Dev nD) :
    res_main_v38 m c = gatheredOf
      (attention0 (weights0 (scores0 (headsOf (m ((c.tc : Thread nD τ).loc main_arg0))) (headsOf (m ((c.tc : Thread nD τ).loc main_arg1)))))
        (valuesOf (headsOf (m ((c.tc : Thread nD τ).loc main_arg2)))))
      (attention1 (weights1 (scores1 (headsOf (m ((c.tc : Thread nD τ).loc main_arg0))) (headsOf (m ((c.tc : Thread nD τ).loc main_arg1)))))
        (valuesOf (headsOf (m ((c.tc : Thread nD τ).loc main_arg2))))) := by
  unfold res_main_v38
  rfl

/-! ## Each read at an entry -/

theorem headsOf_apply (a : FVec Ideal S8x2304x1024 .bf16) (b : Fin 8) (s : Fin 2304) (h : Fin 8) (d : Fin 128) :
    headsOf a (ix4 b s h d) = a (ix3 b s (Cert.AttendIdeal.Attend.wide h d)) :=
  byHead_apply _ _ b s h d

theorem valuesOf_apply (a : FVec Ideal S8x2304x8x128 .f32) (b : Fin 8) (s : Fin 2304) (h : Fin 8) (d : Fin 64) :
    valuesOf a (ix4 b s h d) = a (ix4 b s h (⟨d.val, by omega⟩ : Fin 128)) := by
  unfold valuesOf
  pointwise

theorem scores0_apply (q k : FVec Ideal S8x2304x8x128 .f32) (b h : Fin 8) (s j : Fin 256) :
    scores0 q k (ix4 b h s j) = ∑ c : Fin 128, q (ix4 b (⟨s.val, by omega⟩ : Fin 2304) h c) * k (ix4 b (⟨j.val, by omega⟩ : Fin 2304) h c) := by
  unfold scores0
  pointwise

theorem scores1_apply (q k : FVec Ideal S8x2304x8x128 .f32) (b h : Fin 8) (s : Fin 2048) (j : Fin 2304) :
    scores1 q k (ix4 b h s j) = ∑ c : Fin 128, q (ix4 b (⟨256 + s.val, by omega⟩ : Fin 2304) h c) * k (ix4 b j h c) := by
  unfold scores1
  pointwise

theorem weights0_apply (S : FVec Ideal S8x8x256x256 .f32) (b h : Fin 8) (s j : Fin 256) :
    weights0 S (ix4 b h s j) = weight (fun j => S (ix4 b h s j)) j := by
  unfold weights0
  pointwise
  exact pow_two_eq _

theorem weights1_apply (S : FVec Ideal S8x8x2048x2304 .f32) (b h : Fin 8) (s : Fin 2048) (j : Fin 2304) :
    weights1 S (ix4 b h s j) = weight (fun j => S (ix4 b h s j)) j := by
  unfold weights1
  pointwise
  exact pow_two_eq _

theorem attention0_apply (e : FVec Ideal S8x8x256x256 .f32) (v : FVec Ideal S8x2304x8x64 .f32) (b h : Fin 8) (s : Fin 256) (d : Fin 64) :
    attention0 e v (ix4 b h s d)
      = Ideal.div (∑ j : Fin 256, e (ix4 b h s j) * v (ix4 b (⟨j.val, by omega⟩ : Fin 2304) h d)) (∑ j : Fin 256, e (ix4 b h s j)) := by
  unfold attention0
  pointwise

theorem attention1_apply (e : FVec Ideal S8x8x2048x2304 .f32) (v : FVec Ideal S8x2304x8x64 .f32) (b h : Fin 8) (s : Fin 2048) (d : Fin 64) :
    attention1 e v (ix4 b h s d)
      = Ideal.div (∑ j : Fin 2304, e (ix4 b h s j) * v (ix4 b j h d)) (∑ j : Fin 2304, e (ix4 b h s j)) := by
  unfold attention1
  pointwise

theorem gatheredOf_apply (x : FVec Ideal S8x8x256x64 .f32) (y : FVec Ideal S8x8x2048x64 .f32) (b : Fin 8) (s : Fin 2304) (n : Fin 512) :
    gatheredOf x y (ix3 b s n) = if h : s.val < 256
      then x (ix4 b (⟨n.val / 64, by omega⟩ : Fin 8) (⟨s.val, h⟩ : Fin 256) (⟨n.val % 64, by omega⟩ : Fin 64))
      else y (ix4 b (⟨n.val / 64, by omega⟩ : Fin 8) (⟨s.val - 256, by omega⟩ : Fin 2048) (⟨n.val % 64, by omega⟩ : Fin 64)) := by
  unfold gatheredOf
  pointwise

open Cert.AttendIdeal.Attend in
/-- With ones in column 64 of the values, the reference's result is the kernel's. -/
theorem attended_apply (q k v : FVec Ideal S8x2304x1024 .bf16) (hv : ∀ b s a, v (ix3 b s (wide a 64)) = (1 : EReal)) (b : Fin 8) (s : Fin 2304) (n : Fin 512) :
    gatheredOf (attention0 (weights0 (scores0 (headsOf q) (headsOf k))) (valuesOf (headsOf v)))
      (attention1 (weights1 (scores1 (headsOf q) (headsOf k))) (valuesOf (headsOf v))) (ix3 b s n) = attended q k v (ix3 b s n) := by
  have hw0 : ∀ (b h : Fin 8) (s j : Fin 256), weights0 (scores0 (headsOf q) (headsOf k)) (ix4 b h s j)
      = weight (scores q k (N := 256) (by decide) b h ⟨s.val, by omega⟩) j := fun b h s j => by
    rw [weights0_apply]
    refine congrArg (fun f => weight f j) (funext fun j => ?_)
    rw [scores0_apply]
    simp only [headsOf_apply]
    rfl
  have hw1 : ∀ (b h : Fin 8) (s : Fin 2048) (j : Fin 2304), weights1 (scores1 (headsOf q) (headsOf k)) (ix4 b h s j)
      = weight (scores q k (N := 2304) (by decide) b h ⟨256 + s.val, by omega⟩) j := fun b h s j => by
    rw [weights1_apply]
    refine congrArg (fun f => weight f j) (funext fun j => ?_)
    rw [scores1_apply]
    simp only [headsOf_apply]
    rfl
  have hV : ∀ (b : Fin 8) (s : Fin 2304) (h : Fin 8) (d : Fin 64), valuesOf (headsOf v) (ix4 b s h d) = v (ix3 b s (wide h ⟨d.val, by omega⟩)) :=
    fun b s h d => by rw [valuesOf_apply, headsOf_apply]
  have ones : ∀ {N : ℕ} (hN : N ≤ 2304) (b h : Fin 8) (j : Fin N), values v hN b h 64 j = 1 := fun hN b h j => hv _ _ _
  generalize weights0 _ = W0 at hw0 ⊢
  generalize weights1 _ = W1 at hw1 ⊢
  generalize valuesOf _ = V at hV ⊢
  rw [gatheredOf_apply]
  show _ = if s.val < 256 then row q k v (N := 256) (by decide) b s n else row q k v (N := 2304) (by decide) b s n
  have hs : s.val < 2304 := s.isLt
  by_cases h : s.val < 256
  · rw [dif_pos h, if_pos h, attention0_apply]
    unfold row
    rw [blended_ones _ _ _ (ones _ _ _)]
    unfold attendAt
    simp only [hw0, hV]
    rfl
  · rw [dif_neg h, if_neg h, attention1_apply]
    unfold row
    rw [blended_ones _ _ _ (ones _ _ _)]
    unfold attendAt
    simp only [hw1, hV]
    have e : (⟨256 + (s.val - 256), by omega⟩ : Fin 2304) = s := Fin.ext (by show 256 + (s.val - 256) = s.val; omega)
    rw [e]
    rfl

end Cert.Proof.Attend

end
-- ==== Proof.AttendClaims.lean ====
/-
  The attention: the frames of its programs, and that its reference computes the same averages where the values carry
  their ones.
-/
module

public import proofs.«01_k».proof.Defs
public import proofs.«01_k».proof.Proof.AttendValue
public import proofs.«01_k».proof.Proof.AttendPre
public import proofs.«01_k».proof.Proof.AttendReference
public import proofs.«01_k».proof.Proof.Gen.AttendReferenceIdeal.Run
public import Idealize.ShloMosaic.Lib.Claim
public import Idealize.ShloMosaic.Lib.Quiescent

@[expose] public section

set_option maxRecDepth 16384

noncomputable section

namespace Cert.Proof.Attend

open Idealize.ShloMosaic Idealize.ShloMosaic.TcCoe Idealize.SL.Sem

/-- What the program states of its shapes and windows: the same as its ideal reading. -/
instance attend_facts₀ : Cert.Attend.Facts₀ := { Cert.AttendIdeal.Gen.facts₀ with }

instance attend_facts : Cert.Attend.Facts := { attend_facts₀ with }

/-- The same body, and so the same definitions, at bits. -/
theorem body_table_eq : Cert.Attend.defs₀ (F := Bits) = Cert.AttendIdeal.defs₀ := by
  unfold Cert.Attend.defs₀ Cert.AttendIdeal.defs₀
  refine congrArg Defs.onTc (funext fun ℓ => funext fun a => ?_)
  match ℓ, a with
  | 0, (t, s) => rfl

theorem defs_eq : Cert.Attend.defs (F := Bits) = Cert.AttendIdeal.defs := by
  unfold Cert.Attend.defs
  rw [body_table_eq]
  rfl

theorem frame_ideal : Cert.quiescent_AttendIdeal := fun m ρ _ => Cert.AttendIdeal.Gen.frame (F := Ideal) m ρ

theorem frame_ideal_ones : Cert.quiescent_AttendIdeal_pre_ones_beside_values := fun m ρ _ => frame_ideal m ρ trivial

theorem frame_bits : Cert.quiescent_Attend := fun m ρ _ => by
  rw [defs_eq]
  exact Cert.AttendIdeal.Gen.frame (F := Bits) m ρ

theorem frame_reference : Cert.quiescent_AttendReferenceIdeal := fun m ρ _ =>
  (θ_run Cert.AttendReferenceIdeal.defs _ _).mono
    (fun r h => ⟨fun c => (h c).2, sem_eq_zero_of_no_sems (by decide) r.2⟩) (Cert.AttendReferenceIdeal.Value.run (F := Ideal) m ρ)

theorem frame_reference_ones : Cert.quiescent_AttendReferenceIdeal_pre_ones_beside_values := fun m ρ _ => frame_reference m ρ trivial

/-- The reference's result is the attention of its arguments. -/
theorem reference_eq (m : (ℓ : Loc Cert.AttendReferenceIdeal.nD Cert.AttendReferenceIdeal.τ Cert.AttendReferenceIdeal.sig) → Buf (Elt Ideal) ℓ)
    (c : Dev Cert.AttendReferenceIdeal.nD) (q k v : FVec Ideal Cert.AttendIdeal.S8x2304x1024 .bf16)
    (hq : m ((c.tc : Thread Cert.AttendReferenceIdeal.nD Cert.AttendReferenceIdeal.τ).loc Cert.AttendReferenceIdeal.main_arg0) = q)
    (hk : m ((c.tc : Thread Cert.AttendReferenceIdeal.nD Cert.AttendReferenceIdeal.τ).loc Cert.AttendReferenceIdeal.main_arg1) = k)
    (hv : m ((c.tc : Thread Cert.AttendReferenceIdeal.nD Cert.AttendReferenceIdeal.τ).loc Cert.AttendReferenceIdeal.main_arg2) = v)
    (h1 : ∀ b s a, v (ix3 b s (Cert.AttendIdeal.Attend.wide a 64)) = (1 : EReal)) :
    Cert.AttendReferenceIdeal.Value.res_main_v38 m c = Cert.AttendIdeal.Attend.attended q k v := by
  funext (y : Cert.AttendReferenceIdeal.S8x2304x512.Idx)
  obtain ⟨b, s, n, rfl⟩ : ∃ (b : Fin 8) (s : Fin 2304) (n : Fin 512), y = ix3 b s n := ⟨y 0, y 1, y 2, eq_ix3 y⟩
  rw [res_eq, hq, hk, hv]
  exact attended_apply q k v h1 b s n

/-- Over the extended reals kernel and reference compute the same averages. -/
theorem algebraic : Cert.algebraic_AttendIdeal_AttendReferenceIdeal_pre_ones_beside_values := by
  intro m g m' g' hp hargs
  refine ⟨fun c => Cert.AttendIdeal.Attend.resultOf m c, ?_, ?_⟩
  · exact (θ_run Cert.AttendIdeal.defs _ _).mono (fun _ h c => ⟨(h c).1.trans (Cert.AttendIdeal.Attend.result_eq m c), (h c).2⟩)
      (Cert.AttendIdeal.Value.run_blocks (F := Ideal) m g)
  · refine (θ_run Cert.AttendReferenceIdeal.defs _ _).mono (fun _ h c => ⟨(h c).1.trans ?_, (h c).2⟩)
      (Cert.AttendReferenceIdeal.Value.run (F := Ideal) m' g')
    exact reference_eq m' c _ _ _ (hargs c).1 (hargs c).2.1 (hargs c).2.2 (ones_of_pre _ _ _ (hp c))

end Cert.Proof.Attend

end
-- ==== Proof.lean ====
/-
  The certificate of the row gather, of the experts, of the two input projections, of the combination and of the
  attention. The runs of the gather and of the experts (Proof/Launch.lean, Proof/ExpertsRun.lean) are proved once, for
  any float values, of the program as it is read at the ideal instance; the original program at bits is the same
  program, and takes its frame, and the gather its values, from the same run.
-/
module

public import proofs.«01_k».proof.Proof.Gen.MainIdeal.Value
public import proofs.«01_k».proof.Proof.Gen.MainReferenceIdeal.Run
public import proofs.«01_k».proof.Proof.Gen.SideIdeal.Value
public import proofs.«01_k».proof.Proof.Gen.SideReferenceIdeal.Run
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import proofs.«01_k».proof.Proof.ExpertsClaims
public import proofs.«01_k».proof.Proof.MainClaims
public import proofs.«01_k».proof.Proof.SideClaims
public import proofs.«01_k».proof.Proof.CombineClaims
public import proofs.«01_k».proof.Proof.AttendClaims
public import Idealize.ShloMosaic.Adequacy
public import Idealize.ShloMosaic.Init

@[expose] public section

noncomputable section

namespace Cert.Proof

open Idealize.ShloMosaic Idealize.SL.Sem

/-- What the reference's program states of its shapes. -/
instance reference_facts : Cert.Reference.Facts where
  bcast_S294912_S294912x1_0 := Cert.ReferenceIdeal.Gen.bcast_S294912_S294912x1_0
  gather_S359424x256_S294912x1_S294912x256_1_0_n_n_0_1_1256_wf :=
    Cert.ReferenceIdeal.Gen.gather_S359424x256_S294912x1_S294912x256_1_0_n_n_0_1_1256_wf

/-- The kernel's program at the ideal instance leaves its arguments and every counter as they were. -/
theorem frame_kernelIdeal : Cert.quiescent_KernelIdeal := fun m ρ hp =>
  (θ_run Cert.KernelIdeal.defs _ _).mono
    (fun _ h => ⟨fun c => ⟨(h.1 c).2.1.trans (Gather.tab0_end m c), (h.1 c).2.2.trans (Gather.idx0_end m c)⟩, h.2⟩)
    (Gather.run_main (F := Ideal) m ρ fun d => Gather.named_of m d (Gather.rows_of_pre _ _ (hp d)))

/-- And so does the original program: it is the same one, at bits. -/
theorem frame_kernel : Cert.quiescent_Kernel := fun m ρ hp =>
  (θ_run Cert.KernelIdeal.defs _ _).mono
    (fun _ h => ⟨fun c => ⟨(h.1 c).2.1.trans (Gather.tab0_end (F := Bits) m c), (h.1 c).2.2.trans (Gather.idx0_end (F := Bits) m c)⟩, h.2⟩)
    (Gather.run_main (F := Bits) m ρ fun d => Gather.named_of (F := Bits) m d (Gather.rows_of_pre _ _ (hp d)))

/-- The reference leaves its arguments as they were; it has no counter. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

theorem frame_reference : Cert.quiescent_Reference := fun m ρ _ =>
  (θ_run Cert.ReferenceIdeal.defs _ _).mono
    (fun r h => ⟨fun c => (h c).2, sem_eq_zero_of_no_sems (by decide) r.2⟩) (Cert.ReferenceIdeal.Value.run (F := Bits) m ρ)

/-- At the ideal instance the kernel's result is the reference's. -/
theorem algebraic : Cert.algebraic_KernelIdeal_ReferenceIdeal := by
  intro m g m' g' hp hargs
  have hr := fun d => Gather.rows_of_pre _ _ (hp d)
  refine ⟨fun c => Gather.atEnd m c Gather.bRes, ?_, ?_⟩
  · exact (θ_run Cert.KernelIdeal.defs _ _).mono
      (fun _ h c => ⟨(h.1 c).1, (h.1 c).2.1.trans (Gather.tab0_end m c), (h.1 c).2.2.trans (Gather.idx0_end m c)⟩)
      (Gather.run_main (F := Ideal) m g fun d => Gather.named_of m d (hr d))
  · refine (θ_run Cert.ReferenceIdeal.defs _ _).mono (fun _ h c => ⟨(h c).1.trans ?_, (h c).2⟩)
      (Cert.ReferenceIdeal.Value.run (F := Ideal) m' g')
    rw [(hargs c).1, (hargs c).2]
    exact (Gather.values_eq m c (hr c)).symm

/-- And at bits. -/
theorem bitexact : Cert.bitexact_Kernel_Reference := by
  intro m g m' g' hp hargs
  have hr := fun d => Gather.rows_of_pre _ _ (hp d)
  refine ⟨fun c => Gather.atEnd (F := Bits) m c Gather.bRes, ?_, ?_⟩
  · exact (θ_run Cert.KernelIdeal.defs _ _).mono
      (fun _ h c => ⟨(h.1 c).1, (h.1 c).2.1.trans (Gather.tab0_end (F := Bits) m c), (h.1 c).2.2.trans (Gather.idx0_end (F := Bits) m c)⟩)
      (Gather.run_main (F := Bits) m g fun d => Gather.named_of (F := Bits) m d (hr d))
  · refine (θ_run Cert.ReferenceIdeal.defs _ _).mono (fun _ h c => ⟨(h c).1.trans ?_, (h c).2⟩)
      (Cert.ReferenceIdeal.Value.run (F := Bits) m' g')
    refine Eq.trans ?_ (Gather.values_eq (F := Bits) m c (hr c)).symm
    exact congr (congrArg _ (hargs c).1) (congrArg _ (hargs c).2)

theorem claim : Cert.Claim :=
  ⟨Cert.Kernel.Gen.facts, Cert.KernelIdeal.Gen.facts, Cert.ReferenceIdeal.Gen.facts, reference_facts, Moe.experts_facts,
    Cert.ExpertsIdeal.Gen.facts, Cert.ExpertsReferenceIdeal.Gen.facts, Main.proj_facts, Cert.MainIdeal.Gen.facts,
    Cert.MainReferenceIdeal.Gen.facts, Side.proj_facts, Cert.SideIdeal.Gen.facts, Cert.SideReferenceIdeal.Gen.facts,
    Combine.combine_facts, Cert.CombineIdeal.Gen.facts, Cert.CombineReferenceIdeal.Gen.facts,
    Attend.attend_facts, Cert.AttendIdeal.Gen.facts, Cert.AttendReferenceIdeal.Gen.facts,
    Gather.pre_facts, Moe.counts_facts, Attend.ones_facts,
    frame_kernel, frame_kernelIdeal, frame_referenceIdeal, frame_reference, Moe.frame_experts, Moe.frame_expertsIdeal,
    Moe.frame_expertsIdeal_fit, Moe.frame_expertsReference, Moe.frame_expertsReference_fit, Main.frame_bits, Main.frame_ideal, Main.frame_reference, Side.frame_bits, Side.frame_ideal,
    Side.frame_reference, Combine.frame_bits, Combine.frame_ideal, Combine.frame_reference, Attend.frame_bits, Attend.frame_ideal,
    Attend.frame_ideal_ones, Attend.frame_reference, Attend.frame_reference_ones, trivial, algebraic, bitexact, trivial, Moe.algebraic_experts, trivial, Main.algebraic, trivial,
    Side.algebraic, trivial, Combine.algebraic, trivial, Attend.algebraic⟩

end Cert.Proof

end
